-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_MlstmIdeal (m : (ℓ : Loc Cert.MlstmIdeal.nD Cert.MlstmIdeal.τ Cert.MlstmIdeal.sig) → Buf (Elt Ideal) ℓ) : Prop :=
  True

def Pre_MlstmIdeal_finite_ml [hPre_finite_ml : Cert.Pre_finite_ml.Facts] (m : (ℓ : Loc Cert.MlstmIdeal.nD Cert.MlstmIdeal.τ Cert.MlstmIdeal.sig) → Buf (Elt Ideal) ℓ) : Prop :=
  ∀ c : Dev Cert.MlstmIdeal.nD,
    (Cert.Pre_finite_ml.fn (F := Ideal) (m ((c.tc : Thread Cert.MlstmIdeal.nD Cert.MlstmIdeal.τ).loc Cert.MlstmIdeal.main_arg0)) (m ((c.tc : Thread Cert.MlstmIdeal.nD Cert.MlstmIdeal.τ).loc Cert.MlstmIdeal.main_arg1)) (m ((c.tc : Thread Cert.MlstmIdeal.nD Cert.MlstmIdeal.τ).loc Cert.MlstmIdeal.main_arg2)) (m ((c.tc : Thread Cert.MlstmIdeal.nD Cert.MlstmIdeal.τ).loc Cert.MlstmIdeal.main_arg3)) (m ((c.tc : Thread Cert.MlstmIdeal.nD Cert.MlstmIdeal.τ).loc Cert.MlstmIdeal.main_arg4))) = (fun _ => 1#1)

def Pre_MlstmRefIdeal (m : (ℓ : Loc Cert.MlstmRefIdeal.nD Cert.MlstmRefIdeal.τ Cert.MlstmRefIdeal.sig) → Buf (Elt Ideal) ℓ) : Prop :=
  True

def Pre_MlstmRefIdeal_finite_ml [hPre_finite_ml : Cert.Pre_finite_ml.Facts] (m : (ℓ : Loc Cert.MlstmRefIdeal.nD Cert.MlstmRefIdeal.τ Cert.MlstmRefIdeal.sig) → Buf (Elt Ideal) ℓ) : Prop :=
  ∀ c : Dev Cert.MlstmRefIdeal.nD,
    (Cert.Pre_finite_ml.fn (F := Ideal) (m ((c.tc : Thread Cert.MlstmRefIdeal.nD Cert.MlstmRefIdeal.τ).loc Cert.MlstmRefIdeal.main_arg0)) (m ((c.tc : Thread Cert.MlstmRefIdeal.nD Cert.MlstmRefIdeal.τ).loc Cert.MlstmRefIdeal.main_arg1)) (m ((c.tc : Thread Cert.MlstmRefIdeal.nD Cert.MlstmRefIdeal.τ).loc Cert.MlstmRefIdeal.main_arg2)) (m ((c.tc : Thread Cert.MlstmRefIdeal.nD Cert.MlstmRefIdeal.τ).loc Cert.MlstmRefIdeal.main_arg3)) (m ((c.tc : Thread Cert.MlstmRefIdeal.nD Cert.MlstmRefIdeal.τ).loc Cert.MlstmRefIdeal.main_arg4))) = (fun _ => 1#1)

def Pre_OutProjSample (m : (ℓ : Loc Cert.OutProjSample.nD Cert.OutProjSample.τ Cert.OutProjSample.sig) → Buf (Elt Bits) ℓ) : Prop :=
  True

def Pre_OutProjSampleIdeal (m : (ℓ : Loc Cert.OutProjSampleIdeal.nD Cert.OutProjSampleIdeal.τ Cert.OutProjSampleIdeal.sig) → Buf (Elt Ideal) ℓ) : Prop :=
  True

def Pre_OutProjSampleRefIdeal (m : (ℓ : Loc Cert.OutProjSampleRefIdeal.nD Cert.OutProjSampleRefIdeal.τ Cert.OutProjSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_MlstmIdeal [hMlstmIdeal : Cert.MlstmIdeal.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def quiescent_MlstmIdeal_pre_finite_ml [hMlstmIdeal : Cert.MlstmIdeal.Facts] [hPre_finite_ml : Cert.Pre_finite_ml.Facts] : Prop :=
  ∀ (m : (ℓ : Loc Cert.MlstmIdeal.nD Cert.MlstmIdeal.τ Cert.MlstmIdeal.sig) → Buf (Elt Ideal) ℓ) (g : Dev Cert.MlstmIdeal.nD → PrngReg), Pre_MlstmIdeal_finite_ml m →
    θ_run (Cert.MlstmIdeal.defs (F := Ideal)) (onTc (τ := Cert.MlstmIdeal.τ) (Cert.MlstmIdeal.main (F := Ideal))) ⟨m, fun _ => 0, g⟩ (fun r => (∀ c : Dev Cert.MlstmIdeal.nD,
      r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
      ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
      ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
      ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
      ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ r.2.sem = fun _ => 0)

def quiescent_MlstmRefIdeal [hMlstmRefIdeal : Cert.MlstmRefIdeal.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4))
      ∧ r.2.sem = fun _ => 0)

def quiescent_MlstmRefIdeal_pre_finite_ml [hMlstmRefIdeal : Cert.MlstmRefIdeal.Facts] [hPre_finite_ml : Cert.Pre_finite_ml.Facts] : Prop :=
  ∀ (m : (ℓ : Loc Cert.MlstmRefIdeal.nD Cert.MlstmRefIdeal.τ Cert.MlstmRefIdeal.sig) → Buf (Elt Ideal) ℓ) (g : Dev Cert.MlstmRefIdeal.nD → PrngReg), Pre_MlstmRefIdeal_finite_ml m →
    θ_run (Cert.MlstmRefIdeal.defs (F := Ideal)) (onTc (τ := Cert.MlstmRefIdeal.τ) (Cert.MlstmRefIdeal.main (F := Ideal))) ⟨m, fun _ => 0, g⟩ (fun r => (∀ c : Dev Cert.MlstmRefIdeal.nD,
      r.2.mem ((c.tc : Thread Cert.MlstmRefIdeal.nD Cert.MlstmRefIdeal.τ).loc Cert.MlstmRefIdeal.main_arg0) = m ((c.tc : Thread Cert.MlstmRefIdeal.nD Cert.MlstmRefIdeal.τ).loc Cert.MlstmRefIdeal.main_arg0)
      ∧ r.2.mem ((c.tc : Thread Cert.MlstmRefIdeal.nD Cert.MlstmRefIdeal.τ).loc Cert.MlstmRefIdeal.main_arg1) = m ((c.tc : Thread Cert.MlstmRefIdeal.nD Cert.MlstmRefIdeal.τ).loc Cert.MlstmRefIdeal.main_arg1)
      ∧ r.2.mem ((c.tc : Thread Cert.MlstmRefIdeal.nD Cert.MlstmRefIdeal.τ).loc Cert.MlstmRefIdeal.main_arg2) = m ((c.tc : Thread Cert.MlstmRefIdeal.nD Cert.MlstmRefIdeal.τ).loc Cert.MlstmRefIdeal.main_arg2)
      ∧ r.2.mem ((c.tc : Thread Cert.MlstmRefIdeal.nD Cert.MlstmRefIdeal.τ).loc Cert.MlstmRefIdeal.main_arg3) = m ((c.tc : Thread Cert.MlstmRefIdeal.nD Cert.MlstmRefIdeal.τ).loc Cert.MlstmRefIdeal.main_arg3)
      ∧ r.2.mem ((c.tc : Thread Cert.MlstmRefIdeal.nD Cert.MlstmRefIdeal.τ).loc Cert.MlstmRefIdeal.main_arg4) = m ((c.tc : Thread Cert.MlstmRefIdeal.nD Cert.MlstmRefIdeal.τ).loc Cert.MlstmRefIdeal.main_arg4))
      ∧ r.2.sem = fun _ => 0)

def quiescent_OutProjSample [hOutProjSample : Cert.OutProjSample.Facts] : Prop :=
  ∀ (m : (ℓ : Loc Cert.OutProjSample.nD Cert.OutProjSample.τ Cert.OutProjSample.sig) → Buf (Elt Bits) ℓ) (g : Dev Cert.OutProjSample.nD → PrngReg), Pre_OutProjSample m →
    θ_run (Cert.OutProjSample.defs (F := Bits)) (onTc (τ := Cert.OutProjSample.τ) (Cert.OutProjSample.main (F := Bits))) ⟨m, fun _ => 0, g⟩ (fun r => (∀ c : Dev Cert.OutProjSample.nD,
      r.2.mem ((c.tc : Thread Cert.OutProjSample.nD Cert.OutProjSample.τ).loc Cert.OutProjSample.main_arg0) = m ((c.tc : Thread Cert.OutProjSample.nD Cert.OutProjSample.τ).loc Cert.OutProjSample.main_arg0)
      ∧ r.2.mem ((c.tc : Thread Cert.OutProjSample.nD Cert.OutProjSample.τ).loc Cert.OutProjSample.main_arg1) = m ((c.tc : Thread Cert.OutProjSample.nD Cert.OutProjSample.τ).loc Cert.OutProjSample.main_arg1)
      ∧ r.2.mem ((c.tc : Thread Cert.OutProjSample.nD Cert.OutProjSample.τ).loc Cert.OutProjSample.main_arg2) = m ((c.tc : Thread Cert.OutProjSample.nD Cert.OutProjSample.τ).loc Cert.OutProjSample.main_arg2)
      ∧ r.2.mem ((c.tc : Thread Cert.OutProjSample.nD Cert.OutProjSample.τ).loc Cert.OutProjSample.main_arg3) = m ((c.tc : Thread Cert.OutProjSample.nD Cert.OutProjSample.τ).loc Cert.OutProjSample.main_arg3)
      ∧ r.2.mem ((c.tc : Thread Cert.OutProjSample.nD Cert.OutProjSample.τ).loc Cert.OutProjSample.main_arg4) = m ((c.tc : Thread Cert.OutProjSample.nD Cert.OutProjSample.τ).loc Cert.OutProjSample.main_arg4)
      ∧ r.2.mem ((c.tc : Thread Cert.OutProjSample.nD Cert.OutProjSample.τ).loc Cert.OutProjSample.main_arg5) = m ((c.tc : Thread Cert.OutProjSample.nD Cert.OutProjSample.τ).loc Cert.OutProjSample.main_arg5))
      ∧ r.2.sem = fun _ => 0)

def quiescent_OutProjSampleIdeal [hOutProjSampleIdeal : Cert.OutProjSampleIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg), Pre_OutProjSampleIdeal m →
    θ_run (Cert.OutProjSampleIdeal.defs (F := Ideal)) (onTc (τ := Cert.OutProjSampleIdeal.τ) (Cert.OutProjSampleIdeal.main (F := Ideal))) ⟨m, fun _ => 0, g⟩ (fun r => (∀ c : Dev Cert.OutProjSampleIdeal.nD,
      r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
      ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
      ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
      ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
      ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
      ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ r.2.sem = fun _ => 0)

def quiescent_OutProjSampleRefIdeal [hOutProjSampleRefIdeal : Cert.OutProjSampleRefIdeal.Facts] : Prop :=
  ∀ (m : (ℓ : Loc Cert.OutProjSampleRefIdeal.nD Cert.OutProjSampleRefIdeal.τ Cert.OutProjSampleRefIdeal.sig) → Buf (Elt Ideal) ℓ) (g : Dev Cert.OutProjSampleRefIdeal.nD → PrngReg), Pre_OutProjSampleRefIdeal m →
    θ_run (Cert.OutProjSampleRefIdeal.defs (F := Ideal)) (onTc (τ := Cert.OutProjSampleRefIdeal.τ) (Cert.OutProjSampleRefIdeal.main (F := Ideal))) ⟨m, fun _ => 0, g⟩ (fun r => (∀ c : Dev Cert.OutProjSampleRefIdeal.nD,
      r.2.mem ((c.tc : Thread Cert.OutProjSampleRefIdeal.nD Cert.OutProjSampleRefIdeal.τ).loc Cert.OutProjSampleRefIdeal.main_arg0) = m ((c.tc : Thread Cert.OutProjSampleRefIdeal.nD Cert.OutProjSampleRefIdeal.τ).loc Cert.OutProjSampleRefIdeal.main_arg0)
      ∧ r.2.mem ((c.tc : Thread Cert.OutProjSampleRefIdeal.nD Cert.OutProjSampleRefIdeal.τ).loc Cert.OutProjSampleRefIdeal.main_arg1) = m ((c.tc : Thread Cert.OutProjSampleRefIdeal.nD Cert.OutProjSampleRefIdeal.τ).loc Cert.OutProjSampleRefIdeal.main_arg1)
      ∧ r.2.mem ((c.tc : Thread Cert.OutProjSampleRefIdeal.nD Cert.OutProjSampleRefIdeal.τ).loc Cert.OutProjSampleRefIdeal.main_arg2) = m ((c.tc : Thread Cert.OutProjSampleRefIdeal.nD Cert.OutProjSampleRefIdeal.τ).loc Cert.OutProjSampleRefIdeal.main_arg2)
      ∧ r.2.mem ((c.tc : Thread Cert.OutProjSampleRefIdeal.nD Cert.OutProjSampleRefIdeal.τ).loc Cert.OutProjSampleRefIdeal.main_arg3) = m ((c.tc : Thread Cert.OutProjSampleRefIdeal.nD Cert.OutProjSampleRefIdeal.τ).loc Cert.OutProjSampleRefIdeal.main_arg3)
      ∧ r.2.mem ((c.tc : Thread Cert.OutProjSampleRefIdeal.nD Cert.OutProjSampleRefIdeal.τ).loc Cert.OutProjSampleRefIdeal.main_arg4) = m ((c.tc : Thread Cert.OutProjSampleRefIdeal.nD Cert.OutProjSampleRefIdeal.τ).loc Cert.OutProjSampleRefIdeal.main_arg4)
      ∧ r.2.mem ((c.tc : Thread Cert.OutProjSampleRefIdeal.nD Cert.OutProjSampleRefIdeal.τ).loc Cert.OutProjSampleRefIdeal.main_arg5) = m ((c.tc : Thread Cert.OutProjSampleRefIdeal.nD Cert.OutProjSampleRefIdeal.τ).loc Cert.OutProjSampleRefIdeal.main_arg5))
      ∧ r.2.sem = fun _ => 0)

def preserves_Attn_AttnIdeal : Prop :=
  True

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v2_0)) (v1 : (c : Dev Cert.AttnIdeal.nD) → Buf (Elt Ideal) ((c.tc : Thread Cert.AttnIdeal.nD Cert.AttnIdeal.τ).loc Cert.AttnIdeal.main_v2_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v2_0) = v0 c
          ∧ r.2.mem ((c.tc : Thread Cert.AttnIdeal.nD Cert.AttnIdeal.τ).loc Cert.AttnIdeal.main_v2_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v55) = v0 c
          ∧ r.2.mem ((c.tc : Thread Cert.AttnRefIdeal.nD Cert.AttnRefIdeal.τ).loc Cert.AttnRefIdeal.main_v56) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_InProj_InProjIdeal : Prop :=
  True

def algebraic_InProjIdeal_InProjRefIdeal_on_valid_columns [hInProjIdeal : Cert.InProjIdeal.Facts] [hInProjRefIdeal : Cert.InProjRefIdeal.Facts] [hOn_valid_columns : Cert.On_valid_columns.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          (∀ i : (⟨2, ![4096, 6272]⟩ : Shape).Idx, (Cert.On_valid_columns.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) i = 1#1 → r.2.mem ((c.tc : Thread Cert.InProjIdeal.nD Cert.InProjIdeal.τ).loc Cert.InProjIdeal.main_v1) i = v0 c i)
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          (∀ i : (⟨2, ![4096, 6272]⟩ : Shape).Idx, (Cert.On_valid_columns.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) i = 1#1 → r.2.mem ((c.tc : Thread Cert.InProjRefIdeal.nD Cert.InProjRefIdeal.τ).loc Cert.InProjRefIdeal.main_v26) i = v0 c i)
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v11) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def preserves_Mlstm_MlstmIdeal : Prop :=
  True

def algebraic_MlstmIdeal_MlstmRefIdeal_pre_finite_ml [hMlstmIdeal : Cert.MlstmIdeal.Facts] [hMlstmRefIdeal : Cert.MlstmRefIdeal.Facts] [hPre_finite_ml : Cert.Pre_finite_ml.Facts] : Prop :=
  ∀ (m : (ℓ : Loc Cert.MlstmIdeal.nD Cert.MlstmIdeal.τ Cert.MlstmIdeal.sig) → Buf (Elt Ideal) ℓ) (g : Dev Cert.MlstmIdeal.nD → PrngReg)
    (m' : (ℓ : Loc Cert.MlstmRefIdeal.nD Cert.MlstmRefIdeal.τ Cert.MlstmRefIdeal.sig) → Buf (Elt Ideal) ℓ) (g' : Dev Cert.MlstmRefIdeal.nD → PrngReg), Pre_MlstmIdeal_finite_ml m →
    (∀ c : Dev Cert.MlstmIdeal.nD,
      m' ((c.tc : Thread Cert.MlstmRefIdeal.nD Cert.MlstmRefIdeal.τ).loc Cert.MlstmRefIdeal.main_arg0) = m ((c.tc : Thread Cert.MlstmIdeal.nD Cert.MlstmIdeal.τ).loc Cert.MlstmIdeal.main_arg0)
      ∧ m' ((c.tc : Thread Cert.MlstmRefIdeal.nD Cert.MlstmRefIdeal.τ).loc Cert.MlstmRefIdeal.main_arg1) = m ((c.tc : Thread Cert.MlstmIdeal.nD Cert.MlstmIdeal.τ).loc Cert.MlstmIdeal.main_arg1)
      ∧ m' ((c.tc : Thread Cert.MlstmRefIdeal.nD Cert.MlstmRefIdeal.τ).loc Cert.MlstmRefIdeal.main_arg2) = m ((c.tc : Thread Cert.MlstmIdeal.nD Cert.MlstmIdeal.τ).loc Cert.MlstmIdeal.main_arg2)
      ∧ m' ((c.tc : Thread Cert.MlstmRefIdeal.nD Cert.MlstmRefIdeal.τ).loc Cert.MlstmRefIdeal.main_arg3) = m ((c.tc : Thread Cert.MlstmIdeal.nD Cert.MlstmIdeal.τ).loc Cert.MlstmIdeal.main_arg3)
      ∧ m' ((c.tc : Thread Cert.MlstmRefIdeal.nD Cert.MlstmRefIdeal.τ).loc Cert.MlstmRefIdeal.main_arg4) = m ((c.tc : Thread Cert.MlstmIdeal.nD Cert.MlstmIdeal.τ).loc Cert.MlstmIdeal.main_arg4)) →
    ∃ (v0 : (c : Dev Cert.MlstmIdeal.nD) → Buf (Elt Ideal) ((c.tc : Thread Cert.MlstmIdeal.nD Cert.MlstmIdeal.τ).loc Cert.MlstmIdeal.main_v4_0)) (v1 : (c : Dev Cert.MlstmIdeal.nD) → Buf (Elt Ideal) ((c.tc : Thread Cert.MlstmIdeal.nD Cert.MlstmIdeal.τ).loc Cert.MlstmIdeal.main_v4_1)) (v2 : (c : Dev Cert.MlstmIdeal.nD) → Buf (Elt Ideal) ((c.tc : Thread Cert.MlstmIdeal.nD Cert.MlstmIdeal.τ).loc Cert.MlstmIdeal.main_v4_2)) (v3 : (c : Dev Cert.MlstmIdeal.nD) → Buf (Elt Ideal) ((c.tc : Thread Cert.MlstmIdeal.nD Cert.MlstmIdeal.τ).loc Cert.MlstmIdeal.main_v4_3)),
      θ_run (Cert.MlstmIdeal.defs (F := Ideal)) (onTc (τ := Cert.MlstmIdeal.τ) (Cert.MlstmIdeal.main (F := Ideal))) ⟨m, fun _ => 0, g⟩ (fun r => ∀ c : Dev Cert.MlstmIdeal.nD,
          r.2.mem ((c.tc : Thread Cert.MlstmIdeal.nD Cert.MlstmIdeal.τ).loc Cert.MlstmIdeal.main_v4_0) = v0 c
          ∧ r.2.mem ((c.tc : Thread Cert.MlstmIdeal.nD Cert.MlstmIdeal.τ).loc Cert.MlstmIdeal.main_v4_1) = v1 c
          ∧ r.2.mem ((c.tc : Thread Cert.MlstmIdeal.nD Cert.MlstmIdeal.τ).loc Cert.MlstmIdeal.main_v4_2) = v2 c
          ∧ r.2.mem ((c.tc : Thread Cert.MlstmIdeal.nD Cert.MlstmIdeal.τ).loc Cert.MlstmIdeal.main_v4_3) = v3 c
          ∧ r.2.mem ((c.tc : Thread Cert.MlstmIdeal.nD Cert.MlstmIdeal.τ).loc Cert.MlstmIdeal.main_arg0) = m ((c.tc : Thread Cert.MlstmIdeal.nD Cert.MlstmIdeal.τ).loc Cert.MlstmIdeal.main_arg0)
          ∧ r.2.mem ((c.tc : Thread Cert.MlstmIdeal.nD Cert.MlstmIdeal.τ).loc Cert.MlstmIdeal.main_arg1) = m ((c.tc : Thread Cert.MlstmIdeal.nD Cert.MlstmIdeal.τ).loc Cert.MlstmIdeal.main_arg1)
          ∧ r.2.mem ((c.tc : Thread Cert.MlstmIdeal.nD Cert.MlstmIdeal.τ).loc Cert.MlstmIdeal.main_arg2) = m ((c.tc : Thread Cert.MlstmIdeal.nD Cert.MlstmIdeal.τ).loc Cert.MlstmIdeal.main_arg2)
          ∧ r.2.mem ((c.tc : Thread Cert.MlstmIdeal.nD Cert.MlstmIdeal.τ).loc Cert.MlstmIdeal.main_arg3) = m ((c.tc : Thread Cert.MlstmIdeal.nD Cert.MlstmIdeal.τ).loc Cert.MlstmIdeal.main_arg3)
          ∧ r.2.mem ((c.tc : Thread Cert.MlstmIdeal.nD Cert.MlstmIdeal.τ).loc Cert.MlstmIdeal.main_arg4) = m ((c.tc : Thread Cert.MlstmIdeal.nD Cert.MlstmIdeal.τ).loc Cert.MlstmIdeal.main_arg4))
      ∧ θ_run (Cert.MlstmRefIdeal.defs (F := Ideal)) (onTc (τ := Cert.MlstmRefIdeal.τ) (Cert.MlstmRefIdeal.main (F := Ideal))) ⟨m', fun _ => 0, g'⟩ (fun r => ∀ c : Dev Cert.MlstmRefIdeal.nD,
          r.2.mem ((c.tc : Thread Cert.MlstmRefIdeal.nD Cert.MlstmRefIdeal.τ).loc Cert.MlstmRefIdeal.main_v115) = v0 c
          ∧ r.2.mem ((c.tc : Thread Cert.MlstmRefIdeal.nD Cert.MlstmRefIdeal.τ).loc Cert.MlstmRefIdeal.main_v81_6) = v1 c
          ∧ r.2.mem ((c.tc : Thread Cert.MlstmRefIdeal.nD Cert.MlstmRefIdeal.τ).loc Cert.MlstmRefIdeal.main_v116) = v2 c
          ∧ r.2.mem ((c.tc : Thread Cert.MlstmRefIdeal.nD Cert.MlstmRefIdeal.τ).loc Cert.MlstmRefIdeal.main_v118) = v3 c
          ∧ r.2.mem ((c.tc : Thread Cert.MlstmRefIdeal.nD Cert.MlstmRefIdeal.τ).loc Cert.MlstmRefIdeal.main_arg0) = m' ((c.tc : Thread Cert.MlstmRefIdeal.nD Cert.MlstmRefIdeal.τ).loc Cert.MlstmRefIdeal.main_arg0)
          ∧ r.2.mem ((c.tc : Thread Cert.MlstmRefIdeal.nD Cert.MlstmRefIdeal.τ).loc Cert.MlstmRefIdeal.main_arg1) = m' ((c.tc : Thread Cert.MlstmRefIdeal.nD Cert.MlstmRefIdeal.τ).loc Cert.MlstmRefIdeal.main_arg1)
          ∧ r.2.mem ((c.tc : Thread Cert.MlstmRefIdeal.nD Cert.MlstmRefIdeal.τ).loc Cert.MlstmRefIdeal.main_arg2) = m' ((c.tc : Thread Cert.MlstmRefIdeal.nD Cert.MlstmRefIdeal.τ).loc Cert.MlstmRefIdeal.main_arg2)
          ∧ r.2.mem ((c.tc : Thread Cert.MlstmRefIdeal.nD Cert.MlstmRefIdeal.τ).loc Cert.MlstmRefIdeal.main_arg3) = m' ((c.tc : Thread Cert.MlstmRefIdeal.nD Cert.MlstmRefIdeal.τ).loc Cert.MlstmRefIdeal.main_arg3)
          ∧ r.2.mem ((c.tc : Thread Cert.MlstmRefIdeal.nD Cert.MlstmRefIdeal.τ).loc Cert.MlstmRefIdeal.main_arg4) = m' ((c.tc : Thread Cert.MlstmRefIdeal.nD Cert.MlstmRefIdeal.τ).loc Cert.MlstmRefIdeal.main_arg4))

def preserves_OutProjSample_OutProjSampleIdeal : Prop :=
  True

def algebraic_OutProjSampleIdeal_OutProjSampleRefIdeal [hOutProjSampleIdeal : Cert.OutProjSampleIdeal.Facts] [hOutProjSampleRefIdeal : Cert.OutProjSampleRefIdeal.Facts] : Prop :=
  ∀ (m : (ℓ : Loc Cert.OutProjSampleIdeal.nD Cert.OutProjSampleIdeal.τ Cert.OutProjSampleIdeal.sig) → Buf (Elt Ideal) ℓ) (g : Dev Cert.OutProjSampleIdeal.nD → PrngReg)
    (m' : (ℓ : Loc Cert.OutProjSampleRefIdeal.nD Cert.OutProjSampleRefIdeal.τ Cert.OutProjSampleRefIdeal.sig) → Buf (Elt Ideal) ℓ) (g' : Dev Cert.OutProjSampleRefIdeal.nD → PrngReg), Pre_OutProjSampleIdeal m →
    (∀ c : Dev Cert.OutProjSampleIdeal.nD,
      m' ((c.tc : Thread Cert.OutProjSampleRefIdeal.nD Cert.OutProjSampleRefIdeal.τ).loc Cert.OutProjSampleRefIdeal.main_arg0) = m ((c.tc : Thread Cert.OutProjSampleIdeal.nD Cert.OutProjSampleIdeal.τ).loc Cert.OutProjSampleIdeal.main_arg0)
      ∧ m' ((c.tc : Thread Cert.OutProjSampleRefIdeal.nD Cert.OutProjSampleRefIdeal.τ).loc Cert.OutProjSampleRefIdeal.main_arg1) = m ((c.tc : Thread Cert.OutProjSampleIdeal.nD Cert.OutProjSampleIdeal.τ).loc Cert.OutProjSampleIdeal.main_arg1)
      ∧ m' ((c.tc : Thread Cert.OutProjSampleRefIdeal.nD Cert.OutProjSampleRefIdeal.τ).loc Cert.OutProjSampleRefIdeal.main_arg2) = m ((c.tc : Thread Cert.OutProjSampleIdeal.nD Cert.OutProjSampleIdeal.τ).loc Cert.OutProjSampleIdeal.main_arg2)
      ∧ m' ((c.tc : Thread Cert.OutProjSampleRefIdeal.nD Cert.OutProjSampleRefIdeal.τ).loc Cert.OutProjSampleRefIdeal.main_arg3) = m ((c.tc : Thread Cert.OutProjSampleIdeal.nD Cert.OutProjSampleIdeal.τ).loc Cert.OutProjSampleIdeal.main_arg3)
      ∧ m' ((c.tc : Thread Cert.OutProjSampleRefIdeal.nD Cert.OutProjSampleRefIdeal.τ).loc Cert.OutProjSampleRefIdeal.main_arg4) = m ((c.tc : Thread Cert.OutProjSampleIdeal.nD Cert.OutProjSampleIdeal.τ).loc Cert.OutProjSampleIdeal.main_arg4)
      ∧ m' ((c.tc : Thread Cert.OutProjSampleRefIdeal.nD Cert.OutProjSampleRefIdeal.τ).loc Cert.OutProjSampleRefIdeal.main_arg5) = m ((c.tc : Thread Cert.OutProjSampleIdeal.nD Cert.OutProjSampleIdeal.τ).loc Cert.OutProjSampleIdeal.main_arg5)) →
    ∃ (v0 : (c : Dev Cert.OutProjSampleIdeal.nD) → Buf (Elt Ideal) ((c.tc : Thread Cert.OutProjSampleIdeal.nD Cert.OutProjSampleIdeal.τ).loc Cert.OutProjSampleIdeal.main_v0)),
      θ_run (Cert.OutProjSampleIdeal.defs (F := Ideal)) (onTc (τ := Cert.OutProjSampleIdeal.τ) (Cert.OutProjSampleIdeal.main (F := Ideal))) ⟨m, fun _ => 0, g⟩ (fun r => ∀ c : Dev Cert.OutProjSampleIdeal.nD,
          r.2.mem ((c.tc : Thread Cert.OutProjSampleIdeal.nD Cert.OutProjSampleIdeal.τ).loc Cert.OutProjSampleIdeal.main_v0) = v0 c
          ∧ r.2.mem ((c.tc : Thread Cert.OutProjSampleIdeal.nD Cert.OutProjSampleIdeal.τ).loc Cert.OutProjSampleIdeal.main_arg0) = m ((c.tc : Thread Cert.OutProjSampleIdeal.nD Cert.OutProjSampleIdeal.τ).loc Cert.OutProjSampleIdeal.main_arg0)
          ∧ r.2.mem ((c.tc : Thread Cert.OutProjSampleIdeal.nD Cert.OutProjSampleIdeal.τ).loc Cert.OutProjSampleIdeal.main_arg1) = m ((c.tc : Thread Cert.OutProjSampleIdeal.nD Cert.OutProjSampleIdeal.τ).loc Cert.OutProjSampleIdeal.main_arg1)
          ∧ r.2.mem ((c.tc : Thread Cert.OutProjSampleIdeal.nD Cert.OutProjSampleIdeal.τ).loc Cert.OutProjSampleIdeal.main_arg2) = m ((c.tc : Thread Cert.OutProjSampleIdeal.nD Cert.OutProjSampleIdeal.τ).loc Cert.OutProjSampleIdeal.main_arg2)
          ∧ r.2.mem ((c.tc : Thread Cert.OutProjSampleIdeal.nD Cert.OutProjSampleIdeal.τ).loc Cert.OutProjSampleIdeal.main_arg3) = m ((c.tc : Thread Cert.OutProjSampleIdeal.nD Cert.OutProjSampleIdeal.τ).loc Cert.OutProjSampleIdeal.main_arg3)
          ∧ r.2.mem ((c.tc : Thread Cert.OutProjSampleIdeal.nD Cert.OutProjSampleIdeal.τ).loc Cert.OutProjSampleIdeal.main_arg4) = m ((c.tc : Thread Cert.OutProjSampleIdeal.nD Cert.OutProjSampleIdeal.τ).loc Cert.OutProjSampleIdeal.main_arg4)
          ∧ r.2.mem ((c.tc : Thread Cert.OutProjSampleIdeal.nD Cert.OutProjSampleIdeal.τ).loc Cert.OutProjSampleIdeal.main_arg5) = m ((c.tc : Thread Cert.OutProjSampleIdeal.nD Cert.OutProjSampleIdeal.τ).loc Cert.OutProjSampleIdeal.main_arg5))
      ∧ θ_run (Cert.OutProjSampleRefIdeal.defs (F := Ideal)) (onTc (τ := Cert.OutProjSampleRefIdeal.τ) (Cert.OutProjSampleRefIdeal.main (F := Ideal))) ⟨m', fun _ => 0, g'⟩ (fun r => ∀ c : Dev Cert.OutProjSampleRefIdeal.nD,
          r.2.mem ((c.tc : Thread Cert.OutProjSampleRefIdeal.nD Cert.OutProjSampleRefIdeal.τ).loc Cert.OutProjSampleRefIdeal.main_v15) = v0 c
          ∧ r.2.mem ((c.tc : Thread Cert.OutProjSampleRefIdeal.nD Cert.OutProjSampleRefIdeal.τ).loc Cert.OutProjSampleRefIdeal.main_arg0) = m' ((c.tc : Thread Cert.OutProjSampleRefIdeal.nD Cert.OutProjSampleRefIdeal.τ).loc Cert.OutProjSampleRefIdeal.main_arg0)
          ∧ r.2.mem ((c.tc : Thread Cert.OutProjSampleRefIdeal.nD Cert.OutProjSampleRefIdeal.τ).loc Cert.OutProjSampleRefIdeal.main_arg1) = m' ((c.tc : Thread Cert.OutProjSampleRefIdeal.nD Cert.OutProjSampleRefIdeal.τ).loc Cert.OutProjSampleRefIdeal.main_arg1)
          ∧ r.2.mem ((c.tc : Thread Cert.OutProjSampleRefIdeal.nD Cert.OutProjSampleRefIdeal.τ).loc Cert.OutProjSampleRefIdeal.main_arg2) = m' ((c.tc : Thread Cert.OutProjSampleRefIdeal.nD Cert.OutProjSampleRefIdeal.τ).loc Cert.OutProjSampleRefIdeal.main_arg2)
          ∧ r.2.mem ((c.tc : Thread Cert.OutProjSampleRefIdeal.nD Cert.OutProjSampleRefIdeal.τ).loc Cert.OutProjSampleRefIdeal.main_arg3) = m' ((c.tc : Thread Cert.OutProjSampleRefIdeal.nD Cert.OutProjSampleRefIdeal.τ).loc Cert.OutProjSampleRefIdeal.main_arg3)
          ∧ r.2.mem ((c.tc : Thread Cert.OutProjSampleRefIdeal.nD Cert.OutProjSampleRefIdeal.τ).loc Cert.OutProjSampleRefIdeal.main_arg4) = m' ((c.tc : Thread Cert.OutProjSampleRefIdeal.nD Cert.OutProjSampleRefIdeal.τ).loc Cert.OutProjSampleRefIdeal.main_arg4)
          ∧ r.2.mem ((c.tc : Thread Cert.OutProjSampleRefIdeal.nD Cert.OutProjSampleRefIdeal.τ).loc Cert.OutProjSampleRefIdeal.main_arg5) = m' ((c.tc : Thread Cert.OutProjSampleRefIdeal.nD Cert.OutProjSampleRefIdeal.τ).loc Cert.OutProjSampleRefIdeal.main_arg5))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hMlstm : Cert.Mlstm.Facts) (hMlstmIdeal : Cert.MlstmIdeal.Facts) (hMlstmRefIdeal : Cert.MlstmRefIdeal.Facts) (hOutProjSample : Cert.OutProjSample.Facts) (hOutProjSampleIdeal : Cert.OutProjSampleIdeal.Facts) (hOutProjSampleRefIdeal : Cert.OutProjSampleRefIdeal.Facts) (hPre_finite : Cert.Pre_finite.Facts) (hPre_finite_ml : Cert.Pre_finite_ml.Facts) (hOn_valid_columns : Cert.On_valid_columns.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Mlstm (hMlstm := hMlstm)
    ∧ quiescent_MlstmIdeal (hMlstmIdeal := hMlstmIdeal)
    ∧ quiescent_MlstmIdeal_pre_finite_ml (hMlstmIdeal := hMlstmIdeal) (hPre_finite_ml := hPre_finite_ml)
    ∧ quiescent_MlstmRefIdeal (hMlstmRefIdeal := hMlstmRefIdeal)
    ∧ quiescent_MlstmRefIdeal_pre_finite_ml (hMlstmRefIdeal := hMlstmRefIdeal) (hPre_finite_ml := hPre_finite_ml)
    ∧ quiescent_OutProjSample (hOutProjSample := hOutProjSample)
    ∧ quiescent_OutProjSampleIdeal (hOutProjSampleIdeal := hOutProjSampleIdeal)
    ∧ quiescent_OutProjSampleRefIdeal (hOutProjSampleRefIdeal := hOutProjSampleRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_InProj_InProjIdeal
    ∧ algebraic_InProjIdeal_InProjRefIdeal_on_valid_columns (hInProjIdeal := hInProjIdeal) (hInProjRefIdeal := hInProjRefIdeal) (hOn_valid_columns := hOn_valid_columns)
    ∧ preserves_OutProj_OutProjIdeal
    ∧ algebraic_OutProjIdeal_OutProjRefIdeal (hOutProjIdeal := hOutProjIdeal) (hOutProjRefIdeal := hOutProjRefIdeal)
    ∧ preserves_Mlstm_MlstmIdeal
    ∧ algebraic_MlstmIdeal_MlstmRefIdeal_pre_finite_ml (hMlstmIdeal := hMlstmIdeal) (hMlstmRefIdeal := hMlstmRefIdeal) (hPre_finite_ml := hPre_finite_ml)
    ∧ preserves_OutProjSample_OutProjSampleIdeal
    ∧ algebraic_OutProjSampleIdeal_OutProjSampleRefIdeal (hOutProjSampleIdeal := hOutProjSampleIdeal) (hOutProjSampleRefIdeal := hOutProjSampleRefIdeal)
-- ==== On_valid_columns.lean ====
abbrev S4096x2048 : Shape := ⟨2, ![4096, 2048]⟩
abbrev S8x6144 : Shape := ⟨2, ![8, 6144]⟩
abbrev S2048 : Shape := ⟨1, ![2048]⟩
abbrev S2x2048x6160 : Shape := ⟨3, ![2, 2048, 6160]⟩
abbrev S4096x6272 : Shape := ⟨2, ![4096, 6272]⟩
abbrev S_ : Shape := ⟨0, ![]⟩

class Facts : Prop where
  bcast_S_S4096x6272 : S_.BroadcastsInDim S4096x6272 (![] : Fin 0 → Fin S4096x6272.rank)

variable [Facts]

def fn {F : FTy → Type} [FloatOps F] (main_arg0 : FVec F S4096x2048 .f32) (main_arg1 : FVec F S8x6144 .f32) (main_arg2 : FVec F S2048 .f32) (main_arg3 : FVec F S2x2048x6160 .f32) : IVec S4096x6272 1 :=
  let main_v0 : IVec S4096x6272 32 := iotaInDim S4096x6272 32 1
  let main_c : IVec S_ 32 := constantI S_ 32 6160#32
  let main_v1 : IVec S4096x6272 32 := broadcastInDim S4096x6272 ![] bcast_S_S4096x6272 main_c
  let main_v2 : IVec S4096x6272 1 := cmpi .slt main_v0 main_v1
  main_v2
-- ==== Pre_finite.lean ====
abbrev S4096x6272 : Shape := ⟨2, ![4096, 6272]⟩
abbrev S128 : Shape := ⟨1, ![128]⟩
abbrev S4096x1280 : Shape := ⟨2, ![4096, 1280]⟩
abbrev S4096x10x128 : Shape := ⟨3, ![4096, 10, 128]⟩
abbrev S_ : Shape := ⟨0, ![]⟩
abbrev S1x1x128 : Shape := ⟨3, ![1, 1, 128]⟩

class Facts : Prop where
  slices_S4096x6272_S4096x1280_0_0 : S4096x6272.Slices ![0, 0] S4096x1280
  shapeCasts_S4096x1280_S4096x10x128 : S4096x1280.ShapeCasts S4096x10x128
  bcast_S_S4096x10x128 : S_.BroadcastsInDim S4096x10x128 (![] : Fin 0 → Fin S4096x10x128.rank)
  bcast_S_S128 : S_.BroadcastsInDim S128 (![] : Fin 0 → Fin S128.rank)
  bcast_S128_S1x1x128_2 : S128.BroadcastsInDim S1x1x128 (![2] : Fin 1 → Fin S1x1x128.rank)
  bcast_S1x1x128_S4096x10x128_0_1_2 : S1x1x128.BroadcastsInDim S4096x10x128 (![0, 1, 2] : Fin 3 → Fin S4096x10x128.rank)

variable [Facts]

def fn {F : FTy → Type} [FloatOps F] (main_arg0 : FVec F S4096x6272 .f32) (main_arg1 : FVec F S128 .f32) (main_arg2 : FVec F S128 .f32) : IVec S4096x10x128 1 :=
  let main_v0 : FVec F S4096x1280 .f32 := (extractStridedSlice S4096x1280 ![0, 0] · slices_S4096x6272_S4096x1280_0_0) main_arg0
  let main_v1 : FVec F S4096x10x128 .f32 := shapeCast S4096x10x128 main_v0 shapeCasts_S4096x1280_S4096x10x128
  let main_v2 : FVec F S4096x10x128 .f32 := Host.absf main_v1
  let main_cst : FVec F S_ .f32 := constant S_ .f32 0x7F800000#32
  let main_v3 : FVec F S4096x10x128 .f32 := broadcastInDim S4096x10x128 ![] bcast_S_S4096x10x128 main_cst
  let main_v4 : IVec S4096x10x128 1 := cmpf .olt main_v2 main_v3
  let main_v5 : FVec F S128 .f32 := Host.absf main_arg1
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_v8 : IVec S1x1x128 1 := broadcastInDim S1x1x128 ![2] bcast_S128_S1x1x128_2 main_v7
  let main_v9 : IVec S4096x10x128 1 := broadcastInDim S4096x10x128 ![0, 1, 2] bcast_S1x1x128_S4096x10x128_0_1_2 main_v8
  let main_v10 : IVec S4096x10x128 1 := andi main_v4 main_v9
  let main_v11 : FVec F S128 .f32 := Host.absf main_arg2
  let main_cst_1 : FVec F S_ .f32 := constant S_ .f32 0x7F800000#32
  let main_v12 : FVec F S128 .f32 := broadcastInDim S128 ![] bcast_S_S128 main_cst_1
  let main_v13 : IVec S128 1 := cmpf .olt main_v11 main_v12
  let main_v14 : IVec S1x1x128 1 := broadcastInDim S1x1x128 ![2] bcast_S128_S1x1x128_2 main_v13
  let main_v15 : IVec S4096x10x128 1 := broadcastInDim S4096x10x128 ![0, 1, 2] bcast_S1x1x128_S4096x10x128_0_1_2 main_v14
  let main_v16 : IVec S4096x10x128 1 := andi main_v10 main_v15
  main_v16
-- ==== Pre_finite_ml.lean ====
abbrev S4096x6272 : Shape := ⟨2, ![4096, 6272]⟩
abbrev S16 : Shape := ⟨1, ![16]⟩
abbrev S3x1024 : Shape := ⟨2, ![3, 1024]⟩
abbrev S1024 : Shape := ⟨1, ![1024]⟩
abbrev S512 : Shape := ⟨1, ![512]⟩
abbrev S4096x1536 : Shape := ⟨2, ![4096, 1536]⟩
abbrev S4096x96x16 : Shape := ⟨3, ![4096, 96, 16]⟩
abbrev S_ : Shape := ⟨0, ![]⟩
abbrev S4096x16 : Shape := ⟨2, ![4096, 16]⟩
abbrev S4096x1x16 : Shape := ⟨3, ![4096, 1, 16]⟩
abbrev S1x1x16 : Shape := ⟨3, ![1, 1, 16]⟩

class Facts : Prop where
  slices_S4096x6272_S4096x1536_0_2560 : S4096x6272.Slices ![0, 2560] S4096x1536
  shapeCasts_S4096x1536_S4096x96x16 : S4096x1536.ShapeCasts S4096x96x16
  bcast_S_S4096x96x16 : S_.BroadcastsInDim S4096x96x16 (![] : Fin 0 → Fin S4096x96x16.rank)
  slices_S4096x6272_S4096x16_0_5120 : S4096x6272.Slices ![0, 5120] S4096x16
  bcast_S4096x16_S4096x1x16_0_2 : S4096x16.BroadcastsInDim S4096x1x16 (![0, 2] : Fin 2 → Fin S4096x1x16.rank)
  bcast_S_S4096x1x16 : S_.BroadcastsInDim S4096x1x16 (![] : Fin 0 → Fin S4096x1x16.rank)
  bcast_S4096x1x16_S4096x96x16_0_1_2 : S4096x1x16.BroadcastsInDim S4096x96x16 (![0, 1, 2] : Fin 3 → Fin S4096x96x16.rank)
  bcast_S_S16 : S_.BroadcastsInDim S16 (![] : Fin 0 → Fin S16.rank)
  bcast_S16_S1x1x16_2 : S16.BroadcastsInDim S1x1x16 (![2] : Fin 1 → Fin S1x1x16.rank)
  bcast_S1x1x16_S4096x96x16_0_1_2 : S1x1x16.BroadcastsInDim S4096x96x16 (![0, 1, 2] : Fin 3 → Fin S4096x96x16.rank)
  reducesTo_S3x1024_S_d0_1 : S3x1024.ReducesTo [0, 1] S_
  h_S_ : 0 < S_.numel
  reducesTo_S1024_S_d0 : S1024.ReducesTo [0] S_

variable [Facts]

def fn_part1 {F : FTy → Type} [FloatOps F] (main_arg3 : FVec F S1024 .f32) (main_v17 : IVec S4096x96x16 1) (main_v19 : FVec F S_ .f32) : IVec S4096x96x16 1 :=
  let main_v20 : FVec F S_ .f32 := Host.absf main_v19
  let main_cst_3 : FVec F S_ .f32 := constant S_ .f32 0x7F800000#32
  let main_v21 : IVec S_ 1 := cmpf .olt main_v20 main_cst_3
  let main_v22 : IVec S4096x96x16 1 := broadcastInDim S4096x96x16 ![] bcast_S_S4096x96x16 main_v21
  let main_v23 : IVec S4096x96x16 1 := andi main_v17 main_v22
  let main_v24 : FVec F S1024 .f32 := Host.absf main_arg3
  let main_cst_4 : FVec F S_ .f32 := constant S_ .f32 0xFF800000#32
  let main_v25 : FVec F S_ .f32 := (fun x v => Host.reduce FloatOps.maximumf x v reducesTo_S1024_S_d0 h_S_) main_v24 main_cst_4
  let main_v26 : FVec F S_ .f32 := Host.absf main_v25
  let main_cst_5 : FVec F S_ .f32 := constant S_ .f32 0x7F800000#32
  let main_v27 : IVec S_ 1 := cmpf .olt main_v26 main_cst_5
  let main_v28 : IVec S4096x96x16 1 := broadcastInDim S4096x96x16 ![] bcast_S_S4096x96x16 main_v27
  let main_v29 : IVec S4096x96x16 1 := andi main_v23 main_v28
  main_v29

def fn {F : FTy → Type} [FloatOps F] (main_arg0 : FVec F S4096x6272 .f32) (main_arg1 : FVec F S16 .f32) (main_arg2 : FVec F S3x1024 .f32) (main_arg3 : FVec F S1024 .f32) (main_arg4 : FVec F S512 .f32) : IVec S4096x96x16 1 :=
  let main_v0 : FVec F S4096x1536 .f32 := (extractStridedSlice S4096x1536 ![0, 2560] · slices_S4096x6272_S4096x1536_0_2560) main_arg0
  let main_v1 : FVec F S4096x96x16 .f32 := shapeCast S4096x96x16 main_v0 shapeCasts_S4096x1536_S4096x96x16
  let main_v2 : FVec F S4096x96x16 .f32 := Host.absf main_v1
  let main_cst : FVec F S_ .f32 := constant S_ .f32 0x7F800000#32
  let main_v3 : FVec F S4096x96x16 .f32 := broadcastInDim S4096x96x16 ![] bcast_S_S4096x96x16 main_cst
  let main_v4 : IVec S4096x96x16 1 := cmpf .olt main_v2 main_v3
  let main_v5 : FVec F S4096x16 .f32 := (extractStridedSlice S4096x16 ![0, 5120] · slices_S4096x6272_S4096x16_0_5120) main_arg0
  let main_v6 : FVec F S4096x1x16 .f32 := broadcastInDim S4096x1x16 ![0, 2] bcast_S4096x16_S4096x1x16_0_2 main_v5
  let main_v7 : FVec F S4096x1x16 .f32 := Host.absf main_v6
  let main_cst_0 : FVec F S_ .f32 := constant S_ .f32 0x7F800000#32
  let main_v8 : FVec F S4096x1x16 .f32 := broadcastInDim S4096x1x16 ![] bcast_S_S4096x1x16 main_cst_0
  let main_v9 : IVec S4096x1x16 1 := cmpf .olt main_v7 main_v8
  let main_v10 : IVec S4096x96x16 1 := broadcastInDim S4096x96x16 ![0, 1, 2] bcast_S4096x1x16_S4096x96x16_0_1_2 main_v9
  let main_v11 : IVec S4096x96x16 1 := andi main_v4 main_v10
  let main_v12 : FVec F S16 .f32 := Host.absf main_arg1
  let main_cst_1 : FVec F S_ .f32 := constant S_ .f32 0x7F800000#32
  let main_v13 : FVec F S16 .f32 := broadcastInDim S16 ![] bcast_S_S16 main_cst_1
  let main_v14 : IVec S16 1 := cmpf .olt main_v12 main_v13
  let main_v15 : IVec S1x1x16 1 := broadcastInDim S1x1x16 ![2] bcast_S16_S1x1x16_2 main_v14
  let main_v16 : IVec S4096x96x16 1 := broadcastInDim S4096x96x16 ![0, 1, 2] bcast_S1x1x16_S4096x96x16_0_1_2 main_v15
  let main_v17 : IVec S4096x96x16 1 := andi main_v11 main_v16
  let main_v18 : FVec F S3x1024 .f32 := Host.absf main_arg2
  let main_cst_2 : FVec F S_ .f32 := constant S_ .f32 0xFF800000#32
  let main_v19 : FVec F S_ .f32 := (fun x v => Host.reduce FloatOps.maximumf x v reducesTo_S3x1024_S_d0_1 h_S_) main_v18 main_cst_2
  fn_part1 (F := F) main_arg3 main_v17 main_v19
-- ==== Attn.lean ====
abbrev S4096x6272 : Shape := ⟨2, ![4096, 6272]⟩
abbrev S128 : Shape := ⟨1, ![128]⟩
abbrev S1x128 : Shape := ⟨2, ![1, 128]⟩
abbrev S4096x1024 : Shape := ⟨2, ![4096, 1024]⟩
abbrev S4096x256 : Shape := ⟨2, ![4096, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 15
  | .smem => 0
  | _ => 0

abbrev bufTy : (tb : Table) → Fin (tcTables nBuf tb) → BufTy
  | .hbm, ⟨0, _⟩ => ⟨S4096x6272, .f32⟩
  | .hbm, ⟨1, _⟩ => ⟨S128, .f32⟩
  | .hbm, ⟨2, _⟩ => ⟨S128, .f32⟩
  | .hbm, ⟨3, _⟩ => ⟨S1x128, .f32⟩
  | .hbm, ⟨4, _⟩ => ⟨S1x128, .f32⟩
  | .hbm, ⟨5, _⟩ => ⟨S4096x1024, .bf16⟩
  | .hbm, ⟨6, _⟩ => ⟨S4096x256, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x512, .f32⟩
  | .local _ .vmem, ⟨7, _⟩ => ⟨S256x512, .f32⟩
  | .local _ .vmem, ⟨8, _⟩ => ⟨S1x128, .f32⟩
  | .local _ .vmem, ⟨9, _⟩ => ⟨S1x128, .f32⟩
  | .local _ .vmem, ⟨10, _⟩ => ⟨S256x512, .bf16⟩
  | .local _ .vmem, ⟨11, _⟩ => ⟨S256x512, .bf16⟩
  | .local _ .vmem, ⟨12, _⟩ => ⟨S256x128, .f32⟩
  | .local _ .vmem, ⟨13, _⟩ => ⟨S256x128, .f32⟩
  | .local _ .vmem, ⟨14, _⟩ => ⟨S256x128, .bf16⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![16, 2, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== AttnRefIdeal.lean ====
abbrev S4096x6272 : Shape := ⟨2, ![4096, 6272]⟩
abbrev S128 : Shape := ⟨1, ![128]⟩
abbrev S4096x1024 : Shape := ⟨2, ![4096, 1024]⟩
abbrev S4096x256 : Shape := ⟨2, ![4096, 256]⟩
abbrev S4096x3712 : Shape := ⟨2, ![4096, 3712]⟩
abbrev S16x256x8x128 : Shape := ⟨4, ![16, 256, 8, 128]⟩
abbrev S_ : Shape := ⟨0, ![]⟩
abbrev S16x256x8 : Shape := ⟨3, ![16, 256, 8]⟩
abbrev S16x256x8x1 : Shape := ⟨4, ![16, 256, 8, 1]⟩
abbrev S1x1x1x128 : Shape := ⟨4, ![1, 1, 1, 128]⟩
abbrev S16x256x2x4x128 : Shape := ⟨5, ![16, 256, 2, 4, 128]⟩
abbrev S16x256x2x128 : Shape := ⟨4, ![16, 256, 2, 128]⟩
abbrev S16x256x2 : Shape := ⟨3, ![16, 256, 2]⟩
abbrev S16x256x2x1 : Shape := ⟨4, ![16, 256, 2, 1]⟩
abbrev S16x2x256x256x4 : Shape := ⟨5, ![16, 2, 256, 256, 4]⟩
abbrev S16x2x4x256x256 : Shape := ⟨5, ![16, 2, 4, 256, 256]⟩
abbrev S16x2x4x256 : Shape := ⟨4, ![16, 2, 4, 256]⟩
abbrev S16x2x4x256x1 : Shape := ⟨5, ![16, 2, 4, 256, 1]⟩
abbrev S16x2x128x4x256 : Shape := ⟨5, ![16, 2, 128, 4, 256]⟩

abbrev nBuf : Space → Nat
  | .hbm => 78
  | .vmem => 0
  | .smem => 0
  | _ => 0

abbrev bufTy : (tb : Table) → Fin (tcTables nBuf tb) → BufTy
  | .hbm, ⟨0, _⟩ => ⟨S4096x6272, .f32⟩
  | .hbm, ⟨1, _⟩ => ⟨S128, .f32⟩
  | .hbm, ⟨2, _⟩ => ⟨S128, .f32⟩
  | .hbm, ⟨3, _⟩ => ⟨S4096x1024, .f32⟩
  | .hbm, ⟨4, _⟩ => ⟨S4096x256, .f32⟩
  | .hbm, ⟨5, _⟩ => ⟨S4096x256, .f32⟩
  | .hbm, ⟨6, _⟩ => ⟨S4096x1024, .f32⟩
  | .hbm, ⟨7, _⟩ => ⟨S4096x3712, .f32⟩
  | .hbm, ⟨8, _⟩ => ⟨S16x256x8x128, .f32⟩
  | .hbm, ⟨9, _⟩ => ⟨S16x256x8x128, .f32⟩
  | .hbm, ⟨10, _⟩ => ⟨S_, .f32⟩
  | .hbm, ⟨11, _⟩ => ⟨S16x256x8, .f32⟩
  | .hbm, ⟨12, _⟩ => ⟨S16x256x8x1, .f32⟩
  | .hbm, ⟨13, _⟩ => ⟨S_, .f32⟩
  | .hbm, ⟨14, _⟩ => ⟨S16x256x8x1, .f32⟩
  | .hbm, ⟨15, _⟩ => ⟨S16x256x8x1, .f32⟩
  | .hbm, ⟨16, _⟩ => ⟨S_, .f32⟩
  | .hbm, ⟨17, _⟩ => ⟨S16x256x8x1, .f32⟩
  | .hbm, ⟨18, _⟩ => ⟨S16x256x8x1, .f32⟩
  | .hbm, ⟨19, _⟩ => ⟨S16x256x8x1, .f32⟩
  | .hbm, ⟨20, _⟩ => ⟨S16x256x8x128, .f32⟩
  | .hbm, ⟨21, _⟩ => ⟨S16x256x8x128, .f32⟩
  | .hbm, ⟨22, _⟩ => ⟨S1x1x1x128, .f32⟩
  | .hbm, ⟨23, _⟩ => ⟨S16x256x8x128, .f32⟩
  | .hbm, ⟨24, _⟩ => ⟨S16x256x8x128, .f32⟩
  | .hbm, ⟨25, _⟩ => ⟨S16x256x2x4x128, .f32⟩
  | .hbm, ⟨26, _⟩ => ⟨S16x256x2x128, .f32⟩
  | .hbm, ⟨27, _⟩ => ⟨S16x256x2x128, .f32⟩
  | .hbm, ⟨28, _⟩ => ⟨S_, .f32⟩
  | .hbm, ⟨29, _⟩ => ⟨S16x256x2, .f32⟩
  | .hbm, ⟨30, _⟩ => ⟨S16x256x2x1, .f32⟩
  | .hbm, ⟨31, _⟩ => ⟨S_, .f32⟩
  | .hbm, ⟨32, _⟩ => ⟨S16x256x2x1, .f32⟩
  | .hbm, ⟨33, _⟩ => ⟨S16x256x2x1, .f32⟩
  | .hbm, ⟨34, _⟩ => ⟨S_, .f32⟩
  | .hbm, ⟨35, _⟩ => ⟨S16x256x2x1, .f32⟩
  | .hbm, ⟨36, _⟩ => ⟨S16x256x2x1, .f32⟩
  | .hbm, ⟨37, _⟩ => ⟨S16x256x2x1, .f32⟩
  | .hbm, ⟨38, _⟩ => ⟨S16x256x2x128, .f32⟩
  | .hbm, ⟨39, _⟩ => ⟨S16x256x2x128, .f32⟩
  | .hbm, ⟨40, _⟩ => ⟨S1x1x1x128, .f32⟩
  | .hbm, ⟨41, _⟩ => ⟨S16x256x2x128, .f32⟩
  | .hbm, ⟨42, _⟩ => ⟨S16x256x2x128, .f32⟩
  | .hbm, ⟨43, _⟩ => ⟨S16x256x2x128, .f32⟩
  | .hbm, ⟨44, _⟩ => ⟨S16x2x256x256x4, .f32⟩
  | .hbm, ⟨45, _⟩ => ⟨S16x2x4x256x256, .f32⟩
  | .hbm, ⟨46, _⟩ => ⟨S_, .f32⟩
  | .hbm, ⟨47, _⟩ => ⟨S16x2x4x256x256, .f32⟩
  | .hbm, ⟨48, _⟩ => ⟨S16x2x4x256x256, .f32⟩
  | .hbm, ⟨49, _⟩ => ⟨S_, .f32⟩
  | .hbm, ⟨50, _⟩ => ⟨S16x2x4x256, .f32⟩
  | .hbm, ⟨51, _⟩ => ⟨S_, .f32⟩
  | .hbm, ⟨52, _⟩ => ⟨S16x2x4x256, .f32⟩
  | .hbm, ⟨53, _⟩ => ⟨S16x2x4x256, .f32⟩
  | .hbm, ⟨54, _⟩ => ⟨S16x2x4x256x1, .f32⟩
  | .hbm, ⟨55, _⟩ => ⟨S16x2x4x256x256, .f32⟩
  | .hbm, ⟨56, _⟩ => ⟨S16x2x4x256x256, .f32⟩
  | .hbm, ⟨57, _⟩ => ⟨S16x2x4x256x256, .f32⟩
  | .hbm, ⟨58, _⟩ => ⟨S_, .f32⟩
  | .hbm, ⟨59, _⟩ => ⟨S16x2x4x256, .f32⟩
  | .hbm, ⟨60, _⟩ => ⟨S16x2x4x256x1, .f32⟩
  | .hbm, ⟨61, _⟩ => ⟨S16x2x4x256x256, .f32⟩
  | .hbm, ⟨62, _⟩ => ⟨S16x2x4x256x256, .f32⟩
  | .hbm, ⟨63, _⟩ => ⟨S16x2x128x4x256, .f32⟩
  | .hbm, ⟨64, _⟩ => ⟨S16x256x2x4x128, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S_, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S4096x256, .f32⟩
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_5 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_cst_7 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_8 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_call0_v0 : Ref sig .tc := ⟨.hbm, 66, rfl⟩
abbrev main_call0_v1 : Ref sig .tc := ⟨.hbm, 67, rfl⟩
abbrev main_call0_cst : Ref sig .tc := ⟨.hbm, 68, rfl⟩
abbrev main_call0_v2 : Ref sig .tc := ⟨.hbm, 69, rfl⟩
abbrev main_call0_v3 : Ref sig .tc := ⟨.hbm, 70, rfl⟩
abbrev main_call0_cst_0 : Ref sig .tc := ⟨.hbm, 71, rfl⟩
abbrev main_call0_v4 : Ref sig .tc := ⟨.hbm, 72, rfl⟩
abbrev main_call0_v5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== InProj.lean ====
abbrev S4096x2048 : Shape := ⟨2, ![4096, 2048]⟩
abbrev S8x6144 : Shape := ⟨2, ![8, 6144]⟩
abbrev S2048 : Shape := ⟨1, ![2048]⟩
abbrev S2x2048x6160 : Shape := ⟨3, ![2, 2048, 6160]⟩
abbrev S1x2048 : Shape := ⟨2, ![1, 2048]⟩
abbrev S4096x6272 : Shape := ⟨2, ![4096, 6272]⟩
abbrev S1024x2048 : Shape := ⟨2, ![1024, 2048]⟩
abbrev S1x2048x896 : Shape := ⟨3, ![1, 2048, 896]⟩
abbrev S1024x896 : Shape := ⟨2, ![1024, 896]⟩
abbrev S256x2048 : Shape := ⟨2, ![256, 2048]⟩
abbrev S256 : Shape := ⟨1, ![256]⟩
abbrev S256x1 : Shape := ⟨2, ![256, 1]⟩
abbrev S2048x896 : Shape := ⟨2, ![2048, 896]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S8x6144, .f32⟩
  | .hbm, ⟨2, _⟩ => ⟨S2048, .f32⟩
  | .hbm, ⟨3, _⟩ => ⟨S2x2048x6160, .f32⟩
  | .hbm, ⟨4, _⟩ => ⟨S1x2048, .f32⟩
  | .hbm, ⟨5, _⟩ => ⟨S4096x6272, .f32⟩
  | .local _ .vmem, ⟨0, _⟩ => ⟨S1024x2048, .f32⟩
  | .local _ .vmem, ⟨1, _⟩ => ⟨S1024x2048, .f32⟩
  | .local _ .vmem, ⟨2, _⟩ => ⟨S8x6144, .f32⟩
  | .local _ .vmem, ⟨3, _⟩ => ⟨S1x2048, .f32⟩
  | .local _ .vmem, ⟨4, _⟩ => ⟨S1x2048x896, .f32⟩
  | .local _ .vmem, ⟨5, _⟩ => ⟨S1x2048x896, .f32⟩
  | .local _ .vmem, ⟨6, _⟩ => ⟨S1024x896, .f32⟩
  | .local _ .vmem, ⟨7, _⟩ => ⟨S1024x896, .f32⟩
  | .local _ .vmem, ⟨8, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 7], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_12 : BitVec 32 := 0#32
  let c4_i32 : BitVec 32 := 4#32
  let v13 : BitVec 32 := Scalar.addi c0_i32_12 c4_i32
  let c1_i32 : BitVec 32 := 1#32
  ⟨c0_i32_12, v13, c1_i32⟩
def k0_mult1 (k0_t1 : Fin k0_t1_loop.trips) : BitVec 32 :=
  let c0_i32_12 : BitVec 32 := 0#32
  let c1_i32 : BitVec 32 := 1#32
  let arg8 : BitVec 32 := Scf.iv c0_i32_12 c1_i32 k0_t1
  let c256_i32 : BitVec 32 := 256#32
  let v14 : BitVec 32 := Scalar.muli arg8 c256_i32
  v14
def k0_off1 (k0_t1 : Fin k0_t1_loop.trips) : Fin 2 → Nat :=
  let c0_i32_12 : BitVec 32 := 0#32
  let c1_i32 : BitVec 32 := 1#32
  let arg8 : BitVec 32 := Scf.iv c0_i32_12 c1_i32 k0_t1
  let c256_i32 : BitVec 32 := 256#32
  let v14 : BitVec 32 := Scalar.muli arg8 c256_i32
  let v15 : BitVec 32 := v14
  let v16 : Index := Scalar.indexCast v15
  let c0_14 : Index := 0#32
  ![v16.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x896 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x896 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== InProjRefIdeal.lean ====
abbrev S4096x2048 : Shape := ⟨2, ![4096, 2048]⟩
abbrev S8x6144 : Shape := ⟨2, ![8, 6144]⟩
abbrev S2048 : Shape := ⟨1, ![2048]⟩
abbrev S2x2048x6160 : Shape := ⟨3, ![2, 2048, 6160]⟩
abbrev S1x6144 : Shape := ⟨2, ![1, 6144]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x2048x6160 : Shape := ⟨3, ![1, 2048, 6160]⟩
abbrev S2048x6160 : Shape := ⟨2, ![2048, 6160]⟩
abbrev S4096x6160 : Shape := ⟨2, ![4096, 6160]⟩
abbrev S4096x6272 : Shape := ⟨2, ![4096, 6272]⟩

abbrev nBuf : Space → Nat
  | .hbm => 37
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S8x6144, .f32⟩
  | .hbm, ⟨2, _⟩ => ⟨S2048, .f32⟩
  | .hbm, ⟨3, _⟩ => ⟨S2x2048x6160, .f32⟩
  | .hbm, ⟨4, _⟩ => ⟨S1x6144, .f32⟩
  | .hbm, ⟨5, _⟩ => ⟨S1x2048, .f32⟩
  | .hbm, ⟨6, _⟩ => ⟨S1x2048, .f32⟩
  | .hbm, ⟨7, _⟩ => ⟨S1x2048, .f32⟩
  | .hbm, ⟨8, _⟩ => ⟨S4096x2048, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S1x2048x6160, .f32⟩
  | .hbm, ⟨32, _⟩ => ⟨S2048x6160, .f32⟩
  | .hbm, ⟨33, _⟩ => ⟨S4096x6160, .f32⟩
  | .hbm, ⟨34, _⟩ => ⟨S_, .i32⟩
  | .hbm, ⟨35, _⟩ => ⟨S_, .f32⟩
  | .hbm, ⟨36, _⟩ => ⟨S4096x6272, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c : Ref sig .tc := ⟨.hbm, 34, rfl⟩
abbrev main_call0_v0 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== OutProj.lean ====
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S8x6144 : Shape := ⟨2, ![8, 6144]⟩
abbrev S1024x1024 : Shape := ⟨2, ![1024, 1024]⟩
abbrev S1024x512 : Shape := ⟨2, ![1024, 512]⟩
abbrev S1x1024x512 : Shape := ⟨3, ![1, 1024, 512]⟩
abbrev S1x512x512 : Shape := ⟨3, ![1, 512, 512]⟩
abbrev S8x512 : Shape := ⟨2, ![8, 512]⟩
abbrev S1x512 : Shape := ⟨2, ![1, 512]⟩
abbrev S512x512 : Shape := ⟨2, ![512, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S2x2048x2048, .f32⟩
  | .hbm, ⟨4, _⟩ => ⟨S4096x2048, .f32⟩
  | .hbm, ⟨5, _⟩ => ⟨S8x6144, .f32⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x512, .f32⟩
  | .local _ .vmem, ⟨17, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjRefIdeal.lean ====
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S8x6144 : Shape := ⟨2, ![8, 6144]⟩
abbrev S1x6144 : Shape := ⟨2, ![1, 6144]⟩
abbrev S1x2048 : Shape := ⟨2, ![1, 2048]⟩
abbrev S1x2048x2048 : Shape := ⟨3, ![1, 2048, 2048]⟩
abbrev S2048x2048 : Shape := ⟨2, ![2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S2x2048x2048, .f32⟩
  | .hbm, ⟨4, _⟩ => ⟨S4096x2048, .f32⟩
  | .hbm, ⟨5, _⟩ => ⟨S8x6144, .f32⟩
  | .hbm, ⟨6, _⟩ => ⟨S1x6144, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S4096x2048, .bf16⟩
  | .hbm, ⟨11, _⟩ => ⟨S4096x2048, .f32⟩
  | .hbm, ⟨12, _⟩ => ⟨S1x2048x2048, .f32⟩
  | .hbm, ⟨13, _⟩ => ⟨S2048x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Mlstm.lean ====
abbrev S4096x6272 : Shape := ⟨2, ![4096, 6272]⟩
abbrev S16 : Shape := ⟨1, ![16]⟩
abbrev S3x1024 : Shape := ⟨2, ![3, 1024]⟩
abbrev S1024 : Shape := ⟨1, ![1024]⟩
abbrev S512 : Shape := ⟨1, ![512]⟩
abbrev S_ : Shape := ⟨0, ![]⟩
abbrev S128 : Shape := ⟨1, ![128]⟩
abbrev S1x128 : Shape := ⟨2, ![1, 128]⟩
abbrev S1x1024 : Shape := ⟨2, ![1, 1024]⟩
abbrev S1x512 : Shape := ⟨2, ![1, 512]⟩
abbrev S4096x512 : Shape := ⟨2, ![4096, 512]⟩
abbrev S16x2x4x128x128 : Shape := ⟨5, ![16, 2, 4, 128, 128]⟩
abbrev S16x4x2x128 : Shape := ⟨4, ![16, 4, 2, 128]⟩
abbrev S16x4x2x1 : Shape := ⟨4, ![16, 4, 2, 1]⟩
abbrev S256x128 : Shape := ⟨2, ![256, 128]⟩
abbrev S3x128 : Shape := ⟨2, ![3, 128]⟩
abbrev S1x2x1x128x128 : Shape := ⟨5, ![1, 2, 1, 128, 128]⟩
abbrev S1x1x2x128 : Shape := ⟨4, ![1, 1, 2, 128]⟩
abbrev S1x1x2x1 : Shape := ⟨4, ![1, 1, 2, 1]⟩
abbrev S256x256 : Shape := ⟨2, ![256, 256]⟩
abbrev S256 : Shape := ⟨1, ![256]⟩
abbrev S256x1 : Shape := ⟨2, ![256, 1]⟩
abbrev S128x256 : Shape := ⟨2, ![128, 256]⟩
abbrev S1x1 : Shape := ⟨2, ![1, 1]⟩
abbrev S1x256 : Shape := ⟨2, ![1, 256]⟩
abbrev S1 : Shape := ⟨1, ![1]⟩
abbrev S128x128 : Shape := ⟨2, ![128, 128]⟩
abbrev S1x1x1x128x128 : Shape := ⟨5, ![1, 1, 1, 128, 128]⟩
abbrev S1x1x1x128 : Shape := ⟨4, ![1, 1, 1, 128]⟩
abbrev S1x1x1x1 : Shape := ⟨4, ![1, 1, 1, 1]⟩

abbrev nBuf : Space → Nat
  | .hbm => 15
  | .vmem => 31
  | .smem => 0
  | _ => 0

abbrev bufTy : (tb : Table) → Fin (tcTables nBuf tb) → BufTy
  | .hbm, ⟨0, _⟩ => ⟨S4096x6272, .f32⟩
  | .hbm, ⟨1, _⟩ => ⟨S16, .f32⟩
  | .hbm, ⟨2, _⟩ => ⟨S3x1024, .f32⟩
  | .hbm, ⟨3, _⟩ => ⟨S1024, .f32⟩
  | .hbm, ⟨4, _⟩ => ⟨S512, .f32⟩
  | .hbm, ⟨5, _⟩ => ⟨S_, .i32⟩
  | .hbm, ⟨6, _⟩ => ⟨S_, .f32⟩
  | .hbm, ⟨7, _⟩ => ⟨S128, .f32⟩
  | .hbm, ⟨8, _⟩ => ⟨S1x128, .f32⟩
  | .hbm, ⟨9, _⟩ => ⟨S1x1024, .f32⟩
  | .hbm, ⟨10, _⟩ => ⟨S1x512, .f32⟩
  | .hbm, ⟨11, _⟩ => ⟨S4096x512, .bf16⟩
  | .hbm, ⟨12, _⟩ => ⟨S16x2x4x128x128, .f32⟩
  | .hbm, ⟨13, _⟩ => ⟨S16x4x2x128, .f32⟩
  | .hbm, ⟨14, _⟩ => ⟨S16x4x2x1, .f32⟩
  | .local _ .vmem, ⟨0, _⟩ => ⟨S256x128, .f32⟩
  | .local _ .vmem, ⟨1, _⟩ => ⟨S256x128, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x128, .f32⟩
  | .local _ .vmem, ⟨13, _⟩ => ⟨S3x128, .f32⟩
  | .local _ .vmem, ⟨14, _⟩ => ⟨S3x128, .f32⟩
  | .local _ .vmem, ⟨15, _⟩ => ⟨S3x128, .f32⟩
  | .local _ .vmem, ⟨16, _⟩ => ⟨S3x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S256x128, .bf16⟩
  | .local _ .vmem, ⟨24, _⟩ => ⟨S256x128, .bf16⟩
  | .local _ .vmem, ⟨25, _⟩ => ⟨S1x2x1x128x128, .f32⟩
  | .local _ .vmem, ⟨26, _⟩ => ⟨S1x2x1x128x128, .f32⟩
  | .local _ .vmem, ⟨27, _⟩ => ⟨S1x1x2x128, .f32⟩
  | .local _ .vmem, ⟨28, _⟩ => ⟨S1x1x2x128, .f32⟩
  | .local _ .vmem, ⟨29, _⟩ => ⟨S1x1x2x1, .f32⟩
  | .local _ .vmem, ⟨30, _⟩ => ⟨S1x1x2x1, .f32⟩
  | _, _ => ⟨S4096x6272, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c40_i32 : BitVec 32 := 40#32
  let c0_i32 : BitVec 32 := 0#32
  ![arg0.toNat, c40_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S3x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x1x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x2x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x2x1 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== MlstmRefIdeal.lean ====
abbrev S4096x6272 : Shape := ⟨2, ![4096, 6272]⟩
abbrev S16 : Shape := ⟨1, ![16]⟩
abbrev S3x1024 : Shape := ⟨2, ![3, 1024]⟩
abbrev S1024 : Shape := ⟨1, ![1024]⟩
abbrev S512 : Shape := ⟨1, ![512]⟩
abbrev S4096x1024 : Shape := ⟨2, ![4096, 1024]⟩
abbrev S16x256x1024 : Shape := ⟨3, ![16, 256, 1024]⟩
abbrev S_ : Shape := ⟨0, ![]⟩
abbrev S16x258x1024 : Shape := ⟨3, ![16, 258, 1024]⟩
abbrev S1x1024 : Shape := ⟨2, ![1, 1024]⟩
abbrev S1x1x1024 : Shape := ⟨3, ![1, 1, 1024]⟩
abbrev S16x256x512 : Shape := ⟨3, ![16, 256, 512]⟩
abbrev S4096x512 : Shape := ⟨2, ![4096, 512]⟩
abbrev S4096x16 : Shape := ⟨2, ![4096, 16]⟩
abbrev S16x256x16 : Shape := ⟨3, ![16, 256, 16]⟩
abbrev S16x256x4x128 : Shape := ⟨4, ![16, 256, 4, 128]⟩
abbrev S256x16x4x128 : Shape := ⟨4, ![256, 16, 4, 128]⟩
abbrev S1x1x16 : Shape := ⟨3, ![1, 1, 16]⟩
abbrev S16x256x4x4 : Shape := ⟨4, ![16, 256, 4, 4]⟩
abbrev S4x256x16x4 : Shape := ⟨4, ![4, 256, 16, 4]⟩
abbrev S256x16x1x4x128 : Shape := ⟨5, ![256, 16, 1, 4, 128]⟩
abbrev S256x16x2x4x128 : Shape := ⟨5, ![256, 16, 2, 4, 128]⟩
abbrev S1x256x16x4 : Shape := ⟨4, ![1, 256, 16, 4]⟩
abbrev S256x16x4 : Shape := ⟨3, ![256, 16, 4]⟩
abbrev S256x16x1x4 : Shape := ⟨4, ![256, 16, 1, 4]⟩
abbrev S256x16x2x4 : Shape := ⟨4, ![256, 16, 2, 4]⟩
abbrev S16x2x4x128x128 : Shape := ⟨5, ![16, 2, 4, 128, 128]⟩
abbrev S16x2x4x128 : Shape := ⟨4, ![16, 2, 4, 128]⟩
abbrev S16x2x4 : Shape := ⟨3, ![16, 2, 4]⟩
abbrev S1x16x2x4x128 : Shape := ⟨5, ![1, 16, 2, 4, 128]⟩
abbrev S1x16x2x4 : Shape := ⟨4, ![1, 16, 2, 4]⟩
abbrev S16x2x4x1 : Shape := ⟨4, ![16, 2, 4, 1]⟩
abbrev S16x2x4x1x1 : Shape := ⟨5, ![16, 2, 4, 1, 1]⟩
abbrev S16x2x4x128x1 : Shape := ⟨5, ![16, 2, 4, 128, 1]⟩
abbrev S16x2x4x1x128 : Shape := ⟨5, ![16, 2, 4, 1, 128]⟩
abbrev S4x128 : Shape := ⟨2, ![4, 128]⟩
abbrev S16x256x4 : Shape := ⟨3, ![16, 256, 4]⟩
abbrev S16x256x4x1 : Shape := ⟨4, ![16, 256, 4, 1]⟩
abbrev S1x1x4x128 : Shape := ⟨4, ![1, 1, 4, 128]⟩
abbrev S16x4x2x128 : Shape := ⟨4, ![16, 4, 2, 128]⟩
abbrev S16x4x2 : Shape := ⟨3, ![16, 4, 2]⟩
abbrev S16x4x2x1 : Shape := ⟨4, ![16, 4, 2, 1]⟩

abbrev nBuf : Space → Nat
  | .hbm => 254
  | .vmem => 0
  | .smem => 0
  | _ => 0

abbrev hbmTy0_0 (i : Nat) : BufTy := match i % 128 with
  | 0 => ⟨S4096x6272, .f32⟩
  | 1 => ⟨S16, .f32⟩
  | 2 => ⟨S3x1024, .f32⟩
  | 3 => ⟨S1024, .f32⟩
  | 4 => ⟨S512, .f32⟩
  | 5 => ⟨S4096x1024, .f32⟩
  | 6 => ⟨S16x256x1024, .f32⟩
  | 7 => ⟨S_, .i32⟩
  | 8 => ⟨S_, .f32⟩
  | 9 => ⟨S16x258x1024, .f32⟩
  | 10 => ⟨S16x256x1024, .f32⟩
  | 11 => ⟨S1x1024, .f32⟩
  | 12 => ⟨S1024, .f32⟩
  | 13 => ⟨S1x1x1024, .f32⟩
  | 14 => ⟨S16x256x1024, .f32⟩
  | 15 => ⟨S16x256x1024, .f32⟩
  | 16 => ⟨S_, .f32⟩
  | 17 => ⟨S16x256x1024, .f32⟩
  | 18 => ⟨S16x256x1024, .f32⟩
  | 19 => ⟨S16x256x1024, .f32⟩
  | 20 => ⟨S1x1024, .f32⟩
  | 21 => ⟨S1024, .f32⟩
  | 22 => ⟨S1x1x1024, .f32⟩
  | 23 => ⟨S16x256x1024, .f32⟩
  | 24 => ⟨S16x256x1024, .f32⟩
  | 25 => ⟨S16x256x1024, .f32⟩
  | 26 => ⟨S16x256x1024, .f32⟩
  | 27 => ⟨S1x1024, .f32⟩
  | 28 => ⟨S1024, .f32⟩
  | 29 => ⟨S1x1x1024, .f32⟩
  | 30 => ⟨S16x256x1024, .f32⟩
  | 31 => ⟨S16x256x1024, .f32⟩
  | 32 => ⟨S16x256x1024, .f32⟩
  | 33 => ⟨S1x1x1024, .f32⟩
  | 34 => ⟨S16x256x1024, .f32⟩
  | 35 => ⟨S16x256x1024, .f32⟩
  | 36 => ⟨S16x256x1024, .f32⟩
  | 37 => ⟨S16x256x1024, .f32⟩
  | 38 => ⟨S_, .f32⟩
  | 39 => ⟨S16x256x1024, .f32⟩
  | 40 => ⟨S16x256x1024, .f32⟩
  | 41 => ⟨S_, .f32⟩
  | 42 => ⟨S16x256x1024, .f32⟩
  | 43 => ⟨S16x256x1024, .f32⟩
  | 44 => ⟨S16x256x1024, .f32⟩
  | 45 => ⟨S16x256x512, .f32⟩
  | 46 => ⟨S16x256x512, .f32⟩
  | 47 => ⟨S4096x512, .f32⟩
  | 48 => ⟨S16x256x512, .f32⟩
  | 49 => ⟨S4096x16, .f32⟩
  | 50 => ⟨S16x256x16, .f32⟩
  | 51 => ⟨S16x256x4x128, .f32⟩
  | 52 => ⟨S256x16x4x128, .f32⟩
  | 53 => ⟨S16x256x4x128, .f32⟩
  | 54 => ⟨S256x16x4x128, .f32⟩
  | 55 => ⟨S_, .f32⟩
  | 56 => ⟨S256x16x4x128, .f32⟩
  | 57 => ⟨S256x16x4x128, .f32⟩
  | 58 => ⟨S16x256x4x128, .f32⟩
  | 59 => ⟨S256x16x4x128, .f32⟩
  | 60 => ⟨S1x1x16, .f32⟩
  | 61 => ⟨S16x256x16, .f32⟩
  | 62 => ⟨S16x256x16, .f32⟩
  | 63 => ⟨S16x256x4x4, .f32⟩
  | 64 => ⟨S4x256x16x4, .f32⟩
  | 65 => ⟨S256x16x4x128, .f32⟩
  | 66 => ⟨S256x16x1x4x128, .f32⟩
  | 67 => ⟨S256x16x1x4x128, .f32⟩
  | 68 => ⟨S256x16x2x4x128, .f32⟩
  | 69 => ⟨S256x16x4x128, .f32⟩
  | 70 => ⟨S256x16x1x4x128, .f32⟩
  | 71 => ⟨S256x16x1x4x128, .f32⟩
  | 72 => ⟨S256x16x2x4x128, .f32⟩
  | 73 => ⟨S256x16x4x128, .f32⟩
  | 74 => ⟨S256x16x1x4x128, .f32⟩
  | 75 => ⟨S256x16x1x4x128, .f32⟩
  | 76 => ⟨S256x16x2x4x128, .f32⟩
  | 77 => ⟨S1x256x16x4, .f32⟩
  | 78 => ⟨S256x16x4, .f32⟩
  | 79 => ⟨S1x256x16x4, .f32⟩
  | 80 => ⟨S256x16x4, .f32⟩
  | 81 => ⟨S256x16x4, .f32⟩
  | 82 => ⟨S256x16x1x4, .f32⟩
  | 83 => ⟨S256x16x1x4, .f32⟩
  | 84 => ⟨S256x16x2x4, .f32⟩
  | 85 => ⟨S1x256x16x4, .f32⟩
  | 86 => ⟨S256x16x4, .f32⟩
  | 87 => ⟨S1x256x16x4, .f32⟩
  | 88 => ⟨S256x16x4, .f32⟩
  | 89 => ⟨S256x16x4, .f32⟩
  | 90 => ⟨S256x16x1x4, .f32⟩
  | 91 => ⟨S256x16x1x4, .f32⟩
  | 92 => ⟨S256x16x2x4, .f32⟩
  | 93 => ⟨S256x16x2x4, .f32⟩
  | 94 => ⟨S_, .f32⟩
  | 95 => ⟨S256x16x2x4, .f32⟩
  | 96 => ⟨S256x16x2x4, .f32⟩
  | 97 => ⟨S256x16x2x4, .f32⟩
  | 98 => ⟨S256x16x2x4, .f32⟩
  | 99 => ⟨S256x16x2x4, .i1⟩
  | 100 => ⟨S256x16x2x4, .f32⟩
  | 101 => ⟨S256x16x2x4, .f32⟩
  | 102 => ⟨S256x16x2x4, .f32⟩
  | 103 => ⟨S256x16x2x4, .f32⟩
  | 104 => ⟨S256x16x2x4, .f32⟩
  | 105 => ⟨S256x16x2x4, .f32⟩
  | 106 => ⟨S256x16x2x4, .f32⟩
  | 107 => ⟨S256x16x2x4, .f32⟩
  | 108 => ⟨S256x16x2x4, .f32⟩
  | 109 => ⟨S_, .f32⟩
  | 110 => ⟨S16x2x4x128x128, .f32⟩
  | 111 => ⟨S_, .f32⟩
  | 112 => ⟨S16x2x4x128, .f32⟩
  | 113 => ⟨S_, .f32⟩
  | 114 => ⟨S16x2x4, .f32⟩
  | 115 => ⟨S_, .f32⟩
  | 116 => ⟨S256x16x2x4x128, .f32⟩
  | 117 => ⟨S_, .i32⟩
  | 118 => ⟨S256x16x2x4x128, .f32⟩
  | 119 => ⟨S256x16x2x4x128, .f32⟩
  | 120 => ⟨S256x16x2x4x128, .f32⟩
  | 121 => ⟨S256x16x2x4, .f32⟩
  | 122 => ⟨S256x16x2x4, .f32⟩
  | 123 => ⟨S_, .i32⟩
  | 124 => ⟨S16x2x4x128x128, .f32⟩
  | 125 => ⟨S16x2x4x128, .f32⟩
  | 126 => ⟨S16x2x4, .f32⟩
  | 127 => ⟨S256x16x2x4x128, .f32⟩
  | _ => ⟨S4096x6272, .f32⟩

abbrev hbmTy0_1 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S_, .i32⟩
  | 6 => ⟨S1x16x2x4x128, .f32⟩
  | 7 => ⟨S16x2x4x128, .f32⟩
  | 8 => ⟨S_, .i32⟩
  | 9 => ⟨S_, .i32⟩
  | 10 => ⟨S_, .i32⟩
  | 11 => ⟨S_, .i32⟩
  | 12 => ⟨S1x16x2x4x128, .f32⟩
  | 13 => ⟨S16x2x4x128, .f32⟩
  | 14 => ⟨S_, .i32⟩
  | 15 => ⟨S_, .i32⟩
  | 16 => ⟨S_, .i32⟩
  | 17 => ⟨S_, .i32⟩
  | 18 => ⟨S1x16x2x4x128, .f32⟩
  | 19 => ⟨S16x2x4x128, .f32⟩
  | 20 => ⟨S_, .i32⟩
  | 21 => ⟨S_, .i32⟩
  | 22 => ⟨S_, .i32⟩
  | 23 => ⟨S1x16x2x4, .f32⟩
  | 24 => ⟨S16x2x4, .f32⟩
  | 25 => ⟨S_, .i32⟩
  | 26 => ⟨S_, .i32⟩
  | 27 => ⟨S_, .i32⟩
  | 28 => ⟨S1x16x2x4, .f32⟩
  | 29 => ⟨S16x2x4, .f32⟩
  | 30 => ⟨S16x2x4, .f32⟩
  | 31 => ⟨S16x2x4, .f32⟩
  | 32 => ⟨S16x2x4, .f32⟩
  | 33 => ⟨S16x2x4, .f32⟩
  | 34 => ⟨S16x2x4, .f32⟩
  | 35 => ⟨S16x2x4, .f32⟩
  | 36 => ⟨S16x2x4, .f32⟩
  | 37 => ⟨S16x2x4x1, .f32⟩
  | 38 => ⟨S16x2x4x128, .f32⟩
  | 39 => ⟨S16x2x4x128, .f32⟩
  | 40 => ⟨S16x2x4x1x1, .f32⟩
  | 41 => ⟨S16x2x4x128x128, .f32⟩
  | 42 => ⟨S16x2x4x128x128, .f32⟩
  | 43 => ⟨S16x2x4x128x1, .f32⟩
  | 44 => ⟨S16x2x4x1x128, .f32⟩
  | 45 => ⟨S16x2x4x128x128, .f32⟩
  | 46 => ⟨S16x2x4x128x128, .f32⟩
  | 47 => ⟨S16x2x4x128x128, .f32⟩
  | 48 => ⟨S16x2x4x128x128, .f32⟩
  | 49 => ⟨S16x2x4x1, .f32⟩
  | 50 => ⟨S16x2x4x128, .f32⟩
  | 51 => ⟨S16x2x4x128, .f32⟩
  | 52 => ⟨S16x2x4x128, .f32⟩
  | 53 => ⟨S16x2x4x128x1, .f32⟩
  | 54 => ⟨S16x2x4x128x128, .f32⟩
  | 55 => ⟨S16x2x4x128x128, .f32⟩
  | 56 => ⟨S_, .f32⟩
  | 57 => ⟨S16x2x4x128, .f32⟩
  | 58 => ⟨S16x2x4x128, .f32⟩
  | 59 => ⟨S_, .f32⟩
  | 60 => ⟨S16x2x4, .f32⟩
  | 61 => ⟨S16x2x4, .f32⟩
  | 62 => ⟨S16x2x4, .f32⟩
  | 63 => ⟨S16x2x4, .f32⟩
  | 64 => ⟨S16x2x4, .f32⟩
  | 65 => ⟨S16x2x4x1, .f32⟩
  | 66 => ⟨S16x2x4x128, .f32⟩
  | 67 => ⟨S16x2x4x128, .f32⟩
  | 68 => ⟨S1x16x2x4x128, .f32⟩
  | 69 => ⟨S_, .i32⟩
  | 70 => ⟨S_, .i32⟩
  | 71 => ⟨S_, .i32⟩
  | 72 => ⟨S_, .i32⟩
  | 73 => ⟨S256x16x2x4x128, .f32⟩
  | 74 => ⟨S_, .i32⟩
  | 75 => ⟨S_, .i32⟩
  | 76 => ⟨S256x16x1x4x128, .f32⟩
  | 77 => ⟨S256x16x4x128, .f32⟩
  | 78 => ⟨S256x16x1x4x128, .f32⟩
  | 79 => ⟨S256x16x4x128, .f32⟩
  | 80 => ⟨S256x16x4x128, .f32⟩
  | 81 => ⟨S256x16x4x128, .f32⟩
  | 82 => ⟨S16x256x4x128, .f32⟩
  | 83 => ⟨S4x128, .f32⟩
  | 84 => ⟨S16x256x4x128, .f32⟩
  | 85 => ⟨S_, .f32⟩
  | 86 => ⟨S16x256x4, .f32⟩
  | 87 => ⟨S16x256x4x1, .f32⟩
  | 88 => ⟨S_, .f32⟩
  | 89 => ⟨S16x256x4x1, .f32⟩
  | 90 => ⟨S16x256x4x1, .f32⟩
  | 91 => ⟨S_, .f32⟩
  | 92 => ⟨S16x256x4x1, .f32⟩
  | 93 => ⟨S16x256x4x1, .f32⟩
  | 94 => ⟨S16x256x4x1, .f32⟩
  | 95 => ⟨S16x256x4x128, .f32⟩
  | 96 => ⟨S16x256x4x128, .f32⟩
  | 97 => ⟨S1x1x4x128, .f32⟩
  | 98 => ⟨S16x256x4x128, .f32⟩
  | 99 => ⟨S16x256x4x128, .f32⟩
  | 100 => ⟨S4096x512, .f32⟩
  | 101 => ⟨S4096x512, .f32⟩
  | 102 => ⟨S4096x512, .f32⟩
  | 103 => ⟨S4096x512, .f32⟩
  | 104 => ⟨S_, .f32⟩
  | 105 => ⟨S4096x512, .f32⟩
  | 106 => ⟨S4096x512, .f32⟩
  | 107 => ⟨S_, .f32⟩
  | 108 => ⟨S4096x512, .f32⟩
  | 109 => ⟨S4096x512, .f32⟩
  | 110 => ⟨S4096x512, .f32⟩
  | 111 => ⟨S4096x512, .f32⟩
  | 112 => ⟨S4096x512, .f32⟩
  | 113 => ⟨S4096x512, .f32⟩
  | 114 => ⟨S_, .f32⟩
  | 115 => ⟨S4096x512, .f32⟩
  | 116 => ⟨S4096x512, .f32⟩
  | 117 => ⟨S_, .f32⟩
  | 118 => ⟨S4096x512, .f32⟩
  | 119 => ⟨S4096x512, .f32⟩
  | 120 => ⟨S4096x512, .f32⟩
  | 121 => ⟨S4096x512, .f32⟩
  | 122 => ⟨S4096x512, .bf16⟩
  | 123 => ⟨S16x4x2x128, .f32⟩
  | 124 => ⟨S16x4x2, .f32⟩
  | 125 => ⟨S16x4x2x1, .f32⟩
  | _ => ⟨S4096x6272, .f32⟩

abbrev hbmTy (i : Nat) : BufTy := match i / 128 with
  | 0 => hbmTy0_0 i
  | 1 => hbmTy0_1 i
  | _ => ⟨S4096x6272, .f32⟩

abbrev bufTy : (tb : Table) → Fin (tcTables nBuf tb) → BufTy
  | .hbm, ⟨i, _⟩ => hbmTy i
  | _, _ => ⟨S4096x6272, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_0 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_call7_v0 : Ref sig .tc := ⟨.hbm, 93, rfl⟩
abbrev main_call7_call0_cst : Ref sig .tc := ⟨.hbm, 94, rfl⟩
abbrev main_call7_call0_v0 : Ref sig .tc := ⟨.hbm, 95, rfl⟩
abbrev main_call7_call0_v1 : Ref sig .tc := ⟨.hbm, 96, rfl⟩
abbrev main_call7_call0_v2 : Ref sig .tc := ⟨.hbm, 97, rfl⟩
abbrev main_call7_call0_v3 : Ref sig .tc := ⟨.hbm, 98, rfl⟩
abbrev main_call7_call0_v4 : Ref sig .tc := ⟨.hbm, 99, rfl⟩
abbrev main_call7_call0_v5 : Ref sig .tc := ⟨.hbm, 100, rfl⟩
abbrev main_call7_call0_v6 : Ref sig .tc := ⟨.hbm, 101, rfl⟩
abbrev main_call7_call0_v7 : Ref sig .tc := ⟨.hbm, 102, rfl⟩
abbrev main_call7_call0_v8 : Ref sig .tc := ⟨.hbm, 103, rfl⟩
abbrev main_call7_call0_v9 : Ref sig .tc := ⟨.hbm, 104, rfl⟩
abbrev main_call7_call0_v10 : Ref sig .tc := ⟨.hbm, 105, rfl⟩
abbrev main_call7_call0_v11 : Ref sig .tc := ⟨.hbm, 106, rfl⟩
abbrev main_call7_v1 : Ref sig .tc := ⟨.hbm, 107, rfl⟩
abbrev main_v76 : Ref sig .tc := ⟨.hbm, 108, rfl⟩
abbrev main_cst_1 : Ref sig .tc := ⟨.hbm, 109, rfl⟩
abbrev main_v77 : Ref sig .tc := ⟨.hbm, 110, rfl⟩
abbrev main_cst_2 : Ref sig .tc := ⟨.hbm, 111, rfl⟩
abbrev main_v78 : Ref sig .tc := ⟨.hbm, 112, rfl⟩
abbrev main_cst_3 : Ref sig .tc := ⟨.hbm, 113, rfl⟩
abbrev main_v79 : Ref sig .tc := ⟨.hbm, 114, rfl⟩
abbrev main_cst_4 : Ref sig .tc := ⟨.hbm, 115, rfl⟩
abbrev main_v80 : Ref sig .tc := ⟨.hbm, 116, rfl⟩
abbrev main_c_5 : Ref sig .tc := ⟨.hbm, 117, rfl⟩
abbrev main_v81_0 : Ref sig .tc := ⟨.hbm, 118, rfl⟩
abbrev main_v81_1 : Ref sig .tc := ⟨.hbm, 119, rfl⟩
abbrev main_v81_2 : Ref sig .tc := ⟨.hbm, 120, rfl⟩
abbrev main_v81_3 : Ref sig .tc := ⟨.hbm, 121, rfl⟩
abbrev main_v81_4 : Ref sig .tc := ⟨.hbm, 122, rfl⟩
abbrev main_v81_5 : Ref sig .tc := ⟨.hbm, 123, rfl⟩
abbrev main_v81_6 : Ref sig .tc := ⟨.hbm, 124, rfl⟩
abbrev main_v81_7 : Ref sig .tc := ⟨.hbm, 125, rfl⟩
abbrev main_v81_8 : Ref sig .tc := ⟨.hbm, 126, rfl⟩
abbrev main_v81_9 : Ref sig .tc := ⟨.hbm, 127, rfl⟩
abbrev main_while0c_c_20 : Ref sig .tc := ⟨.hbm, 128, rfl⟩
abbrev main_while0c_v119 : Ref sig .tc := ⟨.hbm, 129, rfl⟩
abbrev main_while0b_call8_c : Ref sig .tc := ⟨.hbm, 130, rfl⟩
abbrev main_while0b_call8_c_0 : Ref sig .tc := ⟨.hbm, 131, rfl⟩
abbrev main_while0b_call8_c_1 : Ref sig .tc := ⟨.hbm, 132, rfl⟩
abbrev main_while0b_call8_c_2 : Ref sig .tc := ⟨.hbm, 133, rfl⟩
abbrev main_while0b_call8_v0 : Ref sig .tc := ⟨.hbm, 134, rfl⟩
abbrev main_while0b_v119 : Ref sig .tc := ⟨.hbm, 135, rfl⟩
abbrev main_while0b_call9_c : Ref sig .tc := ⟨.hbm, 136, rfl⟩
abbrev main_while0b_call9_c_0 : Ref sig .tc := ⟨.hbm, 137, rfl⟩
abbrev main_while0b_call9_c_1 : Ref sig .tc := ⟨.hbm, 138, rfl⟩
abbrev main_while0b_call9_c_2 : Ref sig .tc := ⟨.hbm, 139, rfl⟩
abbrev main_while0b_call9_v0 : Ref sig .tc := ⟨.hbm, 140, rfl⟩
abbrev main_while0b_v120 : Ref sig .tc := ⟨.hbm, 141, rfl⟩
abbrev main_while0b_call10_c : Ref sig .tc := ⟨.hbm, 142, rfl⟩
abbrev main_while0b_call10_c_0 : Ref sig .tc := ⟨.hbm, 143, rfl⟩
abbrev main_while0b_call10_c_1 : Ref sig .tc := ⟨.hbm, 144, rfl⟩
abbrev main_while0b_call10_c_2 : Ref sig .tc := ⟨.hbm, 145, rfl⟩
abbrev main_while0b_call10_v0 : Ref sig .tc := ⟨.hbm, 146, rfl⟩
abbrev main_while0b_v121 : Ref sig .tc := ⟨.hbm, 147, rfl⟩
abbrev main_while0b_call11_c : Ref sig .tc := ⟨.hbm, 148, rfl⟩
abbrev main_while0b_call11_c_0 : Ref sig .tc := ⟨.hbm, 149, rfl⟩
abbrev main_while0b_call11_c_1 : Ref sig .tc := ⟨.hbm, 150, rfl⟩
abbrev main_while0b_call11_v0 : Ref sig .tc := ⟨.hbm, 151, rfl⟩
abbrev main_while0b_v122 : Ref sig .tc := ⟨.hbm, 152, rfl⟩
abbrev main_while0b_call12_c : Ref sig .tc := ⟨.hbm, 153, rfl⟩
abbrev main_while0b_call12_c_0 : Ref sig .tc := ⟨.hbm, 154, rfl⟩
abbrev main_while0b_call12_c_1 : Ref sig .tc := ⟨.hbm, 155, rfl⟩
abbrev main_while0b_call12_v0 : Ref sig .tc := ⟨.hbm, 156, rfl⟩
abbrev main_while0b_v123 : Ref sig .tc := ⟨.hbm, 157, rfl⟩
abbrev main_while0b_v124 : Ref sig .tc := ⟨.hbm, 158, rfl⟩
abbrev main_while0b_v125 : Ref sig .tc := ⟨.hbm, 159, rfl⟩
abbrev main_while0b_v126 : Ref sig .tc := ⟨.hbm, 160, rfl⟩
abbrev main_while0b_v127 : Ref sig .tc := ⟨.hbm, 161, rfl⟩
abbrev main_while0b_v128 : Ref sig .tc := ⟨.hbm, 162, rfl⟩
abbrev main_while0b_v129 : Ref sig .tc := ⟨.hbm, 163, rfl⟩
abbrev main_while0b_v130 : Ref sig .tc := ⟨.hbm, 164, rfl⟩
abbrev main_while0b_v131 : Ref sig .tc := ⟨.hbm, 165, rfl⟩
abbrev main_while0b_v132 : Ref sig .tc := ⟨.hbm, 166, rfl⟩
abbrev main_while0b_v133 : Ref sig .tc := ⟨.hbm, 167, rfl⟩
abbrev main_while0b_v134 : Ref sig .tc := ⟨.hbm, 168, rfl⟩
abbrev main_while0b_v135 : Ref sig .tc := ⟨.hbm, 169, rfl⟩
abbrev main_while0b_v136 : Ref sig .tc := ⟨.hbm, 170, rfl⟩
abbrev main_while0b_v137 : Ref sig .tc := ⟨.hbm, 171, rfl⟩
abbrev main_while0b_v138 : Ref sig .tc := ⟨.hbm, 172, rfl⟩
abbrev main_while0b_v139 : Ref sig .tc := ⟨.hbm, 173, rfl⟩
abbrev main_while0b_v140 : Ref sig .tc := ⟨.hbm, 174, rfl⟩
abbrev main_while0b_v141 : Ref sig .tc := ⟨.hbm, 175, rfl⟩
abbrev main_while0b_v142 : Ref sig .tc := ⟨.hbm, 176, rfl⟩
abbrev main_while0b_v143 : Ref sig .tc := ⟨.hbm, 177, rfl⟩
abbrev main_while0b_v144 : Ref sig .tc := ⟨.hbm, 178, rfl⟩
abbrev main_while0b_v145 : Ref sig .tc := ⟨.hbm, 179, rfl⟩
abbrev main_while0b_v146 : Ref sig .tc := ⟨.hbm, 180, rfl⟩
abbrev main_while0b_v147 : Ref sig .tc := ⟨.hbm, 181, rfl⟩
abbrev main_while0b_v148 : Ref sig .tc := ⟨.hbm, 182, rfl⟩
abbrev main_while0b_v149 : Ref sig .tc := ⟨.hbm, 183, rfl⟩
abbrev main_while0b_cst_20 : Ref sig .tc := ⟨.hbm, 184, rfl⟩
abbrev main_while0b_v150 : Ref sig .tc := ⟨.hbm, 185, rfl⟩
abbrev main_while0b_v151 : Ref sig .tc := ⟨.hbm, 186, rfl⟩
abbrev main_while0b_cst_21 : Ref sig .tc := ⟨.hbm, 187, rfl⟩
abbrev main_while0b_v152 : Ref sig .tc := ⟨.hbm, 188, rfl⟩
abbrev main_while0b_v153 : Ref sig .tc := ⟨.hbm, 189, rfl⟩
abbrev main_while0b_v154 : Ref sig .tc := ⟨.hbm, 190, rfl⟩
abbrev main_while0b_v155 : Ref sig .tc := ⟨.hbm, 191, rfl⟩
abbrev main_while0b_v156 : Ref sig .tc := ⟨.hbm, 192, rfl⟩
abbrev main_while0b_v157 : Ref sig .tc := ⟨.hbm, 193, rfl⟩
abbrev main_while0b_v158 : Ref sig .tc := ⟨.hbm, 194, rfl⟩
abbrev main_while0b_v159 : Ref sig .tc := ⟨.hbm, 195, rfl⟩
abbrev main_while0b_call13_v0 : Ref sig .tc := ⟨.hbm, 196, rfl⟩
abbrev main_while0b_call13_c : Ref sig .tc := ⟨.hbm, 197, rfl⟩
abbrev main_while0b_call13_c_0 : Ref sig .tc := ⟨.hbm, 198, rfl⟩
abbrev main_while0b_call13_c_1 : Ref sig .tc := ⟨.hbm, 199, rfl⟩
abbrev main_while0b_call13_c_2 : Ref sig .tc := ⟨.hbm, 200, rfl⟩
abbrev main_while0b_v160 : Ref sig .tc := ⟨.hbm, 201, rfl⟩
abbrev main_while0b_c_22 : Ref sig .tc := ⟨.hbm, 202, rfl⟩
abbrev main_while0b_v161 : Ref sig .tc := ⟨.hbm, 203, rfl⟩
abbrev main_v82 : Ref sig .tc := ⟨.hbm, 204, rfl⟩
abbrev main_v83 : Ref sig .tc := ⟨.hbm, 205, rfl⟩
abbrev main_v84 : Ref sig .tc := ⟨.hbm, 206, rfl⟩
abbrev main_v85 : Ref sig .tc := ⟨.hbm, 207, rfl⟩
abbrev main_v86 : Ref sig .tc := ⟨.hbm, 208, rfl⟩
abbrev main_v87 : Ref sig .tc := ⟨.hbm, 209, rfl⟩
abbrev main_v88 : Ref sig .tc := ⟨.hbm, 210, rfl⟩
abbrev main_v89 : Ref sig .tc := ⟨.hbm, 211, rfl⟩
abbrev main_v90 : Ref sig .tc := ⟨.hbm, 212, rfl⟩
abbrev main_cst_6 : Ref sig .tc := ⟨.hbm, 213, rfl⟩
abbrev main_v91 : Ref sig .tc := ⟨.hbm, 214, rfl⟩
abbrev main_v92 : Ref sig .tc := ⟨.hbm, 215, rfl⟩
abbrev main_cst_7 : Ref sig .tc := ⟨.hbm, 216, rfl⟩
abbrev main_v93 : Ref sig .tc := ⟨.hbm, 217, rfl⟩
abbrev main_v94 : Ref sig .tc := ⟨.hbm, 218, rfl⟩
abbrev main_cst_8 : Ref sig .tc := ⟨.hbm, 219, rfl⟩
abbrev main_v95 : Ref sig .tc := ⟨.hbm, 220, rfl⟩
abbrev main_v96 : Ref sig .tc := ⟨.hbm, 221, rfl⟩
abbrev main_v97 : Ref sig .tc := ⟨.hbm, 222, rfl⟩
abbrev main_v98 : Ref sig .tc := ⟨.hbm, 223, rfl⟩
abbrev main_v99 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_v104 : Ref sig .tc := ⟨.hbm, 229, rfl⟩
abbrev main_v105 : Ref sig .tc := ⟨.hbm, 230, rfl⟩
abbrev main_v106 : Ref sig .tc := ⟨.hbm, 231, rfl⟩
abbrev main_cst_9 : Ref sig .tc := ⟨.hbm, 232, rfl⟩
abbrev main_v107 : Ref sig .tc := ⟨.hbm, 233, rfl⟩
abbrev main_v108 : Ref sig .tc := ⟨.hbm, 234, rfl⟩
abbrev main_cst_10 : Ref sig .tc := ⟨.hbm, 235, rfl⟩
abbrev main_v109 : Ref sig .tc := ⟨.hbm, 236, rfl⟩
abbrev main_v110 : Ref sig .tc := ⟨.hbm, 237, rfl⟩
abbrev main_v111 : Ref sig .tc := ⟨.hbm, 238, rfl⟩
abbrev main_v112 : Ref sig .tc := ⟨.hbm, 239, rfl⟩
abbrev main_call15_v0 : Ref sig .tc := ⟨.hbm, 240, rfl⟩
abbrev main_call15_v1 : Ref sig .tc := ⟨.hbm, 241, rfl⟩
abbrev main_call15_cst : Ref sig .tc := ⟨.hbm, 242, rfl⟩
abbrev main_call15_v2 : Ref sig .tc := ⟨.hbm, 243, rfl⟩
abbrev main_call15_v3 : Ref sig .tc := ⟨.hbm, 244, rfl⟩
abbrev main_call15_cst_0 : Ref sig .tc := ⟨.hbm, 245, rfl⟩
abbrev main_call15_v4 : Ref sig .tc := ⟨.hbm, 246, rfl⟩
abbrev main_call15_v5 : Ref sig .tc := ⟨.hbm, 247, rfl⟩
abbrev main_v113 : Ref sig .tc := ⟨.hbm, 248, rfl⟩
abbrev main_v114 : Ref sig .tc := ⟨.hbm, 249, rfl⟩
abbrev main_v115 : Ref sig .tc := ⟨.hbm, 250, rfl⟩
abbrev main_v116 : Ref sig .tc := ⟨.hbm, 251, rfl⟩
abbrev main_v117 : Ref sig .tc := ⟨.hbm, 252, rfl⟩
abbrev main_v118 : Ref sig .tc := ⟨.hbm, 253, rfl⟩

abbrev nD : Nat := 1
abbrev τ : Topo := Topo.v7x

variable {F : FTy → Type} [FloatOps F]

abbrev main_while0_count : Scf.Loop 32 := ⟨0#32, 256#32, 1#32⟩
-- ==== OutProjSample.lean ====
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S8x6144 : Shape := ⟨2, ![8, 6144]⟩
abbrev S1024x1024 : Shape := ⟨2, ![1024, 1024]⟩
abbrev S1024x512 : Shape := ⟨2, ![1024, 512]⟩
abbrev S1x1024x512 : Shape := ⟨3, ![1, 1024, 512]⟩
abbrev S1x512x512 : Shape := ⟨3, ![1, 512, 512]⟩
abbrev S8x512 : Shape := ⟨2, ![8, 512]⟩
abbrev S1x512 : Shape := ⟨2, ![1, 512]⟩
abbrev S512x512 : Shape := ⟨2, ![512, 512]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S2x2048x2048, .f32⟩
  | .hbm, ⟨4, _⟩ => ⟨S4096x2048, .f32⟩
  | .hbm, ⟨5, _⟩ => ⟨S8x6144, .f32⟩
  | .hbm, ⟨6, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024x512, .f32⟩
  | .local _ .vmem, ⟨7, _⟩ => ⟨S1x1024x512, .f32⟩
  | .local _ .vmem, ⟨8, _⟩ => ⟨S1x512x512, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1024x512, .f32⟩
  | .local _ .vmem, ⟨13, _⟩ => ⟨S1024x512, .f32⟩
  | .local _ .vmem, ⟨14, _⟩ => ⟨S8x512, .f32⟩
  | .local _ .vmem, ⟨15, _⟩ => ⟨S8x512, .f32⟩
  | .local _ .vmem, ⟨16, _⟩ => ⟨S1024x512, .f32⟩
  | .local _ .vmem, ⟨17, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_off1 (i : grid0.Coords) : Fin 2 → Nat :=
  let c1_i32 : BitVec 32 := 1#32
  let arg0 : BitVec 32 := BitVec.ofNat 32 (i 0).val
  let v0 : BitVec 32 := Scalar.addi c1_i32 arg0
  let v1 : Index := Scalar.indexCast v0
  let c0 : Index := 0#32
  ![v1.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c2_i32 : BitVec 32 := 2#32
  let c0_i32 : BitVec 32 := 0#32
  ![c1_i32.toNat, c2_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c3_i32 : BitVec 32 := 3#32
  let c0_i32 : BitVec 32 := 0#32
  ![c1_i32.toNat, c3_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OutProjSampleRefIdeal.lean ====
abbrev S4096x1024 : Shape := ⟨2, ![4096, 1024]⟩
abbrev S4096x512 : Shape := ⟨2, ![4096, 512]⟩
abbrev S2x2048x2048 : Shape := ⟨3, ![2, 2048, 2048]⟩
abbrev S4096x2048 : Shape := ⟨2, ![4096, 2048]⟩
abbrev S8x6144 : Shape := ⟨2, ![8, 6144]⟩
abbrev S4x6144 : Shape := ⟨2, ![4, 6144]⟩
abbrev S4x2048 : Shape := ⟨2, ![4, 2048]⟩
abbrev S1x2048x2048 : Shape := ⟨3, ![1, 2048, 2048]⟩
abbrev S2048x2048 : Shape := ⟨2, ![2048, 2048]⟩
abbrev S4x1024x2048 : Shape := ⟨3, ![4, 1024, 2048]⟩
abbrev S4x1x2048 : Shape := ⟨3, ![4, 1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S2x2048x2048, .f32⟩
  | .hbm, ⟨4, _⟩ => ⟨S4096x2048, .f32⟩
  | .hbm, ⟨5, _⟩ => ⟨S8x6144, .f32⟩
  | .hbm, ⟨6, _⟩ => ⟨S4x6144, .f32⟩
  | .hbm, ⟨7, _⟩ => ⟨S4x2048, .f32⟩
  | .hbm, ⟨8, _⟩ => ⟨S4x2048, .f32⟩
  | .hbm, ⟨9, _⟩ => ⟨S4x2048, .f32⟩
  | .hbm, ⟨10, _⟩ => ⟨S4096x2048, .bf16⟩
  | .hbm, ⟨11, _⟩ => ⟨S4096x2048, .f32⟩
  | .hbm, ⟨12, _⟩ => ⟨S1x2048x2048, .f32⟩
  | .hbm, ⟨13, _⟩ => ⟨S2048x2048, .f32⟩
  | .hbm, ⟨14, _⟩ => ⟨S4096x2048, .f32⟩
  | .hbm, ⟨15, _⟩ => ⟨S4x1024x2048, .f32⟩
  | .hbm, ⟨16, _⟩ => ⟨S4x1x2048, .f32⟩
  | .hbm, ⟨17, _⟩ => ⟨S4x1024x2048, .f32⟩
  | .hbm, ⟨18, _⟩ => ⟨S4x1024x2048, .f32⟩
  | .hbm, ⟨19, _⟩ => ⟨S4x1024x2048, .f32⟩
  | .hbm, ⟨20, _⟩ => ⟨S4x1024x2048, .f32⟩
  | .hbm, ⟨21, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proof.Softmax.lean ====
/- One row of attention over the extended reals: the normalized vectors, the scores, the weights, and the two ways of
   dividing by their sum. -/
module

public import Idealize.ShloMosaic.Lib.Pointwise
public import Idealize.ShloMosaic.Lib.IdealHost

@[expose] public section

noncomputable section

namespace Cert.Layer

open Idealize.ShloMosaic

/-- Entry `d` of a head's vector over its root mean square, times the norm's weight. -/
def normed (x w : Fin 128 → EReal) (d : Fin 128) : EReal :=
  x d * Ideal.rsqrt (Ideal.div (∑ e, x e * x e) (Ideal.ofBits .f32 0x43000000#32) + Ideal.ofBits .f32 0x358637BD#32) * w d

/-- The scaled product of a query and a key. -/
def score (q k : Fin 128 → EReal) : EReal := (∑ d, q d * k d) * Ideal.ofBits .f32 0x3DB504F3#32

/-- The largest score of a row. -/
def top (s : Fin 256 → EReal) : EReal := Finset.univ.fold max (Ideal.ofBits .f32 0xFF800000#32) s

/-- The exponential of how far a score is below the largest. -/
def weight (s : Fin 256 → EReal) (j : Fin 256) : EReal := Ideal.exp (s j - top s)

/-- The sum of a row's weights. -/
def total (s : Fin 256 → EReal) : EReal := ∑ j, weight s j

/-- The gate `g · σ(g)`. -/
def gate (g : EReal) : EReal := g * Ideal.div 1 (1 + Ideal.exp (-g))

theorem bits_bot : Ideal.ofBits .f32 0xFF800000#32 = ⊥ := by simp [Ideal.ofBits, Ideal.ieee]

theorem bits_top : Ideal.ofBits .f32 0x7F800000#32 = ⊤ := by simp [Ideal.ofBits, Ideal.ieee]

theorem bits_width : Ideal.ofBits .f32 0x43000000#32 = ((128 : ℝ) : EReal) := by
  simp [Ideal.ofBits, Ideal.ieee, -EReal.coe_mul]; norm_num

theorem bits_eps : ∃ e : ℝ, 0 < e ∧ Ideal.ofBits .f32 0x358637BD#32 = (e : EReal) := by
  refine ⟨_, ?_, by simp only [Ideal.ofBits, Ideal.ieee]; simp [-EReal.coe_mul]; rfl⟩
  positivity

theorem bits_scale : ∃ e : ℝ, Ideal.ofBits .f32 0x3DB504F3#32 = (e : EReal) :=
  ⟨_, by simp only [Ideal.ofBits, Ideal.ieee]; simp [-EReal.coe_mul]; rfl⟩

/-- A sum of reals is a real. -/
theorem sum_real {n : ℕ} {f : Fin n → EReal} (g : Fin n → ℝ) (h : ∀ i, f i = (g i : EReal)) : ∑ i, f i = ((∑ i, g i : ℝ) : EReal) := by
  rw [Finset.sum_congr rfl fun i _ => h i]
  exact (map_sum (⟨⟨Real.toEReal, EReal.coe_zero⟩, EReal.coe_add⟩ : ℝ →+ EReal) g Finset.univ).symm

/-- A real vector's normalized entries are real. -/
theorem normed_real {x w : Fin 128 → EReal} (a u : Fin 128 → ℝ) (hx : ∀ e, x e = (a e : EReal)) (hw : ∀ e, w e = (u e : EReal)) (d : Fin 128) :
    ∃ r : ℝ, normed x w d = (r : EReal) := by
  obtain ⟨e, he, hb⟩ := bits_eps
  have hs : ∑ i, x i * x i = ((∑ i, a i * a i : ℝ) : EReal) := sum_real _ fun i => by rw [hx i, EReal.coe_mul]
  have hp : 0 < (∑ i, a i * a i) * (1 / 128) + e :=
    add_pos_of_nonneg_of_pos (mul_nonneg (Finset.sum_nonneg fun i _ => mul_self_nonneg _) (by norm_num)) he
  refine ⟨a d * (Real.sqrt ((∑ i, a i * a i) * (1 / 128) + e))⁻¹ * u d, ?_⟩
  unfold normed
  rw [hs, hb, bits_width, Ideal.div_coe (by norm_num), ← EReal.coe_mul, ← EReal.coe_add, hx d, hw d]
  show _ * (if (∑ i, a i * a i) * (1 / 128) + e < 0 then ⊥ else if (∑ i, a i * a i) * (1 / 128) + e = 0 then ⊤ else _) * _ = _
  rw [if_neg hp.not_gt, if_neg hp.ne', ← EReal.coe_mul, ← EReal.coe_mul]

/-- A score of real vectors is real. -/
theorem score_real {q k : Fin 128 → EReal} (hq : ∀ d, ∃ r : ℝ, q d = (r : EReal)) (hk : ∀ d, ∃ r : ℝ, k d = (r : EReal)) :
    ∃ r : ℝ, score q k = (r : EReal) := by
  choose a ha using hq
  choose b hb using hk
  obtain ⟨e, he⟩ := bits_scale
  refine ⟨(∑ d, a d * b d) * e, ?_⟩
  unfold score
  rw [sum_real (fun d => a d * b d) fun d => by rw [ha d, hb d, EReal.coe_mul], he, EReal.coe_mul]

/-- The largest of real scores is real. -/
theorem top_real {s : Fin 256 → EReal} (hs : ∀ j, ∃ r : ℝ, s j = (r : EReal)) : ∃ r : ℝ, top s = (r : EReal) := by
  have h0 : top s ≠ ⊥ := by
    obtain ⟨r, hr⟩ := hs 0
    have : s 0 ≤ top s := (Finset.le_fold_max _).2 (Or.inr ⟨0, Finset.mem_univ _, le_rfl⟩)
    intro h
    rw [h, hr, le_bot_iff] at this
    exact EReal.coe_ne_bot r this
  have h1 : top s < ⊤ := by
    refine (Finset.fold_max_lt _).2 ⟨by rw [bits_bot]; exact bot_lt_top, fun j _ => ?_⟩
    obtain ⟨r, hr⟩ := hs j
    rw [hr]
    exact EReal.coe_lt_top r
  exact ⟨_, (EReal.coe_toReal h1.ne h0).symm⟩

/-- The row's maximum taken against minus infinity once more is itself. -/
theorem max_top (s : Fin 256 → EReal) : max (Ideal.ofBits .f32 0xFF800000#32) (top s) = top s := by
  rw [bits_bot]
  exact bot_sup_eq _

/-- The weights of real scores are positive reals. -/
theorem weight_real {s : Fin 256 → EReal} (hs : ∀ j, ∃ r : ℝ, s j = (r : EReal)) (j : Fin 256) : ∃ r : ℝ, 0 < r ∧ weight s j = (r : EReal) := by
  obtain ⟨a, ha⟩ := hs j
  obtain ⟨t, ht⟩ := top_real hs
  exact ⟨Real.exp (a - t), Real.exp_pos _, by unfold weight; rw [ha, ht, ← EReal.coe_sub, Ideal.exp_coe]⟩

/-- A sum times a real that is not negative. -/
theorem sum_mul_real {n : ℕ} (f : Fin n → EReal) {c : ℝ} (hc : 0 ≤ c) : (∑ j, f j) * (c : EReal) = ∑ j, f j * (c : EReal) := by
  induction (Finset.univ : Finset (Fin n)) using Finset.cons_induction with
  | empty => simp
  | cons a t ha ih =>
    rw [Finset.sum_cons, Finset.sum_cons, EReal.right_distrib_of_nonneg_of_ne_top (EReal.coe_nonneg.2 hc) (EReal.coe_ne_top c), ih]

/-- Dividing each weight by the sum, then mixing the values, is mixing the values and multiplying by the reciprocal of the sum. -/
theorem mix {s : Fin 256 → EReal} (hs : ∀ j, ∃ r : ℝ, s j = (r : EReal)) (v : Fin 256 → EReal) :
    (∑ j, weight s j * v j) * Ideal.div 1 (total s) = ∑ j, v j * Ideal.div (weight s j) (total s) := by
  choose p hp hw using weight_real hs
  have ht : total s = ((∑ j, p j : ℝ) : EReal) := sum_real p hw
  have h0 : 0 < ∑ j, p j := Finset.sum_pos (fun j _ => hp j) ⟨0, Finset.mem_univ _⟩
  rw [ht, Ideal.div_coe h0.ne', one_mul, sum_mul_real _ (by positivity)]
  refine Finset.sum_congr rfl fun j _ => ?_
  rw [Ideal.div_coe h0.ne', mul_comm (weight s j), mul_assoc]

/-! ## The attention's entries -/

/-- The normalized query of sequence `b`, group `h`, head `g` of the group, token `i`. -/
def query (z : Fin 4096 → Fin 6272 → EReal) (qn : Fin 128 → EReal) (b : Fin 16) (h : Fin 2) (g : Fin 4) (i : Fin 256) : Fin 128 → EReal :=
  normed (fun e => z ⟨b * 256 + i, by omega⟩ ⟨(h * 4 + g) * 128 + e, by omega⟩) qn

/-- The normalized key of sequence `b`, group `h`, token `j`. -/
def key (z : Fin 4096 → Fin 6272 → EReal) (kn : Fin 128 → EReal) (b : Fin 16) (h : Fin 2) (j : Fin 256) : Fin 128 → EReal :=
  normed (fun e => z ⟨b * 256 + j, by omega⟩ ⟨1024 + (h * 128 + e), by omega⟩) kn

/-- The scores of one query. -/
def row (z : Fin 4096 → Fin 6272 → EReal) (qn kn : Fin 128 → EReal) (b : Fin 16) (h : Fin 2) (g : Fin 4) (i : Fin 256) : Fin 256 → EReal :=
  fun j => score (query z qn b h g i) (key z kn b h j)

/-- The gated output of one query at one entry, its weights divided by their sum after the values are mixed. -/
def entry (z : Fin 4096 → Fin 6272 → EReal) (qn kn : Fin 128 → EReal) (b : Fin 16) (h : Fin 2) (g : Fin 4) (i : Fin 256) (d : Fin 128) : EReal :=
  (∑ j : Fin 256, weight (row z qn kn b h g i) j * z ⟨b * 256 + j, by omega⟩ ⟨1280 + (h * 128 + d), by omega⟩)
    * Ideal.div 1 (total (row z qn kn b h g i)) * gate (z ⟨b * 256 + i, by omega⟩ ⟨1536 + ((h * 4 + g) * 128 + d), by omega⟩)

/-- Where the queries, the keys and the norms' weights are real, so is every score. -/
theorem row_real {z : Fin 4096 → Fin 6272 → EReal} {qn kn : Fin 128 → EReal} (hz : ∀ r l, l.val < 1280 → ∃ a : ℝ, z r l = (a : EReal))
    (hq : ∀ e, ∃ a : ℝ, qn e = (a : EReal)) (hk : ∀ e, ∃ a : ℝ, kn e = (a : EReal)) (b : Fin 16) (h : Fin 2) (g : Fin 4) (i j : Fin 256) :
    ∃ a : ℝ, row z qn kn b h g i j = (a : EReal) := by
  choose u hu using hq
  choose v hv using hk
  refine score_real (fun d => ?_) (fun d => ?_)
  · choose a ha using fun e : Fin 128 => hz ⟨b * 256 + i, by omega⟩ ⟨(h * 4 + g) * 128 + e, by omega⟩ (show (h.val * 4 + g.val) * 128 + e.val < 1280 by omega)
    exact normed_real a u ha hu d
  · choose a ha using fun e : Fin 128 => hz ⟨b * 256 + j, by omega⟩ ⟨1024 + (h * 128 + e), by omega⟩ (show 1024 + (h.val * 128 + e.val) < 1280 by omega)
    exact normed_real a v ha hv d

end Cert.Layer

end
-- ==== Proof.AttnRef.lean ====
/- The attention reference, read entry by entry: its keys, its scores, its weights and its gated output as functions of
   the projected tokens and the two norms' weights. -/
module

public import proofs.«01_k».proof.Proof.Gen.AttnRefIdeal.Run
public import proofs.«01_k».proof.Proof.Softmax

@[expose] public section

set_option maxRecDepth 16384

noncomputable section

namespace Cert.AttnRefIdeal.Layer

open Cert.AttnRefIdeal Cert.AttnRefIdeal.Gen Idealize.ShloMosaic Idealize.ShloMosaic.TcCoe Idealize.SL.Sem Cert.Layer

/-- A head's weights, one for each of its 128 entries, at every head of every token. -/
abbrev weights (w : FVec Ideal S128 .f32) : FVec Ideal S1x1x1x128 .f32 := broadcastInDim S1x1x1x128 ![3] bcast_S128_S1x1x1x128_3 w

/-- The normalized keys, by sequence, token, head and entry. -/
def keys (z : FVec Ideal S4096x6272 .f32) (kn : FVec Ideal S128 .f32) : FVec Ideal S16x256x2x128 .f32 :=
  mulf (mulf (shapeCast _ (extractStridedSlice S4096x256 ![0, 1024] z slices_S4096x6272_S4096x256_0_1024) shapeCasts_S4096x256_S16x256x2x128)
    (broadcastInDim S16x256x2x128 ![0, 1, 2, 3] bcast_S16x256x2x1_S16x256x2x128_0_1_2_3 (Host.rsqrt (addf (Host.divf
      (broadcastInDim S16x256x2x1 ![0, 1, 2] bcast_S16x256x2_S16x256x2x1_0_1_2 (Host.reduceAdd
        (mulf (shapeCast _ (extractStridedSlice S4096x256 ![0, 1024] z slices_S4096x6272_S4096x256_0_1024) shapeCasts_S4096x256_S16x256x2x128)
          (shapeCast _ (extractStridedSlice S4096x256 ![0, 1024] z slices_S4096x6272_S4096x256_0_1024) shapeCasts_S4096x256_S16x256x2x128))
        (constant S_ .f32 0x00000000#32) reducesTo_S16x256x2x128_S16x256x2_d3 h_S_))
      (broadcastInDim S16x256x2x1 ![] bcast_S_S16x256x2x1 (constant S_ .f32 0x43000000#32)))
      (broadcastInDim S16x256x2x1 ![] bcast_S_S16x256x2x1 (constant S_ .f32 0x358637BD#32))))))
    (broadcastInDim S16x256x2x128 ![0, 1, 2, 3] bcast_S1x1x1x128_S16x256x2x128_0_1_2_3 (weights kn))

/-- The normalized queries, by sequence, token, group of heads, head of the group and entry. -/
def queries (z : FVec Ideal S4096x6272 .f32) (qn : FVec Ideal S128 .f32) : FVec Ideal S16x256x2x4x128 .f32 :=
  shapeCast _ (mulf (mulf (shapeCast _ (extractStridedSlice S4096x1024 ![0, 0] z slices_S4096x6272_S4096x1024_0_0) shapeCasts_S4096x1024_S16x256x8x128)
    (broadcastInDim S16x256x8x128 ![0, 1, 2, 3] bcast_S16x256x8x1_S16x256x8x128_0_1_2_3 (Host.rsqrt (addf (Host.divf
      (broadcastInDim S16x256x8x1 ![0, 1, 2] bcast_S16x256x8_S16x256x8x1_0_1_2 (Host.reduceAdd
        (mulf (shapeCast _ (extractStridedSlice S4096x1024 ![0, 0] z slices_S4096x6272_S4096x1024_0_0) shapeCasts_S4096x1024_S16x256x8x128)
          (shapeCast _ (extractStridedSlice S4096x1024 ![0, 0] z slices_S4096x6272_S4096x1024_0_0) shapeCasts_S4096x1024_S16x256x8x128))
        (constant S_ .f32 0x00000000#32) reducesTo_S16x256x8x128_S16x256x8_d3 h_S_))
      (broadcastInDim S16x256x8x1 ![] bcast_S_S16x256x8x1 (constant S_ .f32 0x43000000#32)))
      (broadcastInDim S16x256x8x1 ![] bcast_S_S16x256x8x1 (constant S_ .f32 0x358637BD#32))))))
    (broadcastInDim S16x256x8x128 ![0, 1, 2, 3] bcast_S1x1x1x128_S16x256x8x128_0_1_2_3 (weights qn))) shapeCasts_S16x256x8x128_S16x256x2x4x128

/-- The scores, by sequence, group, head, query and key. -/
def scores (k : FVec Ideal S16x256x2x128 .f32) (q : FVec Ideal S16x256x2x4x128 .f32) : FVec Ideal S16x2x4x256x256 .f32 :=
  mulf (transpose S16x2x4x256x256 [0, 1, 4, 3, 2] (Host.dotGeneral dot_S16x256x2x128_S16x256x2x4x128_S16x2x256x256x4_3_4_1_13_02_02 none k q)
    transposes_S16x2x256x256x4_S16x2x4x256x256_0_1_4_3_2) (broadcastInDim S16x2x4x256x256 ![] bcast_S_S16x2x4x256x256 (constant S_ .f32 0x3DB504F3#32))

/-- The exponentials of the scores less one number for each row. -/
def expsLess (s : FVec Ideal S16x2x4x256x256 .f32) (m : FVec Ideal S16x2x4x256 .f32) : FVec Ideal S16x2x4x256x256 .f32 :=
  Host.exp (subf s (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3
      (maximumf (broadcastInDim S16x2x4x256 ![] bcast_S_S16x2x4x256 (constant S_ .f32 0xFF800000#32)) m))))

/-- The largest score of each row. -/
def largest (s : FVec Ideal S16x2x4x256x256 .f32) : FVec Ideal S16x2x4x256 .f32 :=
  Host.reduce FloatOps.maximumf s (constant S_ .f32 0xFF800000#32) reducesTo_S16x2x4x256x256_S16x2x4x256_d4 h_S_

/-- The exponentials of the scores less their row's largest. -/
def exps (s : FVec Ideal S16x2x4x256x256 .f32) : FVec Ideal S16x2x4x256x256 .f32 := expsLess s (largest s)

/-- The exponentials over their row's sum. -/
def shares (p : FVec Ideal S16x2x4x256x256 .f32) : FVec Ideal S16x2x4x256x256 .f32 :=
  Host.divf p (broadcastInDim S16x2x4x256x256 ![0, 1, 2, 3, 4] bcast_S16x2x4x256x1_S16x2x4x256x256_0_1_2_3_4
    (broadcastInDim S16x2x4x256x1 ![0, 1, 2, 3] bcast_S16x2x4x256_S16x2x4x256x1_0_1_2_3
      (Host.reduceAdd p (constant S_ .f32 0x00000000#32) reducesTo_S16x2x4x256x256_S16x2x4x256_d4 h_S_)))

/-- The gates' columns of the projected tokens. -/
abbrev gates (z : FVec Ideal S4096x6272 .f32) : FVec Ideal S4096x1024 .f32 := extractStridedSlice S4096x1024 ![0, 1536] z slices_S4096x6272_S4096x1024_0_1536

/-- The values mixed by the shares, times the gates. -/
def gated (z : FVec Ideal S4096x6272 .f32) (p : FVec Ideal S16x2x4x256x256 .f32) : FVec Ideal S4096x1024 .bf16 :=
  truncf .bf16 (mulf (shapeCast _ (transpose S16x256x2x4x128 [0, 4, 1, 3, 2]
      (Host.dotGeneral dot_S16x256x2x128_S16x2x4x256x256_S16x2x128x4x256_1_4_3_23_02_01 none
        (shapeCast _ (extractStridedSlice S4096x256 ![0, 1280] z slices_S4096x6272_S4096x256_0_1280) shapeCasts_S4096x256_S16x256x2x128) p)
      transposes_S16x2x128x4x256_S16x256x2x4x128_0_4_1_3_2) shapeCasts_S16x256x2x4x128_S4096x1024)
    (mulf (gates z) (Host.divf (broadcastInDim S4096x1024 ![] bcast_S_S4096x1024 (constant S_ .f32 0x3F800000#32))
      (addf (broadcastInDim S4096x1024 ![] bcast_S_S4096x1024 (constant S_ .f32 0x3F800000#32)) (Host.exp (Host.negf (gates z))))))) bitsLt_bf16_f32

/-- The reference's first result. -/
def attended (z : FVec Ideal S4096x6272 .f32) (qn kn : FVec Ideal S128 .f32) : FVec Ideal S4096x1024 .bf16 :=
  gated z (shares (exps (scores (keys z kn) (queries z qn))))

/-- The reference's second result. -/
def keptKeys (z : FVec Ideal S4096x6272 .f32) (kn : FVec Ideal S128 .f32) : FVec Ideal S4096x256 .f32 :=
  shapeCast _ (keys z kn) shapeCasts_S16x256x2x128_S4096x256

theorem keys_at (z : FVec Ideal S4096x6272 .f32) (kn : FVec Ideal S128 .f32) (b : Fin 16) (t : Fin 256) (h : Fin 2) (d : Fin 128) :
    keys z kn (ix4 b t h d) = normed (fun e => z (ix2 ⟨b * 256 + t, by omega⟩ ⟨1024 + (h * 128 + e), by omega⟩)) (fun e => kn (ix1 e)) d := by
  pointwise [keys, normed]

theorem queries_at (z : FVec Ideal S4096x6272 .f32) (qn : FVec Ideal S128 .f32) (b : Fin 16) (t : Fin 256) (h : Fin 2) (g : Fin 4) (d : Fin 128) :
    queries z qn (ix5 b t h g d) = normed (fun e => z (ix2 ⟨b * 256 + t, by omega⟩ ⟨(h * 4 + g) * 128 + e, by omega⟩)) (fun e => qn (ix1 e)) d := by
  pointwise [queries, normed]

theorem scores_at (k : FVec Ideal S16x256x2x128 .f32) (q : FVec Ideal S16x256x2x4x128 .f32) (b : Fin 16) (h : Fin 2) (g : Fin 4) (i j : Fin 256) :
    scores k q (ix5 b h g i j) = score (fun d => q (ix5 b i h g d)) (fun d => k (ix4 b j h d)) := by
  pointwise [scores, score]
  exact congrArg (· * _) (Finset.sum_congr rfl fun _ _ => mul_comm _ _)

theorem largest_at (s : FVec Ideal S16x2x4x256x256 .f32) (b : Fin 16) (h : Fin 2) (g : Fin 4) (i : Fin 256) :
    largest s (ix4 b h g i) = top fun j => s (ix5 b h g i j) :=
  (Host.reduce_eq_fold _ _ _ _ _ _).trans (Shape.ReducesTo.fold_fiber_r5_a4 _ _ _ _ _)

theorem expsLess_at (s : FVec Ideal S16x2x4x256x256 .f32) (m : FVec Ideal S16x2x4x256 .f32) (b : Fin 16) (h : Fin 2) (g : Fin 4) (i j : Fin 256) :
    expsLess s m (ix5 b h g i j) = Ideal.exp (s (ix5 b h g i j) - max (Ideal.ofBits .f32 0xFF800000#32) (m (ix4 b h g i))) := by
  pointwise [expsLess]

theorem exps_at (s : FVec Ideal S16x2x4x256x256 .f32) (b : Fin 16) (h : Fin 2) (g : Fin 4) (i j : Fin 256) :
    exps s (ix5 b h g i j) = weight (fun j => s (ix5 b h g i j)) j := by
  refine (expsLess_at s _ b h g i j).trans ?_
  rw [largest_at, max_top]
  rfl

theorem shares_at (p : FVec Ideal S16x2x4x256x256 .f32) (b : Fin 16) (h : Fin 2) (g : Fin 4) (i j : Fin 256) :
    shares p (ix5 b h g i j) = Ideal.div (p (ix5 b h g i j)) (∑ j, p (ix5 b h g i j)) := by
  pointwise [shares]

theorem gated_at (z : FVec Ideal S4096x6272 .f32) (p : FVec Ideal S16x2x4x256x256 .f32) (r : Fin 4096) (l : Fin 1024) :
    gated z p (ix2 r l) = (∑ j : Fin 256, z (ix2 ⟨r / 256 * 256 + j, by omega⟩ ⟨1280 + (l / 512 * 128 + l % 128), by omega⟩)
        * p (ix5 ⟨r / 256, by omega⟩ ⟨l / 512, by omega⟩ ⟨l / 128 % 4, by omega⟩ ⟨r % 256, by omega⟩ j)) * gate (z (ix2 r ⟨1536 + l, by omega⟩)) := by
  pointwise [gated, gate]

theorem keptKeys_at (z : FVec Ideal S4096x6272 .f32) (kn : FVec Ideal S128 .f32) (r : Fin 4096) (l : Fin 256) :
    keptKeys z kn (ix2 r l) = keys z kn (ix4 ⟨r / 256, by omega⟩ ⟨r % 256, by omega⟩ ⟨l / 128, by omega⟩ ⟨l % 128, by omega⟩) := by
  pointwise [keptKeys]

/-- The tokens by row and column, and a norm's weights by entry. -/
abbrev cols (z : FVec Ideal S4096x6272 .f32) : Fin 4096 → Fin 6272 → EReal := fun r l => z (ix2 r l)
abbrev lanes (w : FVec Ideal S128 .f32) : Fin 128 → EReal := fun e => w (ix1 e)

/-- The reference's first result at one entry, where every score is real. -/
theorem attended_at (z : FVec Ideal S4096x6272 .f32) (qn kn : FVec Ideal S128 .f32)
    (hr : ∀ b h g i j, ∃ a : ℝ, row (cols z) (lanes qn) (lanes kn) b h g i j = (a : EReal)) (r : Fin 4096) (l : Fin 1024) :
    attended z qn kn (ix2 r l) = entry (cols z) (lanes qn) (lanes kn) ⟨r / 256, by omega⟩ ⟨l / 512, by omega⟩ ⟨l / 128 % 4, by omega⟩
      ⟨r % 256, by omega⟩ ⟨l % 128, by omega⟩ := by
  refine (gated_at z _ r l).trans ?_
  have hs : ∀ (b : Fin 16) (h : Fin 2) (g : Fin 4) (i j : Fin 256),
      scores (keys z kn) (queries z qn) (ix5 b h g i j) = row (cols z) (lanes qn) (lanes kn) b h g i j := fun b h g i j => by
    rw [scores_at]; simp only [keys_at, queries_at]; rfl
  simp only [shares_at, exps_at, hs]
  refine congrArg₂ (· * ·) (mix (hr _ _ _ _) _).symm (congrArg gate (congrArg₂ (fun a b => z (ix2 a b)) (Fin.ext ?_) (Fin.ext ?_)))
  · show r.val = r.val / 256 * 256 + r.val % 256
    omega
  · show 1536 + l.val = 1536 + ((l.val / 512 * 4 + l.val / 128 % 4) * 128 + l.val % 128)
    omega

/-- The reference's second result at one entry. -/
theorem kept_at (z : FVec Ideal S4096x6272 .f32) (kn : FVec Ideal S128 .f32) (r : Fin 4096) (l : Fin 256) :
    keptKeys z kn (ix2 r l) = key (cols z) (lanes kn) ⟨r / 256, by omega⟩ ⟨l / 128, by omega⟩ ⟨r % 256, by omega⟩ ⟨l % 128, by omega⟩ := by
  rw [keptKeys_at, keys_at]
  rfl

end Cert.AttnRefIdeal.Layer

end
-- ==== Proof.AttnHeads.lean ====
/- The attention kernel's arithmetic on one point's blocks, read entry by entry: the normalized rows, one head's scores,
   their exponentials, and one head's gated output. -/
module

public import proofs.«01_k».proof.Proof.Gen.AttnIdeal.Value
public import proofs.«01_k».proof.Proof.Softmax

@[expose] public section

set_option maxRecDepth 16384

noncomputable section

namespace Cert.AttnIdeal.Layer

open Cert.AttnIdeal Cert.AttnIdeal.Gen Idealize.ShloMosaic Idealize.ShloMosaic.TcCoe Idealize.SL.Sem Cert.Layer

/-- The exponentials of a head's scores less one number for each row. -/
def expsLess (s : FVec Ideal S256x256 .f32) (m : FVec Ideal S256 .f32) : FVec Ideal S256x256 .f32 :=
  exp (subf s (broadcastTo S256x256 (shapeCast S256x1 m shapeCasts_S256_S256x1) broadcasts_S256x1_S256x256))

/-- The largest score of each row. -/
def largest (s : FVec Ideal S256x256 .f32) : FVec Ideal S256 .f32 :=
  multiReduction .maximumf [1] S256 s 0xFF800000#32 reduces_S256x256_S256 (.inl rfl) rfl

/-- The exponentials of a head's scores less their row's largest. -/
def exps (s : FVec Ideal S256x256 .f32) : FVec Ideal S256x256 .f32 := expsLess s (largest s)

/-- One head's gated output from its queries and gates, the group's normalized keys and values, and the norm's weights. -/
def head (k v : FVec Ideal S256x128 .bf16) (q : FVec Ideal S256x128 .f32) (w : FVec Ideal S1x128 .f32) (g : FVec Ideal S256x128 .f32) :
    FVec Ideal S256x128 .bf16 := k0_pay14 v (exps (k0_pay15 k q w)) g

theorem rows_at (x : FVec Ideal S256x128 .f32) (w : FVec Ideal S1x128 .f32) (i : Fin 256) (d : Fin 128) :
    k0_pay2 (F := Ideal) x w (ix2 i d) = normed (fun e => x (ix2 i e)) (fun e => w (ix2 0 e)) d := by
  pointwise [k0_pay2, normed]

theorem keptRows_at (x : FVec Ideal S256x128 .f32) (w : FVec Ideal S1x128 .f32) (i : Fin 256) (d : Fin 128) :
    k0_pay3 (F := Ideal) x w (ix2 i d) = normed (fun e => x (ix2 i e)) (fun e => w (ix2 0 e)) d := by
  pointwise [k0_pay3, k0_pay2, normed]

theorem scores_at (k : FVec Ideal S256x128 .bf16) (q : FVec Ideal S256x128 .f32) (w : FVec Ideal S1x128 .f32) (i j : Fin 256) :
    k0_pay15 (F := Ideal) k q w (ix2 i j) = score (normed (fun e => q (ix2 i e)) (fun e => w (ix2 0 e))) (fun e => k (ix2 j e)) := by
  pointwise [k0_pay15, score, normed]

theorem largest_at (s : FVec Ideal S256x256 .f32) (i : Fin 256) : largest s (ix1 i) = top fun j => s (ix2 i j) :=
  (multiReduction_maximumf_eq_fold _ _ _ _ _ _).trans (Shape.Reduces.fold_fiber_r2_a1 _ _ _ _ _)

theorem expsLess_at (s : FVec Ideal S256x256 .f32) (m : FVec Ideal S256 .f32) (i j : Fin 256) :
    expsLess s m (ix2 i j) = Ideal.exp (s (ix2 i j) - m (ix1 i)) := by
  pointwise [expsLess]

theorem exps_at (s : FVec Ideal S256x256 .f32) (i j : Fin 256) : exps s (ix2 i j) = weight (fun j => s (ix2 i j)) j := by
  refine (expsLess_at s _ i j).trans ?_
  rw [largest_at]
  rfl

theorem mixed_at (v : FVec Ideal S256x128 .bf16) (p : FVec Ideal S256x256 .f32) (g : FVec Ideal S256x128 .f32) (i : Fin 256) (d : Fin 128) :
    k0_pay14 (F := Ideal) v p g (ix2 i d)
      = (∑ j, p (ix2 i j) * v (ix2 j d)) * Ideal.div 1 (∑ j, p (ix2 i j)) * gate (g (ix2 i d)) := by
  pointwise [k0_pay14, gate]
  rw [zero_sub]

theorem head_at (k v : FVec Ideal S256x128 .bf16) (q : FVec Ideal S256x128 .f32) (w : FVec Ideal S1x128 .f32) (g : FVec Ideal S256x128 .f32)
    (i : Fin 256) (d : Fin 128) :
    head k v q w g (ix2 i d)
      = (let s := fun j => score (normed (fun e => q (ix2 i e)) (fun e => w (ix2 0 e))) (fun e => k (ix2 j e))
         (∑ j, weight s j * v (ix2 j d)) * Ideal.div 1 (total s)) * gate (g (ix2 i d)) := by
  refine (mixed_at v _ g i d).trans ?_
  simp only [exps_at, scores_at]
  rfl

theorem head0 (k : FVec Ideal S256x128 .bf16) (v q : FVec Ideal S256x128 .f32) (w : FVec Ideal S1x128 .f32) (g : FVec Ideal S256x128 .f32) :
    k0_pay8 (k0_pay6 k v q w) (k0_pay7 k q w) g = head k (k0_pay4 v) q w g := rfl

theorem head1 (k v : FVec Ideal S256x128 .bf16) (q : FVec Ideal S256x128 .f32) (w : FVec Ideal S1x128 .f32) (g : FVec Ideal S256x128 .f32) :
    k0_pay12 v (k0_pay10 k q w) (k0_pay11 k q w) (constant S256x128 .f32 0x00000000#32) g = head k v q w g := rfl

theorem head2 (k v : FVec Ideal S256x128 .bf16) (q : FVec Ideal S256x128 .f32) (w : FVec Ideal S1x128 .f32) (g : FVec Ideal S256x128 .f32) :
    k0_pay14 v (k0_pay13 k q w) g = head k v q w g := rfl

theorem head3 (k v : FVec Ideal S256x128 .bf16) (q : FVec Ideal S256x128 .f32) (w : FVec Ideal S1x128 .f32) (g : FVec Ideal S256x128 .f32) :
    k0_pay1 v (k0_pay15 k q w) g = head k v q w g := rfl

end Cert.AttnIdeal.Layer

end
-- ==== Proof.AttnValue.lean ====
/- The attention kernel's two results: what each grid point stores, and the arrays the run leaves. -/
module

public import proofs.«01_k».proof.Proof.AttnHeads
public import Idealize.ShloMosaic.Lib.Pointwise
public import Idealize.ShloMosaic.Lib.Pipeline.ValueKit

@[expose] public section

set_option maxRecDepth 16384

noncomputable section

namespace Cert.AttnIdeal.Layer

open Cert.AttnIdeal Cert.AttnIdeal.Gen Idealize.ShloMosaic Idealize.ShloMosaic.TcCoe Idealize.SL.Sem Cert.Layer

/-- One head's gated output is the attention's entry, when the blocks hold what they should of the tokens. -/
theorem head_entry (z : Fin 4096 → Fin 6272 → EReal) (qn kn : Fin 128 → EReal) (k v : FVec Ideal S256x128 .bf16) (q : FVec Ideal S256x128 .f32)
    (w : FVec Ideal S1x128 .f32) (g : FVec Ideal S256x128 .f32) (b : Fin 16) (h : Fin 2) (n : Fin 4)
    (hq : ∀ i e, q (ix2 i e) = z ⟨b * 256 + i, by omega⟩ ⟨(h * 4 + n) * 128 + e, by omega⟩) (hw : ∀ e, w (ix2 0 e) = qn e)
    (hk : ∀ j e, k (ix2 j e) = key z kn b h j e) (hv : ∀ j e, v (ix2 j e) = z ⟨b * 256 + j, by omega⟩ ⟨1280 + (h * 128 + e), by omega⟩)
    (hg : ∀ i e, g (ix2 i e) = z ⟨b * 256 + i, by omega⟩ ⟨1536 + ((h * 4 + n) * 128 + e), by omega⟩) (i : Fin 256) (d : Fin 128) :
    head k v q w g (ix2 i d) = entry z qn kn b h n i d := by
  refine (head_at k v q w g i d).trans ?_
  simp only [hq, hw, hk, hv, hg]
  rfl

variable (m : (ℓ : Loc nD τ sig) → Buf (Elt Ideal) ℓ)

/-- Where each window stands at point `t`: `t / 2` counts the sequences, `t % 2` the groups of heads. -/
theorem place : ∀ t : Fin cfg0.N, win0_0.index t = ![t.val / 2, t.val % 2] ∧ win0_1.index t = ![t.val / 2, 8 + t.val % 2]
    ∧ win0_2.index t = ![t.val / 2, 10 + t.val % 2] ∧ win0_3.index t = ![t.val / 2, 3 + t.val % 2] ∧ win0_4.index t = ![0, 0]
    ∧ win0_5.index t = ![0, 0] ∧ win0_6.index t = ![t.val / 2, t.val % 2] ∧ win0_7.index t = ![t.val / 2, t.val % 2] :=
  (by decide +kernel : ∀ t : Fin grid0.N, _)

/-- The tokens by row and column, and the norms' weights by entry, as the run is given them. -/
abbrev tokens (c : Dev nD) : Fin 4096 → Fin 6272 → EReal := fun r l => m ((c : Thread nD τ).loc main_arg0) (ix2 r l)
abbrev qWeights (c : Dev nD) : Fin 128 → EReal := fun e => m ((c : Thread nD τ).loc main_arg1) (ix1 e)
abbrev kWeights (c : Dev nD) : Fin 128 → EReal := fun e => m ((c : Thread nD τ).loc main_arg2) (ix1 e)

/-- A point's sequence and group. -/
abbrev seqOf (t : Fin cfg0.N) : Fin 16 := ⟨t.val / 2, by have := t.isLt; have : cfg0.N = 32 := N_0; omega⟩
abbrev groupOf (t : Fin cfg0.N) : Fin 2 := ⟨t.val % 2, by omega⟩

theorem keyBlock (c : Dev nD) (t : Fin cfg0.N) (j : Fin 256) (e : Fin 128) :
    iblk m c 1 t (ix2 j e) = tokens m c ⟨seqOf t * 256 + j, by omega⟩ ⟨1024 + (groupOf t * 128 + e), by omega⟩ := by
  blk_point [iblk, V, place t]

theorem valueBlock (c : Dev nD) (t : Fin cfg0.N) (j : Fin 256) (e : Fin 128) :
    iblk m c 2 t (ix2 j e) = tokens m c ⟨seqOf t * 256 + j, by omega⟩ ⟨1280 + (groupOf t * 128 + e), by omega⟩ := by
  blk_point [iblk, V, place t]

theorem queryBlock (c : Dev nD) (t : Fin cfg0.N) (j : Fin 256) (e : Fin 512) :
    X0_0 m c t (ix2 j e) = tokens m c ⟨seqOf t * 256 + j, by omega⟩ ⟨groupOf t * 512 + e, by omega⟩ := by
  unfold X0_0 Pipeline.Window.fill
  rw [dif_pos (moved0_0 t _)]
  blk_point [iblk, V, place t]

theorem gateBlock (c : Dev nD) (t : Fin cfg0.N) (j : Fin 256) (e : Fin 512) :
    X0_3 m c t (ix2 j e) = tokens m c ⟨seqOf t * 256 + j, by omega⟩ ⟨1536 + (groupOf t * 512 + e), by omega⟩ := by
  unfold X0_3 Pipeline.Window.fill
  rw [dif_pos (moved0_3 t _)]
  blk_point [iblk, V, place t]

theorem qBlock (c : Dev nD) (t : Fin cfg0.N) (e : Fin 128) : iblk m c 4 t (ix2 0 e) = qWeights m c e := by
  blk_simp [iblk, place t]
  entry_read
  pointwise
  blk_ext [place t]

theorem kBlock (c : Dev nD) (t : Fin cfg0.N) (e : Fin 128) : iblk m c 5 t (ix2 0 e) = kWeights m c e := by
  blk_simp [iblk, place t]
  entry_read
  pointwise
  blk_ext [place t]

/-- The first result and the second, at any entry. -/
def attended (z : Fin 4096 → Fin 6272 → EReal) (qn kn : Fin 128 → EReal) : S4096x1024.Idx → EReal := fun x =>
  entry z qn kn ⟨x 0 / 256, by have : (x 0).val < 4096 := (x 0).isLt; omega⟩ ⟨x 1 / 512, by have : (x 1).val < 1024 := (x 1).isLt; omega⟩
    ⟨x 1 / 128 % 4, by omega⟩ ⟨x 0 % 256, by omega⟩ ⟨x 1 % 128, by omega⟩
def kept (z : Fin 4096 → Fin 6272 → EReal) (kn : Fin 128 → EReal) : S4096x256.Idx → EReal := fun x =>
  key z kn ⟨x 0 / 256, by have : (x 0).val < 4096 := (x 0).isLt; omega⟩ ⟨x 1 / 128, by have : (x 1).val < 256 := (x 1).isLt; omega⟩
    ⟨x 0 % 256, by omega⟩ ⟨x 1 % 128, by omega⟩

/-- The entry a point's head stores at `(i, d)` of its piece is the first result's where the piece puts it. -/
theorem attended_eq (z : Fin 4096 → Fin 6272 → EReal) (qn kn : Fin 128 → EReal) (b : Fin 16) (h : Fin 2) (n : Fin 4) (i : Fin 256) (d : Fin 128)
    (x : S4096x1024.Idx) (h0 : (x 0).val = b * 256 + i) (h1 : (x 1).val = h * 512 + (n * 128 + d)) :
    entry z qn kn b h n i d = attended z qn kn x := by
  unfold attended
  congr 1 <;> refine Fin.ext ?_ <;> simp only [h0, h1] <;> omega

theorem kept_eq (z : Fin 4096 → Fin 6272 → EReal) (kn : Fin 128 → EReal) (b : Fin 16) (h : Fin 2) (i : Fin 256) (d : Fin 128)
    (x : S4096x256.Idx) (h0 : (x 0).val = b * 256 + i) (h1 : (x 1).val = h * 128 + d) :
    key z kn b h i d = kept z kn x := by
  unfold kept
  congr 1 <;> refine Fin.ext ?_ <;> simp only [h0, h1] <;> omega

/-- What a point's head stores, at an index of its piece. -/
theorem piece (c : Dev nD) (t : Fin cfg0.N) (n : Fin 4) (q g : FVec Ideal S256x128 .f32)
    (hq : ∀ i e, q (ix2 i e) = X0_0 m c t (ix2 i ⟨n * 128 + e, by omega⟩)) (hg : ∀ i e, g (ix2 i e) = X0_3 m c t (ix2 i ⟨n * 128 + e, by omega⟩))
    (y : S256x512.Idx) (x : S256x128.Idx) (h0 : (y 0).val = x 0) (h1 : (y 1).val = n * 128 + (x 1).val) :
    head (k0_pay3 (iblk m c 1 t) (iblk m c 5 t)) (k0_pay4 (F := Ideal) (iblk m c 2 t)) q (iblk m c 4 t) g x
      = attended (tokens m c) (qWeights m c) (kWeights m c) (((cfg0.win 6).blk t).view.emb y) := by
  rw [eq_ix2 x]
  refine (head_entry (tokens m c) (qWeights m c) (kWeights m c) _ _ q _ g (seqOf t) (groupOf t) n (fun i e => ?_) (qBlock m c t) (fun j e => ?_)
    (valueBlock m c t) (fun i e => ?_) (x 0) (x 1)).trans (attended_eq _ _ _ _ _ _ _ _ _ ?_ ?_)
  · refine (hq i e).trans ((queryBlock m c t i _).trans (congrArg (tokens m c _) (Fin.ext ?_)))
    show t.val % 2 * 512 + (n.val * 128 + e.val) = (t.val % 2 * 4 + n.val) * 128 + e.val
    omega
  · refine (keptRows_at _ _ j e).trans ?_
    unfold key
    congr 1
    · exact funext fun a => keyBlock m c t j a
    · exact funext fun a => kBlock m c t a
  · refine (hg i e).trans ((gateBlock m c t i _).trans (congrArg (tokens m c _) (Fin.ext ?_)))
    show 1536 + (t.val % 2 * 512 + (n.val * 128 + e.val)) = 1536 + ((t.val % 2 * 4 + n.val) * 128 + e.val)
    omega
  · blk_simp [place t]
    simp only [seqOf, groupOf]
    omega
  · blk_simp [place t]
    simp only [seqOf, groupOf]
    omega

theorem stored (c : Dev nD) (t : Fin cfg0.N) (y : S256x512.Idx) :
    (outsAt0 m c t).1 y = attended (tokens m c) (qWeights m c) (kWeights m c) (((cfg0.win 6).blk t).view.emb y) := by
  unfold outsAt0
  frame_out
  canon_tiles x h
  · rw [head3]
    refine piece m c t 3 _ _ (fun i e => ?_) (fun i e => ?_) y x h0 h1 <;> blk_point
  · rw [head2]
    refine piece m c t 2 _ _ (fun i e => ?_) (fun i e => ?_) y x h0 h1 <;> blk_point
  · rw [head1]
    refine piece m c t 1 _ _ (fun i e => ?_) (fun i e => ?_) y x h0 h1 <;> blk_point
  · rw [head0]
    refine piece m c t 0 _ _ (fun i e => ?_) (fun i e => ?_) y x h0 (by rw [h1]; simp) <;> blk_point

theorem storedKeys (c : Dev nD) (t : Fin cfg0.N) (y : S256x128.Idx) :
    (outsAt0 m c t).2 y = kept (tokens m c) (kWeights m c) (((cfg0.win 7).blk t).view.emb y) := by
  unfold outsAt0
  frame_out
  rw [eq_ix2 y]
  refine (rows_at _ _ (y 0) (y 1)).trans (Eq.trans ?_ (kept_eq _ _ (seqOf t) (groupOf t) (y 0) (y 1) _ ?_ ?_))
  · unfold key
    congr 1
    · exact funext fun a => keyBlock m c t (y 0) a
    · exact funext fun a => kBlock m c t a
  · blk_simp [place t]
  · blk_simp [place t]

/-- The first result array after the run. -/
theorem result (c : Dev nD) : (dats m 0 c).arrAt 6 cfg0.N = attended (tokens m c) (qWeights m c) (kWeights m c) := by
  refine (dats m 0 c).arrAt_eq_of_covers 6 _ (by decide +kernel) fun t _ y => ?_
  blk_simp
  rw [after0_6]
  exact stored m c t y

/-- The second result array after the run. -/
theorem resultKeys (c : Dev nD) : (dats m 0 c).arrAt 7 cfg0.N = kept (tokens m c) (kWeights m c) := by
  refine (dats m 0 c).arrAt_eq_of_covers 7 _ (by decide +kernel) fun t _ y => ?_
  blk_simp
  rw [after0_7]
  exact storedKeys m c t y

end Cert.AttnIdeal.Layer

end
-- ==== Proof.AttnFinite.lean ====
/- What the precondition says: the queries, the keys and the two norms' weights are real numbers. -/
module

public import proofs.«01_k».proof.Pre_finite
public import proofs.«01_k».proof.Proof.Softmax

@[expose] public section

set_option maxRecDepth 16384

noncomputable section

namespace Cert.Pre_finite.Layer

open Cert.Pre_finite Idealize.ShloMosaic Cert.Layer

/-- The predicate's shapes fit. -/
theorem fits : Cert.Pre_finite.Facts where
  slices_S4096x6272_S4096x1280_0_0 := by decide
  shapeCasts_S4096x1280_S4096x10x128 := by decide
  bcast_S_S4096x10x128 := by decide
  bcast_S_S128 := by decide
  bcast_S128_S1x1x128_2 := by decide
  bcast_S1x1x128_S4096x10x128_0_1_2 := by decide

/-- A number whose absolute value is less than infinity is real. -/
theorem real_of_abs {x : EReal} (h : max x (-x) < Ideal.ofBits .f32 0x7F800000#32) : ∃ a : ℝ, x = (a : EReal) := by
  rw [bits_top] at h
  induction x with
  | bot => simp at h
  | top => simp at h
  | coe a => exact ⟨a, rfl⟩

theorem both {a b : BitVec 1} (h : IntOp.andi a b = 1#1) : a = 1#1 ∧ b = 1#1 := by revert h; revert a b; decide

theorem less {p : Prop} [Decidable p] (h : BitVec.ofBool (decide p) = 1#1) : p := by
  by_contra hp
  rw [decide_eq_false hp] at h
  exact absurd h (by decide)

theorem fn_at [Facts] (z : FVec Ideal S4096x6272 .f32) (qn kn : FVec Ideal S128 .f32) (r : Fin 4096) (h : Fin 10) (e : Fin 128) :
    Cert.Pre_finite.fn z qn kn (ix3 r h e)
      = IntOp.andi (IntOp.andi (BitVec.ofBool (decide (max (z (ix2 r ⟨h * 128 + e, by omega⟩)) (-z (ix2 r ⟨h * 128 + e, by omega⟩)) < Ideal.ofBits .f32 0x7F800000#32)))
          (BitVec.ofBool (decide (max (qn (ix1 e)) (-qn (ix1 e)) < Ideal.ofBits .f32 0x7F800000#32))))
        (BitVec.ofBool (decide (max (kn (ix1 e)) (-kn (ix1 e)) < Ideal.ofBits .f32 0x7F800000#32))) := by
  pointwise [Cert.Pre_finite.fn]
  rfl

theorem real_of_fn [Facts] {z : FVec Ideal S4096x6272 .f32} {qn kn : FVec Ideal S128 .f32} (hf : Cert.Pre_finite.fn z qn kn = fun _ => 1#1) :
    (∀ (r : Fin 4096) (l : Fin 6272), l.val < 1280 → ∃ a : ℝ, z (ix2 r l) = (a : EReal)) ∧ (∀ e : Fin 128, ∃ a : ℝ, qn (ix1 e) = (a : EReal))
      ∧ ∀ e : Fin 128, ∃ a : ℝ, kn (ix1 e) = (a : EReal) := by
  have hb := fun r h e => both ((fn_at z qn kn r h e).symm.trans (congrFun hf _))
  refine ⟨fun r l hl => ?_, fun e => real_of_abs (less (both (hb 0 0 e).1).2), fun e => real_of_abs (less (hb 0 0 e).2)⟩
  obtain ⟨a, ha⟩ := real_of_abs (less (both (hb r ⟨l / 128, by omega⟩ ⟨l % 128, by omega⟩).1).1)
  refine ⟨a, Eq.trans (congrArg (fun q => z (ix2 r q)) (Fin.ext ?_)) ha⟩
  show l.val = l.val / 128 * 128 + l.val % 128
  omega

end Cert.Pre_finite.Layer

end
-- ==== Proof.AttnClaim.lean ====
/- The attention: where the queries, the keys and the norms' weights are real, the kernel and the reference end with the
   same two results. -/
module

public import proofs.«01_k».proof.Defs
public import proofs.«01_k».proof.Proof.AttnRef
public import proofs.«01_k».proof.Proof.AttnValue
public import proofs.«01_k».proof.Proof.AttnFinite

@[expose] public section

set_option maxRecDepth 16384

noncomputable section

namespace Cert.AttnIdeal.Layer

open Idealize.ShloMosaic Idealize.SL.Sem Cert.Layer

/-- The reference's first result, as an array. -/
theorem ref_attended (z : FVec Ideal Cert.AttnRefIdeal.S4096x6272 .f32) (qn kn : FVec Ideal Cert.AttnRefIdeal.S128 .f32)
    (hf : haveI := Cert.Pre_finite.Layer.fits; Cert.Pre_finite.fn (F := Ideal) z qn kn = fun _ => 1#1) :
    Cert.AttnRefIdeal.Layer.attended z qn kn
      = attended (fun r l => z (ix2 r l)) (fun e => qn (ix1 e)) (fun e => kn (ix1 e)) := by
  haveI := Cert.Pre_finite.Layer.fits
  obtain ⟨hz, hq, hk⟩ := Cert.Pre_finite.Layer.real_of_fn hf
  funext x
  rw [eq_ix2 x]
  exact Cert.AttnRefIdeal.Layer.attended_at z qn kn (row_real hz hq hk) (x 0) (x 1)

/-- The reference's second result, as an array. -/
theorem ref_kept (z : FVec Ideal Cert.AttnRefIdeal.S4096x6272 .f32) (kn : FVec Ideal Cert.AttnRefIdeal.S128 .f32) :
    Cert.AttnRefIdeal.Layer.keptKeys z kn = kept (fun r l => z (ix2 r l)) (fun e => kn (ix1 e)) := by
  funext x
  rw [eq_ix2 x]
  exact Cert.AttnRefIdeal.Layer.kept_at z kn (x 0) (x 1)

/-- Both programs end with the gated attention and the normalized keys, and neither changes an argument. -/
theorem algebraic : Cert.algebraic_AttnIdeal_AttnRefIdeal_pre_finite (hAttnIdeal := Cert.AttnIdeal.Gen.facts)
    (hAttnRefIdeal := Cert.AttnRefIdeal.Gen.facts) (hPre_finite := Cert.Pre_finite.Layer.fits) := by
  intro m g m' g' hpre hagree
  refine ⟨_, _, Cert.AttnIdeal.Value.run_blocks m g, ?_⟩
  refine (θ_run _ _ _).mono (fun r h c => ⟨(h c).1.trans ?_, (h c).2.1.trans ?_, (h c).2.2⟩) (Cert.AttnRefIdeal.Value.run m' g')
  · obtain ⟨h0, h1, h2⟩ := hagree c
    rw [result m c]
    refine Eq.trans ?_ (ref_attended _ _ _ (hpre c))
    unfold Cert.AttnRefIdeal.Value.res_main_v55
    rw [h0, h1, h2]
    rfl
  · obtain ⟨h0, h1, h2⟩ := hagree c
    rw [resultKeys m c]
    refine Eq.trans ?_ (ref_kept _ _)
    rw [h0, h2]
    rfl

end Cert.AttnIdeal.Layer

end
-- ==== Proof.InProjBody.lean ====
/- The input projection: one run of the kernel's body.

   At the first column block of each row block the body normalizes the 1024 rows, 256 at a time, into a buffer of its own;
   at every column block it multiplies that buffer by the block of the weights. -/
module

public import proofs.«01_k».proof.Proof.Gen.InProjIdeal.Frame
public import proofs.«01_k».proof.Proof.Gen.InProjIdeal.Loops
public import proofs.«01_k».proof.Proof.Gen.InProjIdeal.Skeleton
public import Idealize.ShloMosaic.Lib.Pipeline.FrameBody
public import Idealize.ShloMosaic.Lib.Pipeline.DatRel
public import Idealize.ShloMosaic.Lib.Pipeline.ArrRel
public import Idealize.ShloMosaic.Lib.WritesUnit
public import Idealize.ShloMosaic.Lib.VecWindow
public import Idealize.ShloMosaic.Lib.Pointwise
public import Idealize.ShloMosaic.Lib.Tactic

@[expose] public section

set_option maxRecDepth 16384

noncomputable section

namespace Cert.InProjIdeal.Layer

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body computes -/

/-- The shift that the modulation's first row holds. -/
def shiftOf (x1 : Vec F S8x6144 .f32) : Vec F S1x2048 .f32 := fun y => x1 (ix2 0 ⟨(y 1).val, by have : (y 1).val < 2048 := (y 1).isLt; omega⟩)

/-- The scale that the modulation's first row holds. -/
def scaleOf (x1 : Vec F S8x6144 .f32) : Vec F S1x2048 .f32 := fun y => x1 (ix2 0 ⟨2048 + (y 1).val, by have : (y 1).val < 2048 := (y 1).isLt; omega⟩)

/-- The `k`-th 256 rows of a block. -/
def rowsOf (x0 : Vec F S1024x2048 .f32) (k : ℕ) (hk : k < 4) : Vec F S256x2048 .f32 :=
  fun y => x0 (ix2 ⟨256 * k + (y 0).val, by have : (y 0).val < 256 := (y 0).isLt; omega⟩ (y 1))

/-- The block's rows, normalized and modulated. -/
def hOf (x0 : Vec F S1024x2048 .f32) (x1 : Vec F S8x6144 .f32) (x2 : Vec F S1x2048 .f32) : FVec F S1024x2048 .bf16 := fun y =>
  k0_pay1 (shiftOf x1) (scaleOf x1) x2 (rowsOf x0 ((y 0).val / 256) (by have : (y 0).val < 1024 := (y 0).isLt; omega))
    (ix2 ⟨(y 0).val % 256, by omega⟩ (y 1))

theorem read_shift (M : Memref sig .tc .vmem S8x6144 .f32) (hM : M.IsWhole) (x1 : Vec F S8x6144 .f32) :
    M.view.readAt (Elt F) (Rect.unit (s := S8x6144) ![0, 0] S1x2048.size inb_S8x6144_S1x2048_0_0).toLoadRect (hM.unread x1) = shiftOf x1 := by
  rw [View.readAt_eq_ld, Memref.IsWhole.read_unread]
  funext y
  refine congrArg x1 (funext fun a => Fin.ext ?_)
  have h0 : (y 0).val < 1 := (y 0).isLt
  match a with
  | ⟨0, _⟩ => show 0 + 1 * (y 0).val = 0; omega
  | ⟨1, _⟩ => show 0 + 1 * (y 1).val = (y 1).val; omega

theorem read_scale (M : Memref sig .tc .vmem S8x6144 .f32) (hM : M.IsWhole) (x1 : Vec F S8x6144 .f32) :
    M.view.readAt (Elt F) (Rect.unit (s := S8x6144) ![0, 2048] S1x2048.size inb_S8x6144_S1x2048_0_2048).toLoadRect (hM.unread x1) = scaleOf x1 := by
  rw [View.readAt_eq_ld, Memref.IsWhole.read_unread]
  funext y
  refine congrArg x1 (funext fun a => Fin.ext ?_)
  have h0 : (y 0).val < 1 := (y 0).isLt
  match a with
  | ⟨0, _⟩ => show 0 + 1 * (y 0).val = 0; omega
  | ⟨1, _⟩ => show 2048 + 1 * (y 1).val = 2048 + (y 1).val; omega

theorem read_norm (M : Memref sig .tc .vmem S1x2048 .f32) (hM : M.IsWhole) (x2 : Vec F S1x2048 .f32) :
    M.view.readAt (Elt F) (Rect.unit (s := S1x2048) ![0, 0] S1x2048.size inb_S1x2048_S1x2048_0_0).toLoadRect (hM.unread x2) = x2 := by
  rw [View.readAt_full, Memref.IsWhole.read_unread]

theorem trips_eq : k0_t1_loop.trips = 4 := by decide +kernel

theorem read_rows (M : Memref sig .tc .vmem S1024x2048 .f32) (hM : M.IsWhole) (x0 : Vec F S1024x2048 .f32) (k : Fin k0_t1_loop.trips) (hk : k.val < 4)
    (inb) : M.view.readAt (Elt F) (Rect.unit (s := S1024x2048) (k0_off1 k) S256x2048.size inb).toLoadRect (hM.unread x0) = rowsOf x0 k.val hk := by
  rw [View.readAt_eq_ld, Memref.IsWhole.read_unread]
  funext y
  refine congrArg x0 (funext fun a => Fin.ext ?_)
  have hoff := k0_off1_eq k
  match a with
  | ⟨0, _⟩ =>
    have e : k0_off1 k 0 = 256 * k.val := by rw [hoff]; rfl
    show k0_off1 k 0 + 1 * (y 0).val = 256 * k.val + (y 0).val
    omega
  | ⟨1, _⟩ =>
    have e : k0_off1 k 1 = 0 := by rw [hoff]; rfl
    show k0_off1 k 1 + 1 * (y 1).val = (y 1).val
    omega

section
variable (c : Dev nD) (i : grid0.Coords) (arg2 : Memref sig .tc .vmem S1024x2048 .f32) (harg2 : arg2.IsWhole) (arg3 : Memref sig .tc .vmem S8x6144 .f32) (harg3 : arg3.IsWhole)
  (arg4 : Memref sig .tc .vmem S1x2048 .f32) (harg4 : arg4.IsWhole) (arg5 : Memref sig .tc .vmem S1x2048x896 .f32) (harg5 : arg5.IsWhole)
  (arg6 : Memref sig .tc .vmem S1024x896 .f32) (harg6 : arg6.IsWhole) (arg7 : Memref sig .tc .vmem S1024x2048 .bf16) (harg7 : arg7.IsWhole)

/-- What one trip of the normalizing loop stores: its 256 rows, normalized. -/
theorem trip_pieces (k0_h1 : k0_cond1 i = 1#1)
   (v9 v10 v11 : Vec F S1x2048 .f32) (X : BufTy.Contents (Elt F) arg2.view.ty) (k : Fin k0_t1_loop.trips) :
   tripL_k0_t1 (F := F) Variants.none c none i arg2 harg2 arg3 harg3 arg4 harg4 arg5 harg5 arg6 harg6 arg7 harg7 k0_h1 v9 v10 v11 X k =
     [⟨Rect.unit (s := S1024x2048) (k0_off1 k) S256x2048.size (k0_off1_inb i k k0_h1), k0_pay1 v9 v10 v11 (arg2.view.readAt (Elt F) (Rect.unit (s := S1024x2048) (k0_off1 k) S256x2048.size (k0_off1_inb i k k0_h1)).toLoadRect X)⟩] := by
  unfold tripL_k0_t1 trip_k0_t1
  rfl

/-- After the first `k` trips the buffer's first `256 * k` rows are the normalized ones, whatever it held. -/
theorem rows_done (hc : k0_cond1 i = 1#1) (x0 : Vec F S1024x2048 .f32) (x1 : Vec F S8x6144 .f32) (x2 : Vec F S1x2048 .f32)
    (G : BufTy.Contents (Elt F) arg7.view.ty) (k : ℕ) (hk : k ≤ 4) (y : S1024x2048.Idx) (hy : (y 0).val < 256 * k) :
    arg7.view.read (Elt F) (arg7.view.writes (Elt F) G (pb_k0_t1 (F := F) Variants.none c none i arg2 harg2 arg3 harg3 arg4 harg4 arg5 harg5 arg6 harg6 arg7 harg7 hc
      (shiftOf x1) (scaleOf x1) x2 (harg2.unread x0) k)) y = hOf x0 x1 x2 y := by
  induction k with
  | zero => omega
  | succ k ih =>
    have hkt : k < k0_t1_loop.trips := by rw [trips_eq]; omega
    have e := pb_k0_t1_succ (F := F) Variants.none c none i arg2 harg2 arg3 harg3 arg4 harg4 arg5 harg5 arg6 harg6 arg7 harg7 hc
      (shiftOf x1) (scaleOf x1) x2 (harg2.unread x0) ⟨k, hkt⟩
    rw [trip_pieces, read_rows arg2 harg2 x0 ⟨k, hkt⟩ (by show k < 4; omega)] at e
    rw [show k + 1 = (⟨k, hkt⟩ : Fin k0_t1_loop.trips).val + 1 from rfl, e, List.cons_append, List.nil_append]
    by_cases h : (y 0).val < 256 * k
    · refine (View.read_writes_cons_unit_of_not_mem arg7.view G _ _ _ y (k0_off1_eq ⟨k, hkt⟩) 0 (Or.inl h)).trans ?_
      exact ih (by omega) h
    · have hq : (y 0).val / 256 = k := by omega
      refine (View.read_writes_cons_unit_of_mem arg7.view G _ _ _ y (ix2 ⟨(y 0).val % 256, by omega⟩ (y 1)) (k0_off1_eq ⟨k, hkt⟩)
        (fun a => ?_)).trans ?_
      · match a with
        | ⟨0, _⟩ => show (y 0).val = 256 * k + (y 0).val % 256; omega
        | ⟨1, _⟩ => show (y 1).val = 0 + (y 1).val; omega
      · subst hq
        rfl

/-- After the loop the whole buffer is normalized. -/
theorem all_rows (hc : k0_cond1 i = 1#1) (x0 : Vec F S1024x2048 .f32) (x1 : Vec F S8x6144 .f32) (x2 : Vec F S1x2048 .f32)
    (G : BufTy.Contents (Elt F) arg7.view.ty) :
    arg7.view.read (Elt F) (arg7.view.writes (Elt F) G (pb_k0_t1 (F := F) Variants.none c none i arg2 harg2 arg3 harg3 arg4 harg4 arg5 harg5 arg6 harg6 arg7 harg7 hc
      (shiftOf x1) (scaleOf x1) x2 (harg2.unread x0) (Scf.trips k0_t1_loop.lb k0_t1_loop.ub k0_t1_loop.st))) = hOf x0 x1 x2 := by
  funext y
  rw [show Scf.trips k0_t1_loop.lb k0_t1_loop.ub k0_t1_loop.st = 4 from trips_eq]
  exact rows_done c i arg2 harg2 arg3 harg3 arg4 harg4 arg5 harg5 arg6 harg6 arg7 harg7 hc x0 x1 x2 G 4 le_rfl y (by have : (y 0).val < 1024 := (y 0).isLt; omega)

set_option maxHeartbeats 800000 in
/-- The body at the first column block: the buffer is filled, and the product of it and the weights is stored. -/
theorem run_first (hc : k0_cond1 i = 1#1)
    (x0 : Vec F S1024x2048 .f32) (x1 : Vec F S8x6144 .f32) (x2 : Vec F S1x2048 .f32) (x3 : Vec F S1x2048x896 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d)
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay2 (hOf x0 x1 x2) x3) ∗ owns (c : Thread nD τ) arg7 fullShare (hOf x0 x1 x2)) -∗ K ⟨⟩))
    ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d6, %f6, -, H6⟩, ⟨%ds0, %fs0, -, HS0⟩, Hk⟩
  obtain rfl := harg2.eq_unread hf0; obtain rfl := harg3.eq_unread hf1; obtain rfl := harg4.eq_unread hf2; obtain rfl := harg5.eq_unread hf3
  sl_exec (disch := first | sl_exact hc)
  sl_step
  iapply Hk
  isplitl [H0]
  · iexists _; isplitr
    · ipureintro; exact harg2.read_unread _
    · iexact H0
  isplitl [H1]
  · iexists _; isplitr
    · ipureintro; exact harg3.read_unread _
    · iexact H1
  isplitl [H2]
  · iexists _; isplitr
    · ipureintro; exact harg4.read_unread _
    · iexact H2
  isplitl [H3]
  · iexists _; isplitr
    · ipureintro; exact harg5.read_unread _
    · iexact H3
  isplitl [H6]
  · iexists _; isplitr
    rotate_left
    · iexact H6
    · ipureintro
      rw [View.read_writes_full]
      refine congrArg₂ k0_pay2 ?_ ?_
      · unfold run_first.sl.v3
        rw [View.readAt_full, read_shift, read_scale, read_norm]
        exact all_rows c i arg2 harg2 arg3 harg3 arg4 harg4 arg5 harg5 arg6 harg6 arg7 harg7 hc x0 x1 x2 _
      · rw [View.readAt_full, Memref.IsWhole.read_unread]
  · iexists _; isplitr
    rotate_left
    · iexact HS0
    · ipureintro
      rw [read_shift, read_scale, read_norm]
      exact all_rows c i arg2 harg2 arg3 harg3 arg4 harg4 arg5 harg5 arg6 harg6 arg7 harg7 hc x0 x1 x2 _

set_option maxHeartbeats 800000 in
/-- The body at a later column block: the buffer is read as it stands. -/
theorem run_later (hc : ¬ k0_cond1 i = 1#1)
    (x0 : Vec F S1024x2048 .f32) (x1 : Vec F S8x6144 .f32) (x2 : Vec F S1x2048 .f32) (x3 : Vec F S1x2048x896 .f32) (h : Vec F S1024x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare h
      ∗ (iprop(owns (c : Thread nD τ) arg2 fullShare x0 ∗ owns (c : Thread nD τ) arg3 fullShare x1 ∗ owns (c : Thread nD τ) arg4 fullShare x2 ∗ owns (c : Thread nD τ) arg5 fullShare x3
          ∗ owns (c : Thread nD τ) arg6 fullShare (k0_pay2 h x3) ∗ owns (c : Thread nD τ) arg7 fullShare h) -∗ K ⟨⟩))
    ⊢ wp frame (wpE (defs₀ (F := F)) Variants.none c none) E (cc0_inproj i arg2 harg2 arg3 harg3 arg4 harg4 arg5 harg5 arg6 harg6 arg7 harg7) K := by
  simp only [cc0_inproj_eq_skeleton]; unfold cc0_inproj_skel
  unfold owns
  iintro ⟨⟨%f0, %hf0, H0⟩, ⟨%f1, %hf1, H1⟩, ⟨%f2, %hf2, H2⟩, ⟨%f3, %hf3, H3⟩, ⟨%d6, %f6, -, H6⟩, ⟨%fs0, %hs0, HS0⟩, Hk⟩
  obtain rfl := harg5.eq_unread hf3; obtain rfl := harg7.eq_unread hs0
  sl_exec (disch := first | sl_exact hc)
  sl_step
  iapply Hk
  isplitl [H0]
  · iexists _; isplitr
    · ipureintro; exact hf0
    · iexact H0
  isplitl [H1]
  · iexists _; isplitr
    · ipureintro; exact hf1
    · iexact H1
  isplitl [H2]
  · iexists _; isplitr
    · ipureintro; exact hf2
    · iexact H2
  isplitl [H3]
  · iexists _; isplitr
    · ipureintro; exact harg5.read_unread _
    · iexact H3
  isplitl [H6]
  · iexists _; isplitr
    rotate_left
    · iexact H6
    · ipureintro
      rw [View.read_writes_full]
      refine congrArg₂ k0_pay2 ?_ ?_
      · rw [View.readAt_full, Memref.IsWhole.read_unread]
      · rw [View.readAt_full, Memref.IsWhole.read_unread]
  · iexists _; isplitr
    · ipureintro; exact harg7.read_unread _
    · iexact HS0

end

end Cert.InProjIdeal.Layer

end
-- ==== Proof.InProjRun.lean ====
/- The input projection: the run of the whole grid.

   The weights' last block reaches past the array, so what the body finds past its edge is unnamed and so are the
   columns that it computes from there. What is said of a block of the result is therefore that it is the product of the
   normalized rows and SOME block whose part inside the array is the weights'. -/
module

public import proofs.«01_k».proof.Proof.InProjBody
public import Idealize.ShloMosaic.Lib.Claim

@[expose] public section

set_option maxRecDepth 16384

noncomputable section

namespace Cert.InProjIdeal.Layer

open Cert.InProjIdeal Cert.InProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The normalized rows of point `t`'s block. -/
def hAt (c : Dev nD) (t : Fin cfg0.N) : FVec F S1024x2048 .bf16 := hOf (iblk m c 0 t) (iblk m c 1 t) (iblk m c 2 t)

/-- The body's own buffer. -/
abbrev scM : Memref sig .tc .vmem S1024x2048 .bf16 := Memref.whole cc0_scratch0

/-- What the body's own buffer holds before a point that is not the first of its row block: the rows of that point's block. -/
def Carried (c : Dev nD) (p : ℕ) (d : Vec F S1024x2048 .bf16) : Prop := ∀ t : Fin cfg0.N, t.val = p → t.val % 7 ≠ 0 → d = hAt m c t

/-- The proof data: every input left in place, the body's own buffer carried from point to point; the result's window is
    held to a predicate (`Product`), so what stands for it here does not matter. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => win0_3.fill (grid0.coords t) (fun _ => Scalar.ofBits .f32 0#32) (iblk m c 3 t)
    | ⟨4, _⟩ => fun _ => Scalar.ofBits .f32 0#32
  Φ p := iprop((∃ d, ⌜Carried m c p.val d⌝ ∗ owns (c : Thread nD τ) scM fullShare d) ∗ (∃ r, prngReg c r))
  q _ := fullShare
  owed _ := 0

/-- The one window that is held to a predicate: the result's. -/
def held : Fin cfg0.W → Bool := fun w => w == 4

/-- What the result's window holds after point `t`: the product of the point's normalized rows and some block whose part
    inside the array is the weights'. -/
def Product (c : Dev nD) : (w : Fin cfg0.W) → Fin cfg0.N → ((cfg0.win w).block.Idx → Elt F (cfg0.win w).elt) → Prop
  | ⟨4, _⟩, t, X => ∃ d, X = k0_pay2 (hAt m c t) (win0_3.fill (grid0.coords t) d (iblk m c 3 t))
  | _, _, _ => True

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = win0_3.fill (grid0.coords t) (fun _ => Scalar.ofBits .f32 0#32) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) :
    (dats m 0 c).before 3 t d = win0_3.fill (grid0.coords t) d (iblk m c 3 t) := by
  unfold Dat.before
  rw [fetch0_3 t, if_pos rfl]
  unfold Dat.fetched Dat.blockOf iblk
  rw [A_eq]

/-! ## The normalized rows along a row block -/

theorem place : ∀ t : Fin cfg0.N, win0_0.index t = ![t.val / 7, 0] ∧ win0_1.index t = ![0, 0] ∧ win0_2.index t = ![0, 0]
    ∧ win0_3.index t = ![0, 0, t.val % 7] ∧ win0_4.index t = ![t.val / 7, t.val % 7] :=
  (by decide +kernel : ∀ t : Fin grid0.N, _)

/-- The condition on which the body fills its buffer: the point is the first of its row block. -/
theorem first_iff : ∀ t : Fin cfg0.N, k0_cond1 (grid0.coords t) = 1#1 ↔ t.val % 7 = 0 :=
  (by decide +kernel : ∀ t : Fin grid0.N, _)

theorem iblk_same_0 (c : Dev nD) (t t' : Fin cfg0.N) (h : win0_0.index t = win0_0.index t') : iblk m c 0 t = iblk m c 0 t' := by
  have e : ∀ u : Fin cfg0.N, (dats m 0 c).fetched 0 u (iblk m c 0 t) = iblk m c 0 u := fun u => by
    unfold Dat.fetched Dat.blockOf iblk; rw [A_eq]; try rfl
  rw [← e t, ← e t']
  exact (dats m 0 c).fetched_congr 0 h rfl _
theorem iblk_same_1 (c : Dev nD) (t t' : Fin cfg0.N) (h : win0_1.index t = win0_1.index t') : iblk m c 1 t = iblk m c 1 t' := by
  have e : ∀ u : Fin cfg0.N, (dats m 0 c).fetched 1 u (iblk m c 1 t) = iblk m c 1 u := fun u => by
    unfold Dat.fetched Dat.blockOf iblk; rw [A_eq]; try rfl
  rw [← e t, ← e t']
  exact (dats m 0 c).fetched_congr 1 h rfl _
theorem iblk_same_2 (c : Dev nD) (t t' : Fin cfg0.N) (h : win0_2.index t = win0_2.index t') : iblk m c 2 t = iblk m c 2 t' := by
  have e : ∀ u : Fin cfg0.N, (dats m 0 c).fetched 2 u (iblk m c 2 t) = iblk m c 2 u := fun u => by
    unfold Dat.fetched Dat.blockOf iblk; rw [A_eq]; try rfl
  rw [← e t, ← e t']
  exact (dats m 0 c).fetched_congr 2 h rfl _

/-- Two points of one row block have the same normalized rows. -/
theorem hAt_same (c : Dev nD) (t t' : Fin cfg0.N) (h : t.val / 7 = t'.val / 7) : hAt m c t = hAt m c t' := by
  unfold hAt
  rw [iblk_same_0 m c t t' (by rw [(place t).1, (place t').1, h]), iblk_same_1 m c t t' (by rw [(place t).2.1, (place t').2.1]),
    iblk_same_2 m c t t' (by rw [(place t).2.2.1, (place t').2.2.1])]

/-- The rows of point `t` are what the next point of the row block expects. -/
theorem carried_succ (c : Dev nD) (t : Fin cfg0.N) : Carried m c (t.val + 1) (hAt m c t) := fun t' ht' hne =>
  hAt_same m c t t' (by omega)

/-- The invariant with nothing said of the buffer is the launch's. -/
theorem PhiA0_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

theorem Phi_eq (c : Dev nD) (p : Fin (cfg0.N + 1)) : (dats m 0 c).Φ p
    = iprop((∃ d, ⌜Carried m c p.val d⌝ ∗ owns (c : Thread nD τ) scM fullShare d) ∗ (∃ r, prngReg c r)) := rfl

/-! ## The body at a point of the grid -/

abbrev ms0_0 (t : Fin cfg0.N) : Memref sig .tc .vmem S1024x2048 .f32 := win0_0.stage (cfg0.slots t 0)
abbrev ms0_1 (t : Fin cfg0.N) : Memref sig .tc .vmem S8x6144 .f32 := win0_1.stage (cfg0.slots t 1)
abbrev ms0_2 (t : Fin cfg0.N) : Memref sig .tc .vmem S1x2048 .f32 := win0_2.stage (cfg0.slots t 2)
abbrev ms0_3 (t : Fin cfg0.N) : Memref sig .tc .vmem S1x2048x896 .f32 := win0_3.stage (cfg0.slots t 3)
abbrev ms0_4 (t : Fin cfg0.N) : Memref sig .tc .vmem S1024x896 .f32 := win0_4.stage (cfg0.slots t 4)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ Y, ⌜((dats m 0 c).toRRel held (Product m c)).Finds 4 t Y⌝ ∗ owns (c : Thread nD τ) (ms0_4 t) fullShare Y))

/-- What the body leaves at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare (win0_3.fill (grid0.coords t) d (win0_3.cut (grid0.coords t) ((dats m 0 c).after 3 t))))
    ∗ (∃ X, ⌜Product m c 4 t X⌝ ∗ owns (c : Thread nD τ) (ms0_4 t) fullShare X))

set_option maxHeartbeats 800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, after0_0, after0_1, after0_2, after0_3, Pipeline.Window.cut_fill]
  rw [show (dats m 0 c).owesAt () t.succ = (dats m 0 c).owesAt () t.castSucc from rfl]
  rw [Phi_eq, Phi_eq]
  iintro ⟨⟨⟨%h, %hh, HS⟩, Hg⟩, Ho, ⟨%d0, H0⟩, ⟨%d1, H1⟩, ⟨%d2, H2⟩, ⟨%d3, H3⟩, ⟨%d4, -, H4⟩⟩
  by_cases hc : k0_cond1 (grid0.coords t) = 1#1
  · iapply (run_first c (grid0.coords t) _ _ _ _ _ _ _ _ _ _ _ _ hc (iblk m c 0 t) (iblk m c 1 t) (iblk m c 2 t) (win0_3.fill (grid0.coords t) d3 (iblk m c 3 t)) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]
      · iexists _; isplitr
        swap; · iexact HS
        ipureintro; exact carried_succ m c t
      iexact Hg
    isplitl [Ho]; · iexact Ho
    isplitl [H0]; · iexact H0
    isplitl [H1]; · iexact H1
    isplitl [H2]; · iexact H2
    isplitl [H3]; · iexists d3; iexact H3
    iexists _; isplitr
    swap; · iexact H4
    ipureintro; exact ⟨d3, rfl⟩
  · have hne : t.val % 7 ≠ 0 := fun e => hc ((first_iff t).mpr e)
    obtain rfl := hh t rfl hne
    iapply (run_later c (grid0.coords t) _ _ _ _ _ _ _ _ _ _ _ _ hc (iblk m c 0 t) (iblk m c 1 t) (iblk m c 2 t) (win0_3.fill (grid0.coords t) d3 (iblk m c 3 t)) (hAt m c t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]
      · iexists _; isplitr
        swap; · iexact HS
        ipureintro; exact carried_succ m c t
      iexact Hg
    isplitl [Ho]; · iexact Ho
    isplitl [H0]; · iexact H0
    isplitl [H1]; · iexact H1
    isplitl [H2]; · iexact H2
    isplitl [H3]; · iexists d3; iexact H3
    iexists _; isplitr
    swap; · iexact H4
    ipureintro; exact ⟨d3, rfl⟩

theorem body_row (t : Fin cfg0.N) : defs₀ (F := F) .tc cfg0.body (cfg0.bodyArgs t (cfg0.slots t)) = bodyAt0 t := by
  unfold defs₀; rw [Defs.onTc_tc]

theorem body_obligation (c : Dev nD) :
    Pipeline.BodyObligationRel (dats (F := F) m 0 c) (defs₀ (F := F)) Variants.none () Set.univ held (Product m c) := fun t => by
  rw [bigSep_W0, bigSep_W0, body_row]
  exact triple_restated (sound_body m c t) rfl .rfl fun _ => .rfl

/-! ## The run -/

/-- The data with the result's window held to `Product`. -/
def rdats (c : Dev nD) : Pipeline.RDat τ (Elt F) Unit ℕ (UR sig nD τ) ℕ cfg0 c := (dats m 0 c).toRRel held (Product m c)

set_option backward.isDefEq.respectTransparency.types false in
/-- The whole run: every array at contents that the data allow, every counter at zero. -/
theorem run_main : θ_run defs (onTc (τ := τ) (main (F := F))) (s₀ m ρ)
    (fun r => Pipeline.RDat.FramePost cfg0 (rdats m) (V m) r ∧ r.2.sem = fun _ => 0) :=
  Pipeline.RDat.θ_run_frame_track cfgs (0 : Fin 1) launch0 defs₀ Variants.none (rdats m) m ρ main
    (hbody := fun c => (body_obligation m c).toRRel) (hshare := fun c w => (dats m 0 c).share_full (fun _ => rfl) w)
    (howed := fun _ _ => rfl) (V := V m) (hmain := hmain m Variants.none) (hA := A_eq m)
    (hin := fun c => by
      show (Pipeline.ΦA spec0 c : sProp 𝕄) ⊢ (dats m 0 c).Φ 0
      rw [PhiA0_eq, Phi_eq]
      iintro ⟨⟨%d, H⟩, Hg⟩
      isplitl [H]
      · iexists d; isplitr
        · ipureintro
          intro t ht hne
          have : t.val = 0 := ht
          omega
        · iexact H
      · iexact Hg)
    (hout := fun c => by
      show (dats m 0 c).Φ (Fin.last _) ⊢ (Pipeline.ΦA spec0 c : sProp 𝕄)
      rw [PhiA0_eq, Phi_eq]
      iintro ⟨⟨%d, -, H⟩, Hg⟩
      isplitl [H]
      · iexists d; iexact H
      · iexact Hg)
    (Q' := _)

/-- The arguments end as they were. -/
theorem unchanged (r) (h : Pipeline.RDat.FramePost cfg0 (rdats m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(Pipeline.RDat.FramePost.arr_in h c 0 rfl).trans ((A_eq m c 0).trans (V_main_arg0 m c)),
    (Pipeline.RDat.FramePost.arr_in h c 1 rfl).trans ((A_eq m c 1).trans (V_main_arg1 m c)),
    ((h c).2 main_arg2 (Pipeline.mem_restRefs_of main_arg2 (by decide) (by decide))).trans (V_main_arg2 m c),
    (Pipeline.RDat.FramePost.arr_in h c 3 rfl).trans ((A_eq m c 3).trans (V_main_arg3 m c))⟩

/-- The program runs, its arguments end unchanged, and every counter ends at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨unchanged m r h.1, h.2⟩) (run_main m ρ)

end Cert.InProjIdeal.Layer

end
-- ==== Proof.InProjValue.lean ====
/- The input projection: what the kernel leaves in the columns of its result that exist.

   The reference normalizes every row, modulates it, and multiplies it by the projection's weights; the kernel does so
   for blocks of 1024 tokens and 896 columns. -/
module

public import proofs.«01_k».proof.Proof.InProjRun
public import proofs.«01_k».proof.Proof.Gen.InProjRefIdeal.Run
public import Idealize.ShloMosaic.Lib.Pointwise
public import Idealize.ShloMosaic.Lib.Pipeline.ValueKit
public import Idealize.ShloMosaic.Lib.Pipeline.ArrRel

@[expose] public section

set_option maxRecDepth 16384

noncomputable section

namespace Cert.InProjIdeal.Layer

open Cert.InProjIdeal Cert.InProjIdeal.Gen Idealize.ShloMosaic Idealize.ShloMosaic.TcCoe Idealize.SL.Sem
open Idealize.ShloMosaic.Pipeline (Dat)

open Cert.InProjRefIdeal.Gen in
/-- The tokens, normalized and modulated, as the reference states them. -/
def normalized (x : FVec Ideal S4096x2048 .f32) (md : FVec Ideal S8x6144 .f32) (nw : FVec Ideal S2048 .f32) : FVec Ideal S4096x2048 .f32 :=
  addf (mulf (mulf (mulf x (broadcastInDim S4096x2048 ![0, 1] bcast_S4096x1_S4096x2048_0_1
      (Host.rsqrt (addf (Host.divf (broadcastInDim Cert.InProjRefIdeal.S4096x1 ![0] bcast_S4096_S4096x1_0
        (Host.reduceAdd (mulf x x) (constant Cert.InProjRefIdeal.S_ .f32 0x00000000#32) reducesTo_S4096x2048_S4096_d1 h_S_))
        (broadcastInDim Cert.InProjRefIdeal.S4096x1 ![] bcast_S_S4096x1 (constant Cert.InProjRefIdeal.S_ .f32 0x45000000#32)))
        (broadcastInDim Cert.InProjRefIdeal.S4096x1 ![] bcast_S_S4096x1 (constant Cert.InProjRefIdeal.S_ .f32 0x358637BD#32))))))
      (broadcastInDim S4096x2048 ![0, 1] bcast_S1x2048_S4096x2048_0_1 (broadcastInDim Cert.InProjRefIdeal.S1x2048 ![1] bcast_S2048_S1x2048_1 nw)))
      (broadcastInDim S4096x2048 ![0, 1] bcast_S1x2048_S4096x2048_0_1
        (addf (broadcastInDim Cert.InProjRefIdeal.S1x2048 ![] bcast_S_S1x2048 (constant Cert.InProjRefIdeal.S_ .f32 0x3F800000#32))
          (extractStridedSlice Cert.InProjRefIdeal.S1x2048 ![0, 2048] (extractStridedSlice Cert.InProjRefIdeal.S1x6144 ![0, 0] md
            slices_S8x6144_S1x6144_0_0) slices_S1x6144_S1x2048_0_2048))))
    (broadcastInDim S4096x2048 ![0, 1] bcast_S1x2048_S4096x2048_0_1
      (extractStridedSlice Cert.InProjRefIdeal.S1x2048 ![0, 0] (extractStridedSlice Cert.InProjRefIdeal.S1x6144 ![0, 0] md
        slices_S8x6144_S1x6144_0_0) slices_S1x6144_S1x2048_0_0))

open Cert.InProjRefIdeal.Gen in
/-- The projected tokens, as the reference states them: the last 112 columns stand for none. -/
def projected (x : FVec Ideal S4096x2048 .f32) (md : FVec Ideal S8x6144 .f32) (nw : FVec Ideal S2048 .f32)
    (w : FVec Ideal S2x2048x6160 .f32) : FVec Ideal S4096x6272 .f32 :=
  pad S4096x6272 ![0, 0] ![0, 112] ![0, 0]
    (Host.dotGeneral Cert.InProjRefIdeal.dot_S4096x2048_S2048x6160_S4096x6160_1_0_0_1_n_n none (normalized x md nw)
      (shapeCast _ (extractStridedSlice Cert.InProjRefIdeal.S1x2048x6160 ![0, 0, 0] w slices_S2x2048x6160_S1x2048x6160_0_0_0)
        shapeCasts_S1x2048x6160_S2048x6160))
    (sitofp .f32 (constantI Cert.InProjRefIdeal.S_ 32 0#32)) pads_S4096x6160_S4096x6272_000_01120 h_S_

/-- One entry of the normalized tokens. -/
theorem normalized_at (x : FVec Ideal S4096x2048 .f32) (md : FVec Ideal S8x6144 .f32) (nw : FVec Ideal S2048 .f32) (r : Fin 4096) (k : Fin 2048) :
    normalized x md nw (ix2 r k) = x (ix2 r k) * Ideal.rsqrt (Ideal.div (∑ j : Fin 2048, x (ix2 r j) * x (ix2 r j)) (Ideal.ofBits FTy.f32 1157627904#32)
      + Ideal.ofBits FTy.f32 897988541#32) * nw (ix1 k) * (1 + md (ix2 0 ⟨2048 + k, by omega⟩)) + md (ix2 0 ⟨k, by omega⟩) := by
  pointwise [normalized]

/-- One entry of the projected tokens, in a column that exists. -/
theorem projected_at (x : FVec Ideal S4096x2048 .f32) (md : FVec Ideal S8x6144 .f32) (nw : FVec Ideal S2048 .f32)
    (w : FVec Ideal S2x2048x6160 .f32) (r : Fin 4096) (l : Fin 6272) (hl : l.val < 6160) :
    projected x md nw w (ix2 r l) = ∑ k : Fin 2048, normalized x md nw (ix2 r k) * w (ix3 0 k ⟨l, hl⟩) := by
  pointwise [projected]
  rw [dif_pos hl]

/-- One entry of the rows that the body normalizes. -/
theorem hOf_at (x0 : FVec Ideal S1024x2048 .f32) (x1 : FVec Ideal S8x6144 .f32) (x2 : FVec Ideal S1x2048 .f32) (r : Fin 1024) (k : Fin 2048) :
    hOf (F := Ideal) x0 x1 x2 (ix2 r k) = x0 (ix2 r k) * Ideal.rsqrt (Ideal.div (∑ j : Fin 2048, x0 (ix2 r j) * x0 (ix2 r j)) (Ideal.ofBits FTy.f32 1157627904#32)
      + Ideal.ofBits FTy.f32 897988541#32) * x2 (ix2 0 k) * (1 + x1 (ix2 0 ⟨2048 + k, by omega⟩)) + x1 (ix2 0 ⟨k, by omega⟩) := by
  have e : ∀ h : 256 * (r.val / 256) + r.val % 256 < 1024, (⟨256 * (r.val / 256) + r.val % 256, h⟩ : Fin 1024) = r :=
    fun h => Fin.ext (by show 256 * (r.val / 256) + r.val % 256 = r.val; omega)
  pointwise [hOf, k0_pay1, shiftOf, scaleOf, rowsOf]
  simp only [e]

/-- One entry of the body's product. -/
theorem product_at (h : FVec Ideal S1024x2048 .bf16) (b : FVec Ideal S1x2048x896 .f32) (r : Fin 1024) (l : Fin 896) :
    k0_pay2 (F := Ideal) h b (ix2 r l) = ∑ k : Fin 2048, h (ix2 r k) * b (ix3 0 k l) := by
  pointwise [k0_pay2]

variable (m : (ℓ : Loc nD τ sig) → Buf (Elt Ideal) ℓ)

theorem block_x (c : Dev nD) (t : Fin cfg0.N) (r : Fin 1024) (k : Fin 2048) (h : 1024 * (t.val / 7) + r.val < 4096) :
    iblk m c 0 t (ix2 r k) = m ((c : Thread nD τ).loc main_arg0) (ix2 ⟨1024 * (t.val / 7) + r.val, h⟩ k) := by
  blk_ext [iblk, V, place t]

theorem block_md (c : Dev nD) (t : Fin cfg0.N) (k : Fin 6144) :
    iblk m c 1 t (ix2 0 k) = m ((c : Thread nD τ).loc main_arg1) (ix2 0 k) := by
  blk_ext [iblk, V, place t]

theorem block_nw (c : Dev nD) (t : Fin cfg0.N) (k : Fin 2048) :
    iblk m c 2 t (ix2 0 k) = m ((c : Thread nD τ).loc main_arg2) (ix1 k) := by
  have e : V m c main_v0 = shapeCast S1x2048 (m ((c : Thread nD τ).loc main_arg2)) shapeCasts_S2048_S1x2048 := by
    unfold V; after_results; try rfl
  have e' : iblk m c 2 t (ix2 0 k) = V m c main_v0 (ix2 0 k) := by blk_ext [iblk, place t]
  rw [e', e]
  pointwise

/-- How many columns of the weights' block exist. -/
theorem weight_cols : ∀ t : Fin cfg0.N, win0_3.xsize (grid0.coords t) 0 = 1 ∧ win0_3.xsize (grid0.coords t) 1 = 2048
    ∧ win0_3.xsize (grid0.coords t) 2 = min 896 (6160 - 896 * (t.val % 7)) := (by decide +kernel : ∀ t : Fin grid0.N, _)

/-- The weights' block where it lies inside the array, whatever stands for the rest. -/
theorem block_w (c : Dev nD) (t : Fin cfg0.N) (d : Vec Ideal S1x2048x896 .f32) (k : Fin 2048) (l : Fin 896) (h : 896 * (t.val % 7) + l.val < 6160) :
    win0_3.fill (grid0.coords t) d (iblk m c 3 t) (ix3 0 k l)
      = m ((c : Thread nD τ).loc main_arg3) (ix3 0 k ⟨896 * (t.val % 7) + l.val, h⟩) := by
  have hm : win0_3.moved (grid0.coords t) (ix3 0 k l) = true := (win0_3.moved_iff _ _).mpr fun a => by
    obtain ⟨h0, h1, h2⟩ := weight_cols t
    match a with
    | ⟨0, _⟩ => exact h0.symm ▸ Nat.one_pos
    | ⟨1, _⟩ => exact h1.symm ▸ k.isLt
    | ⟨2, _⟩ => exact h2.symm ▸ (show l.val < min 896 (6160 - 896 * (t.val % 7)) by omega)
  unfold Pipeline.Window.fill
  rw [dif_pos hm]
  blk_ext [iblk, V, place t]

/-- What a point leaves in a column that exists is the reference's value at the array index the block puts it at. -/
theorem stored (c : Dev nD) (t : Fin cfg0.N) (d : Vec Ideal S1x2048x896 .f32) (r : Fin 1024) (l : Fin 896) (hr : 1024 * (t.val / 7) + r.val < 4096)
    (hl : 896 * (t.val % 7) + l.val < 6160) :
    k0_pay2 (F := Ideal) (hAt m c t) (win0_3.fill (grid0.coords t) d (iblk m c 3 t)) (ix2 r l)
      = projected (m ((c : Thread nD τ).loc main_arg0)) (m ((c : Thread nD τ).loc main_arg1)) (m ((c : Thread nD τ).loc main_arg2))
          (m ((c : Thread nD τ).loc main_arg3)) (ix2 ⟨1024 * (t.val / 7) + r.val, hr⟩ ⟨896 * (t.val % 7) + l.val, by omega⟩) := by
  rw [product_at, projected_at _ _ _ _ _ _ hl]
  refine Finset.sum_congr rfl fun k _ => ?_
  rw [block_w m c t d k l hl, hAt, hOf_at, normalized_at]
  simp only [block_x m c t _ _ hr, block_md, block_nw]

/-- The result array at a column that exists. -/
theorem result (r : PUnit × MemSt nD τ sig (Elt Ideal)) (h : Pipeline.RDat.FramePost cfg0 (rdats m) (V m) r) (c : Dev nD)
    (i : S4096x6272.Idx) (hi : (i 1).val < 6160) :
    r.2.mem ((c : Thread nD τ).loc main_v1) i
      = projected (m ((c : Thread nD τ).loc main_arg0)) (m ((c : Thread nD τ).loc main_arg1)) (m ((c : Thread nD τ).loc main_arg2))
          (m ((c : Thread nD τ).loc main_arg3)) i := by
  obtain ⟨after, hL, hA⟩ := h.exists_exact c
  have e := hA 4
  refine (congrFun e i).trans ?_
  revert hi
  refine Dat.arrAt_forall_of_covers ((rdats m c).withAfter after) 4 (fun (i : S4096x6272.Idx) v => (i 1).val < 6160 → v
      = projected (m ((c : Thread nD τ).loc main_arg0)) (m ((c : Thread nD τ).loc main_arg1)) (m ((c : Thread nD τ).loc main_arg2))
          (m ((c : Thread nD τ).loc main_arg3)) i) (by decide +kernel) (fun t hf y hi => ?_) i
  obtain ⟨d, hX⟩ : Product m c 4 t (after 4 t) := (dats m 0 c).toRRel_leaves rfl (hL 4 t hf)
  obtain ⟨p, l, rfl⟩ : ∃ (p : Fin 1024) (l : Fin 896), y = ix2 p l := ⟨y 0, y 1, eq_ix2 _⟩
  have hN : t.val < 28 := t.isLt
  have hr : 1024 * (t.val / 7) + p.val < 4096 := by omega
  have ei : ((cfg0.win 4).blk t).view.emb (ix2 p l) = (ix2 ⟨1024 * (t.val / 7) + p.val, hr⟩ ⟨896 * (t.val % 7) + l.val, by omega⟩ : S4096x6272.Idx) := by
    blk_ext [place t]
  have hl : 896 * (t.val % 7) + l.val < 6160 := by rw [ei] at hi; exact hi
  exact (congrFun hX (ix2 p l)).trans ((stored m c t d p l hr hl).trans (congrArg _ ei.symm))

end Cert.InProjIdeal.Layer

end
-- ==== Proof.InProjClaim.lean ====
/- The input projection: the kernel and the reference end with the same result in the columns that exist, at any
   arguments. -/
module

public import proofs.«01_k».proof.Defs
public import proofs.«01_k».proof.Proof.InProjValue
public import proofs.«01_k».proof.Proof.Gen.InProj
public import proofs.«01_k».proof.Proof.Gen.On_valid_columns

@[expose] public section

noncomputable section

namespace Cert.InProjIdeal.Layer

open Idealize.ShloMosaic Idealize.SL.Sem

/-- The mask selects columns below 6160 alone. -/
theorem valid_column (x : FVec Ideal Cert.On_valid_columns.S4096x2048 .f32) (md : FVec Ideal Cert.On_valid_columns.S8x6144 .f32)
    (nw : FVec Ideal Cert.On_valid_columns.S2048 .f32) (w : FVec Ideal Cert.On_valid_columns.S2x2048x6160 .f32)
    (r : Fin 4096) (l : Fin 6272) (h : Cert.On_valid_columns.fn (F := Ideal) x md nw w (ix2 r l) = 1#1) : l.val < 6160 := by
  revert h
  pointwise [Cert.On_valid_columns.fn]
  exact fun e => (WordCmp.cmpi_slt_ofNat_eq_one_iff (by omega) (by omega)).mp e

/-- Both programs end with the projected tokens in the columns that exist, and neither changes an argument. -/
theorem algebraic : Cert.algebraic_InProjIdeal_InProjRefIdeal_on_valid_columns (hInProjIdeal := Cert.InProjIdeal.Gen.facts)
    (hInProjRefIdeal := Cert.InProjRefIdeal.Gen.facts) (hOn_valid_columns := Cert.On_valid_columns.Gen.facts) := by
  intro m g m' g' _ hagree
  refine ⟨fun c => projected (m (c.tc.loc Cert.InProjIdeal.main_arg0)) (m (c.tc.loc Cert.InProjIdeal.main_arg1)) (m (c.tc.loc Cert.InProjIdeal.main_arg2))
      (m (c.tc.loc Cert.InProjIdeal.main_arg3)), ?_, ?_⟩
  · refine (θ_run _ _ _).mono (fun r h c => ⟨fun i hi => ?_, unchanged m r h.1 c⟩) (run_main m g)
    refine result m r h.1 c i ?_
    rw [eq_ix2 i] at hi
    exact valid_column _ _ _ _ _ _ hi
  · refine (θ_run _ _ _).mono (fun r h c => ⟨fun i _ => ?_, (h c).2⟩) (Cert.InProjRefIdeal.Value.run m' g')
    obtain ⟨h0, h1, h2, h3⟩ := hagree c
    refine (congrFun (h c).1 i).trans ?_
    rw [h0, h1, h2, h3]
    rfl

/-- The kernel as printed and its idealization have one body, so they have one table of bodies. -/
theorem same_bodies : Cert.InProj.defs₀ (F := Bits) = Cert.InProjIdeal.defs₀ (F := Bits) := by
  unfold Cert.InProj.defs₀ Cert.InProjIdeal.defs₀
  refine congrArg _ ?_
  funext l x
  match l, x with
  | 0, (t, s) => rfl

/-- So the run of the one is the run of the other. -/
theorem frame_printed : Cert.quiescent_InProj (hInProj := Cert.InProj.Gen.facts) := fun m ρ _ => by
  have h := frame_run (F := Bits) m ρ
  rw [← show Cert.InProj.defs (F := Bits) = Cert.InProjIdeal.defs (F := Bits) from congrArg (Pipeline.defs _) same_bodies] at h
  exact h

end Cert.InProjIdeal.Layer

end
-- ==== Proof.OutProjValue.lean ====
/- The output projection: what the kernel leaves in its result array.

   The reference concatenates the three heads' outputs, multiplies them by the projection's weights and adds the product,
   scaled by the gate, to the residual stream. The kernel works on blocks of 1024 tokens and 512 columns and
   adds up three smaller products, one per head. -/
module

public import proofs.«01_k».proof.Proof.Gen.OutProjIdeal.Value
public import proofs.«01_k».proof.Proof.Gen.OutProjRefIdeal.Run
public import Idealize.ShloMosaic.Lib.Pointwise
public import Idealize.ShloMosaic.Lib.Pipeline.ValueKit

@[expose] public section

set_option maxRecDepth 16384

noncomputable section

namespace Cert.OutProjIdeal.Layer

open Cert.OutProjIdeal Cert.OutProjIdeal.Gen Idealize.ShloMosaic Idealize.ShloMosaic.TcCoe Idealize.SL.Sem
open Idealize.ShloMosaic.Pipeline (Dat)

/-- A sum over the 2048 merged columns, cut at the three heads' boundaries. -/
theorem three_heads (a : Fin 1024 → EReal) (b c : Fin 512 → EReal) (g : Fin 2048 → EReal) :
    ∑ k : Fin 2048, (if h : k.val < 1024 then a ⟨k.val, h⟩ else if h' : k.val - 1024 < 512 then b ⟨k.val - 1024, h'⟩
        else c ⟨k.val - 1024 - 512, by omega⟩) * g k
      = ∑ k : Fin 1024, a k * g ⟨k, by omega⟩ + ∑ k : Fin 512, b k * g ⟨1024 + k, by omega⟩ + ∑ k : Fin 512, c k * g ⟨1536 + k, by omega⟩ := by
  rw [Fin.sum_univ_two_halves 1536 512 rfl, Fin.sum_univ_two_halves 1024 512 rfl]
  refine congrArg₂ (· + ·) (congrArg₂ (· + ·) ?_ ?_) ?_ <;> refine Finset.sum_congr rfl fun k _ => ?_
  · rw [dif_pos (show k.val < 1024 by omega)]
  · rw [dif_neg (show ¬ 1024 + k.val < 1024 by omega), dif_pos (show 1024 + k.val - 1024 < 512 by omega)]
    refine congrArg (fun q => b q * g ⟨1024 + k, by omega⟩) (Fin.ext ?_)
    show 1024 + k.val - 1024 = k.val
    omega
  · rw [dif_neg (show ¬ 1536 + k.val < 1024 by omega), dif_neg (show ¬ 1536 + k.val - 1024 < 512 by omega)]
    refine congrArg (fun q => c q * g ⟨1536 + k, by omega⟩) (Fin.ext ?_)
    show 1536 + k.val - 1024 - 512 = k.val
    omega

/-- The residual stream after the projection, as the reference states it: from the attention's, the recurrence's and the
    filter's outputs, the weights of both layers, the stream, and the modulation rows. -/
def merged (oa : FVec Ideal S4096x1024 .bf16) (om ofo : FVec Ideal S4096x512 .bf16) (w : FVec Ideal S2x2048x2048 .f32)
    (x : FVec Ideal S4096x2048 .f32) (md : FVec Ideal S8x6144 .f32) : FVec Ideal S4096x2048 .f32 :=
  addf x (mulf (broadcastInDim S4096x2048 ![0, 1] Cert.OutProjRefIdeal.Gen.bcast_S1x2048_S4096x2048_0_1
      (extractStridedSlice Cert.OutProjRefIdeal.S1x2048 ![0, 4096] (extractStridedSlice Cert.OutProjRefIdeal.S1x6144 ![0, 0] md
        Cert.OutProjRefIdeal.Gen.slices_S8x6144_S1x6144_0_0) Cert.OutProjRefIdeal.Gen.slices_S1x6144_S1x2048_0_4096))
    (Host.dotGeneral Cert.OutProjRefIdeal.dot_S4096x2048_S2048x2048_S4096x2048_1_0_0_1_n_n none
      (extf .f32 (concatenate S4096x2048 1 [⟨S4096x1024, oa⟩, ⟨S4096x512, om⟩, ⟨S4096x512, ofo⟩]
        Cert.OutProjRefIdeal.Gen.concatenates_S4096x1024_S4096x512_S4096x512_S4096x2048_d1) Cert.OutProjRefIdeal.Gen.bitsLt_bf16_f32)
      (shapeCast _ (extractStridedSlice Cert.OutProjRefIdeal.S1x2048x2048 ![0, 0, 0] w
        Cert.OutProjRefIdeal.Gen.slices_S2x2048x2048_S1x2048x2048_0_0_0) Cert.OutProjRefIdeal.Gen.shapeCasts_S1x2048x2048_S2048x2048)))

/-- The reference at one entry, its sum over the 2048 merged columns cut at the three heads' boundaries. -/
theorem merged_at (oa : FVec Ideal S4096x1024 .bf16) (om ofo : FVec Ideal S4096x512 .bf16) (w : FVec Ideal S2x2048x2048 .f32)
    (x : FVec Ideal S4096x2048 .f32) (md : FVec Ideal S8x6144 .f32) (r : Fin 4096) (l : Fin 2048) :
    merged oa om ofo w x md (ix2 r l) = x (ix2 r l) + md (ix2 0 ⟨4096 + l, by omega⟩) *
      (∑ k : Fin 1024, oa (ix2 r k) * w (ix3 0 ⟨k, by omega⟩ l) + ∑ k : Fin 512, om (ix2 r k) * w (ix3 0 ⟨1024 + k, by omega⟩ l)
        + ∑ k : Fin 512, ofo (ix2 r k) * w (ix3 0 ⟨1536 + k, by omega⟩ l)) := by
  pointwise [merged]
  refine congrArg (fun s : EReal => x (ix2 r l) + md (ix2 0 ⟨4096 + l, by omega⟩) * s) ?_
  exact three_heads (fun k => oa (ix2 r k)) (fun k => om (ix2 r k)) (fun k => ofo (ix2 r k)) fun k => w (ix3 0 k l)

variable (m : (ℓ : Loc nD τ sig) → Buf (Elt Ideal) ℓ)

/-- Where each window stands at point `t`: `t / 4` counts the token blocks, `t % 4` the column blocks. -/
theorem place : ∀ t : Fin cfg0.N, win0_0.index t = ![t.val / 4, 0] ∧ win0_1.index t = ![t.val / 4, 0] ∧ win0_2.index t = ![t.val / 4, 0]
    ∧ win0_3.index t = ![0, 0, t.val % 4] ∧ win0_4.index t = ![0, 2, t.val % 4] ∧ win0_5.index t = ![0, 3, t.val % 4]
    ∧ win0_6.index t = ![t.val / 4, t.val % 4] ∧ win0_7.index t = ![0, 8 + t.val % 4] ∧ win0_8.index t = ![t.val / 4, t.val % 4] :=
  (by decide +kernel : ∀ t : Fin grid0.N, _)

set_option maxHeartbeats 1600000 in
/-- What a point stores at an index of its block is the reference's value at the array index the block puts it at. -/
theorem stored (c : Dev nD) (t : Fin cfg0.N) (y : S1024x512.Idx) :
    out0_8 (iblk m c 0 t) (iblk m c 1 t) (iblk m c 2 t) (iblk m c 3 t) (iblk m c 4 t) (iblk m c 5 t) (iblk m c 6 t) (iblk m c 7 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 8).blk t).view.emb y) := by
  rw [eq_ix2 (((cfg0.win 8).blk t).view.emb y)]
  refine Eq.trans ?_ (merged_at _ _ _ _ _ _ _ _).symm
  frame_out
  pointwise [k0_pay1]
  blk_point [iblk, V, place t]

/-- The result array after the run is the reference's value at the arguments. -/
theorem result (c : Dev nD) : (dats m 0 c).arrAt 8 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact stored m c t y

end Cert.OutProjIdeal.Layer

end
-- ==== Proof.OutProjClaim.lean ====
/- The output projection: the kernel and the reference end with the same result, at any arguments. -/
module

public import proofs.«01_k».proof.Defs
public import proofs.«01_k».proof.Proof.OutProjValue

@[expose] public section

noncomputable section

namespace Cert.OutProjIdeal.Layer

open Idealize.ShloMosaic Idealize.SL.Sem

/-- Both programs end with the merged stream, and neither changes an argument. -/
theorem algebraic : Cert.algebraic_OutProjIdeal_OutProjRefIdeal (hOutProjIdeal := Cert.OutProjIdeal.Gen.facts)
    (hOutProjRefIdeal := Cert.OutProjRefIdeal.Gen.facts) := by
  intro m g m' g' _ hagree
  refine ⟨_, Cert.OutProjIdeal.Value.run_blocks m g, ?_⟩
  refine (θ_run _ _ _).mono (fun r h c => ⟨(h c).1.trans ?_, (h c).2⟩) (Cert.OutProjRefIdeal.Value.run m' g')
  obtain ⟨h0, h1, h2, h3, h4, h5⟩ := hagree c
  rw [result m c, h0, h1, h2, h3, h4, h5]
  rfl

end Cert.OutProjIdeal.Layer

end
-- ==== Proof.Memory.lean ====
/- The gated memory of one head: the level it is held at, what it stores, and the same by sums over a whole sequence. -/
module

public import Idealize.ShloMosaic.Lib.Pointwise
public import Idealize.ShloMosaic.Lib.IdealHost
public import proofs.«01_k».proof.Proof.Softmax

@[expose] public section

noncomputable section

namespace Cert.Layer

open Idealize.ShloMosaic

/-- The level after `n` tokens: the larger of the decayed level and the token's input gate. -/
def level (i f : ℕ → ℝ) : ℕ → ℝ
  | 0 => 0
  | n + 1 => max (f n + level i f n) (i n)

/-- What is stored of the quantity `a` after `n` tokens, in units of the level's exponential. -/
def store (i f a : ℕ → ℝ) : ℕ → ℝ
  | 0 => 0
  | n + 1 => Real.exp (f n + level i f n - level i f (n + 1)) * store i f a n + Real.exp (i n - level i f (n + 1)) * a n

/-- The sum of the first `n` log forget gates. -/
def decayed (f : ℕ → ℝ) (n : ℕ) : ℝ := ∑ s ∈ Finset.range n, f s

/-- The log weight the `s`-th token has after `n` tokens. -/
def pull (i f : ℕ → ℝ) (n s : ℕ) : ℝ := decayed f n - decayed f (s + 1) + i s

theorem decayed_succ (f : ℕ → ℝ) (n : ℕ) : decayed f (n + 1) = decayed f n + f n := Finset.sum_range_succ _ _

theorem pull_succ (i f : ℕ → ℝ) (n s : ℕ) : pull i f (n + 1) s = f n + pull i f n s := by
  unfold pull; rw [decayed_succ f n]; ring

theorem pull_self (i f : ℕ → ℝ) (n : ℕ) : pull i f (n + 1) n = i n := by
  unfold pull; ring

/-- The level is the least bound of the decays and of the tokens' log weights. -/
theorem level_le (i f : ℕ → ℝ) (n : ℕ) (u : ℝ) : level i f n ≤ u ↔ decayed f n ≤ u ∧ ∀ s < n, pull i f n s ≤ u := by
  induction n generalizing u with
  | zero => simp [level, decayed]
  | succ n ih =>
    have e : f n + level i f n ≤ u ↔ level i f n ≤ u - f n := by rw [add_comm, le_sub_iff_add_le]
    rw [level, max_le_iff, e, ih]
    constructor
    · rintro ⟨⟨h0, h1⟩, h2⟩
      refine ⟨by rw [decayed_succ]; linarith, fun s hs => ?_⟩
      rcases Nat.lt_succ_iff_lt_or_eq.mp hs with h | rfl
      · rw [pull_succ]; linarith [h1 s h]
      · rw [pull_self]; exact h2
    · rintro ⟨h0, h1⟩
      refine ⟨⟨by rw [decayed_succ] at h0; linarith, fun s hs => ?_⟩, ?_⟩
      · have := h1 s (by omega); rw [pull_succ] at this; linarith
      · have := h1 n (by omega); rwa [pull_self] at this

/-- What is stored is the tokens' quantities by their weights. -/
theorem store_eq (i f a : ℕ → ℝ) (n : ℕ) :
    store i f a n = ∑ s ∈ Finset.range n, Real.exp (pull i f n s - level i f n) * a s := by
  induction n with
  | zero => simp [store]
  | succ n ih =>
    rw [store, Finset.sum_range_succ, pull_self, ih, Finset.mul_sum]
    refine congrArg₂ (· + ·) (Finset.sum_congr rfl fun s _ => ?_) rfl
    rw [← mul_assoc, ← Real.exp_add, pull_succ]
    congr 2; ring

/-- An order in which the 256 rows are taken. -/
structure Order where
  /-- The row's place. -/
  pos : Fin 256 → ℕ
  /-- The row at a place. -/
  row : ℕ → Fin 256
  lt : ∀ s, pos s < 256
  row_pos : ∀ s, row (pos s) = s
  pos_row : ∀ n < 256, pos (row n) = n
  sum : ∀ g : ℕ → ℝ, ∑ s, g (pos s) = ∑ n ∈ Finset.range 256, g n

/-- From the first row to the last. -/
def onward : Order where
  pos s := s.val
  row n := ⟨n % 256, by omega⟩
  lt s := s.isLt
  row_pos s := Fin.ext (Nat.mod_eq_of_lt s.isLt)
  pos_row n h := Nat.mod_eq_of_lt h
  sum g := Fin.sum_univ_eq_sum_range g 256

/-- From the last row to the first. -/
def backward : Order where
  pos s := s.rev.val
  row n := (⟨n % 256, by omega⟩ : Fin 256).rev
  lt s := s.rev.isLt
  row_pos s := by
    rw [Fin.rev_eq_iff]; exact Fin.ext (Nat.mod_eq_of_lt s.rev.isLt)
  pos_row n h := by
    show ((⟨n % 256, by omega⟩ : Fin 256).rev.rev : ℕ) = n
    rw [Fin.rev_rev]; exact Nat.mod_eq_of_lt h
  sum g := by
    rw [← Fin.sum_univ_eq_sum_range g 256]
    exact Equiv.sum_comp Fin.revPerm fun s : Fin 256 => g s.val

namespace Order

variable (o : Order) (i f : ℕ → ℝ)

theorem sum_upto (g : ℕ → ℝ) (n : ℕ) (hn : n ≤ 256) :
    ∑ s, (if o.pos s < n then g (o.pos s) else 0) = ∑ s ∈ Finset.range n, g s := by
  rw [o.sum fun m => if m < n then g m else 0, ← Finset.sum_filter]
  refine Finset.sum_congr ?_ fun _ _ => rfl
  ext m; simp only [Finset.mem_filter, Finset.mem_range]; omega

/-- The decay up to a row, as a masked sum over the rows. -/
theorem cumulative (r : Fin 256) :
    ∑ s, (if o.pos s ≤ o.pos r then (1 : EReal) else 0) * ((f (o.pos s) : ℝ) : EReal) = ((decayed f (o.pos r + 1) : ℝ) : EReal) := by
  rw [decayed, ← o.sum_upto f _ (o.lt r)]
  refine sum_real _ fun s => ?_
  by_cases h : o.pos s ≤ o.pos r
  · rw [if_pos h, if_pos (Nat.lt_succ_of_le h), one_mul]
  · rw [if_neg h, if_neg (by omega), zero_mul, EReal.coe_zero]

/-- The level is the largest of the decay and the log weights. -/
theorem level_fold (n : ℕ) (hn : n ≤ 256) :
    max ((decayed f n : ℝ) : EReal) (Finset.univ.fold max ⊥ fun s : Fin 256 => if o.pos s < n then ((pull i f n (o.pos s) : ℝ) : EReal) else ⊥)
      = ((level i f n : ℝ) : EReal) := by
  refine eq_of_forall_ge_iff fun u => ?_
  rw [max_le_iff, Finset.fold_max_le]
  induction u with
  | bot => exact ⟨fun h => absurd (le_bot_iff.mp h.1) (EReal.coe_ne_bot _), fun h => absurd (le_bot_iff.mp h) (EReal.coe_ne_bot _)⟩
  | top => simp
  | coe u =>
    rw [EReal.coe_le_coe_iff, EReal.coe_le_coe_iff, level_le]
    refine and_congr_right fun _ => ⟨fun h m hm => ?_, fun h => ⟨bot_le, fun s _ => ?_⟩⟩
    · obtain ⟨s, rfl⟩ : ∃ s, o.pos s = m := ⟨o.row m, o.pos_row m (by omega)⟩
      have := h.2 s (Finset.mem_univ s)
      rwa [if_pos hm, EReal.coe_le_coe_iff] at this
    · by_cases hs : o.pos s < n
      · rw [if_pos hs, EReal.coe_le_coe_iff]; exact h _ hs
      · rw [if_neg hs]; exact bot_le

/-- A token's weight after `n` tokens, zero for the tokens not yet seen. -/
theorem weigh (n : ℕ) (s : Fin 256) :
    Ideal.exp ((if o.pos s < n then ((pull i f n (o.pos s) : ℝ) : EReal) else ⊥) - ((level i f n : ℝ) : EReal))
      = ((if o.pos s < n then Real.exp (pull i f n (o.pos s) - level i f n) else 0 : ℝ) : EReal) := by
  by_cases hs : o.pos s < n
  · rw [if_pos hs, if_pos hs, ← EReal.coe_sub, Ideal.exp_coe]
  · rw [if_neg hs, if_neg hs, EReal.bot_sub, Ideal.exp_bot, EReal.coe_zero]

/-- The tokens' quantities by their weights are what is stored. -/
theorem stored (a : ℕ → ℝ) (n : ℕ) (hn : n ≤ 256) :
    ∑ s, ((if o.pos s < n then Real.exp (pull i f n (o.pos s) - level i f n) else 0) * a (o.pos s)) = store i f a n := by
  rw [store_eq, ← o.sum_upto (fun s => Real.exp (pull i f n s - level i f n) * a s) n hn]
  refine Finset.sum_congr rfl fun s _ => ?_
  by_cases hs : o.pos s < n
  · rw [if_pos hs, if_pos hs]
  · rw [if_neg hs, if_neg hs, zero_mul]

/-- A row's query against what is stored, by the products of queries and keys. -/
theorem recalled (q : Fin 128 → ℝ) (k : Fin 128 → ℕ → ℝ) (a : ℕ → ℝ) (n : ℕ) (hn : n ≤ 256) :
    ∑ s, ((∑ d, ((q d : ℝ) : EReal) * ((k d (o.pos s) : ℝ) : EReal))
        * Ideal.exp ((if o.pos s < n then ((pull i f n (o.pos s) : ℝ) : EReal) else ⊥) - ((level i f n : ℝ) : EReal))) * ((a (o.pos s) : ℝ) : EReal)
      = ((∑ d, q d * store i f (fun m => k d m * a m) n : ℝ) : EReal) := by
  refine (sum_real (fun s => (∑ d, q d * k d (o.pos s)) * (if o.pos s < n then Real.exp (pull i f n (o.pos s) - level i f n) else 0) * a (o.pos s))
    fun s => ?_).trans (congrArg _ ?_)
  · rw [o.weigh, sum_real (fun d => q d * k d (o.pos s)) fun d => (EReal.coe_mul _ _).symm, ← EReal.coe_mul, ← EReal.coe_mul]
  · have e (d : Fin 128) : q d * store i f (fun m => k d m * a m) n
        = ∑ s, q d * ((if o.pos s < n then Real.exp (pull i f n (o.pos s) - level i f n) else 0) * (k d (o.pos s) * a (o.pos s))) := by
      rw [← o.stored i f (fun m => k d m * a m) n hn, Finset.mul_sum]
    rw [Finset.sum_congr rfl fun d _ => e d, Finset.sum_comm]
    refine Finset.sum_congr rfl fun s _ => ?_
    rw [Finset.sum_mul, Finset.sum_mul]
    exact Finset.sum_congr rfl fun d _ => by ring

/-- What is stored after the whole sequence, by the keys' weights. -/
theorem kept (k a : ℕ → ℝ) :
    ∑ s, (((k (o.pos s) : ℝ) : EReal) * Ideal.exp (((pull i f 256 (o.pos s) : ℝ) : EReal) - ((level i f 256 : ℝ) : EReal))) * ((a (o.pos s) : ℝ) : EReal)
      = ((store i f (fun m => k m * a m) 256 : ℝ) : EReal) := by
  rw [← o.stored i f _ 256 le_rfl]
  refine sum_real _ fun s => ?_
  rw [if_pos (o.lt s), ← EReal.coe_sub, Ideal.exp_coe, ← EReal.coe_mul, ← EReal.coe_mul]
  congr 1; ring

/-- The last level is the largest of the whole decay and the log weights. -/
theorem level_last :
    max ((decayed f 256 : ℝ) : EReal) (Finset.univ.fold max ⊥ fun s : Fin 256 => ((pull i f 256 (o.pos s) : ℝ) : EReal))
      = ((level i f 256 : ℝ) : EReal) := by
  rw [← o.level_fold i f 256 le_rfl]
  exact congrArg _ (Finset.fold_congr fun s _ => (if_pos (o.lt s)).symm)

end Order

/-- What a query recalls of the memory after `n` tokens: its product with what is stored of the quantity, over the larger of its product with what
is stored of ones and the level's floor. -/
def recollect (i f : ℕ → ℝ) (q : Fin 128 → ℝ) (k : Fin 128 → ℕ → ℝ) (a : ℕ → ℝ) (n : ℕ) : EReal :=
  Ideal.div ((∑ d, q d * store i f (fun m => k d m * a m) n : ℝ) : EReal)
    (max (max ((∑ d, q d * store i f (fun m => k d m * 1) n : ℝ) : EReal) (-((∑ d, q d * store i f (fun m => k d m * 1) n : ℝ) : EReal)))
      (Ideal.exp (-((level i f n : ℝ) : EReal))))

/-! ## What a head's memory is given, of the tokens -/

/-- The short convolution over the rows of one column, each end padded by a zero. -/
def conv (x : Fin 256 → EReal) (w : Fin 3 → EReal) (c : EReal) (r : Fin 256) : EReal :=
  (if r.val = 0 then 0 else x ⟨(r.val + 256 - 1) % 256, by omega⟩ * w 0) + x r * w 1
    + (if r.val = 255 then 0 else x ⟨(r.val + 256 - 255) % 256, by omega⟩ * w 2) + c

theorem conv_congr {x x' : Fin 256 → EReal} {w w' : Fin 3 → EReal} {c c' : EReal} (hx : ∀ s, x s = x' s) (hw : ∀ a, w a = w' a) (hc : c = c')
    (r : Fin 256) : conv x w c r = conv x' w' c' r := by
  rw [funext hx, funext hw, hc]

/-- The logarithm of the logistic function. -/
def logsig (g : EReal) : EReal := min g 0 - Ideal.log1p (Ideal.exp (-max g (-g)))

/-- The second part of it is a real at any argument. -/
theorem soft_real (g : EReal) : ∃ x : ℝ, Ideal.log1p (Ideal.exp (-max g (-g))) = (x : EReal) := by
  induction g with
  | bot => exact ⟨Real.log 1, by rw [EReal.neg_bot, max_eq_right bot_le, EReal.neg_top]; show Ideal.log (1 + 0) = _; rw [add_zero]; exact if_neg (by norm_num)⟩
  | top => exact ⟨Real.log 1, by rw [EReal.neg_top, max_eq_left bot_le, EReal.neg_top]; show Ideal.log (1 + 0) = _; rw [add_zero]; exact if_neg (by norm_num)⟩
  | coe r =>
    refine ⟨Real.log (1 + Real.exp (-max r (-r))), ?_⟩
    have e : max (r : EReal) (-(r : EReal)) = ((max r (-r) : ℝ) : EReal) := by rw [← EReal.coe_neg]; exact (EReal.coe_strictMono.monotone.map_max).symm
    rw [e, ← EReal.coe_neg, Ideal.exp_coe]
    show Ideal.log (((1 : ℝ) : EReal) + _) = _
    rw [← EReal.coe_add]
    exact if_neg (not_le.mpr (by positivity))

/-- It is the softplus of the other sign, negated. -/
theorem logsig_eq (g : EReal) : -(max (-g) 0 + Ideal.log1p (Ideal.exp (-max (-g) (-(-g))))) = logsig g := by
  obtain ⟨x, hx⟩ := soft_real g
  rw [neg_neg, max_comm (-g) g, logsig, hx, EReal.neg_add (Or.inr (EReal.coe_ne_top x)) (Or.inr (EReal.coe_ne_bot x)), EReal.neg_strictAnti.antitone.map_max,
    neg_neg, neg_zero]

/-- The tokens, the gates' biases, the convolution's weights and biases, and the norm's weights. -/
structure Given where
  z : Fin 4096 → Fin 6272 → EReal
  bias : Fin 16 → EReal
  w : Fin 3 → Fin 1024 → EReal
  c : Fin 1024 → EReal
  norm : Fin 512 → EReal

/-- The two directions' orders. -/
def wayOf (u : Fin 2) : Order := ![onward, backward] u

namespace Given

variable (G : Given) (b : Fin 16) (h : Fin 4) (r : Fin 256) (d : Fin 128)

/-- A channel of the queries and keys after the convolution and its gate. -/
def mixed (j : Fin 1024) : EReal := gate (conv (fun s => G.z ⟨b * 256 + s, by omega⟩ ⟨2560 + j, by omega⟩) (fun a => G.w a j) (G.c j) r)

def query : EReal := G.mixed b r ⟨h * 128 + d, by omega⟩
def key : EReal := G.mixed b r ⟨512 + (h * 128 + d), by omega⟩ * Ideal.ofBits .f32 0x3DB504F3#32
def value : EReal := G.z ⟨b * 256 + r, by omega⟩ ⟨3584 + (h * 128 + d), by omega⟩
def gates (j : Fin 16) : EReal := G.z ⟨b * 256 + r, by omega⟩ ⟨5120 + j, by omega⟩ + G.bias j

/-- A direction's input gate and log forget gate. -/
def inGate (u : Fin 2) : EReal := G.gates b r ⟨u * 8 + h, by omega⟩
def forget (u : Fin 2) : EReal := logsig (G.gates b r ⟨u * 8 + 4 + h, by omega⟩)

/-- All of these are reals. -/
structure Finite : Prop where
  query : ∀ b h r d, ∃ x : ℝ, G.query b h r d = x
  key : ∀ b h r d, ∃ x : ℝ, G.key b h r d = x
  value : ∀ b h r d, ∃ x : ℝ, G.value b h r d = x
  inGate : ∀ b h r u, ∃ x : ℝ, G.inGate b h r u = x
  forget : ∀ b h r u, ∃ x : ℝ, G.forget b h r u = x

variable (u : Fin 2) (e : Fin 128)

/-- The same as reals, by the place a direction takes a token at. -/
def ins (n : ℕ) : ℝ := (G.inGate b h ((wayOf u).row n) u).toReal
def fades (n : ℕ) : ℝ := (G.forget b h ((wayOf u).row n) u).toReal
def keys (n : ℕ) : ℝ := (G.key b h ((wayOf u).row n) d).toReal
def values (n : ℕ) : ℝ := (G.value b h ((wayOf u).row n) e).toReal
def queries : ℝ := (G.query b h r d).toReal

/-- What a direction ends with: the stored matrix, the stored vector and the level. -/
def matrix : EReal := ((store (G.ins b h u) (G.fades b h u) (fun n => G.keys b h d u n * G.values b h u e n) 256 : ℝ) : EReal)
def vector : EReal := ((store (G.ins b h u) (G.fades b h u) (fun n => G.keys b h d u n * 1) 256 : ℝ) : EReal)
def lastLevel : EReal := ((level (G.ins b h u) (G.fades b h u) 256 : ℝ) : EReal)

/-- What a token recalls in a direction. -/
def recalled : EReal :=
  recollect (G.ins b h u) (G.fades b h u) (G.queries b h r) (fun d => G.keys b h d u) (G.values b h u e) ((wayOf u).pos r + 1)

/-- The head's output: both directions' recalled, normed, by the two gates. -/
def output : EReal :=
  normed (fun a => G.recalled b h r 0 a + G.recalled b h r 1 a) (fun a => G.norm ⟨h * 128 + a, by omega⟩) e
    * Ideal.div 1 (1 + Ideal.exp (-G.z ⟨b * 256 + r, by omega⟩ ⟨4096 + (h * 128 + e), by omega⟩))
    * gate (G.z ⟨b * 256 + r, by omega⟩ ⟨4608 + (h * 128 + e), by omega⟩)

variable {G} (H : G.Finite)
include H

theorem queries_eq : G.query b h r d = ((G.queries b h r d : ℝ) : EReal) := by
  obtain ⟨x, e⟩ := H.query b h r d
  rw [queries, e, EReal.toReal_coe]

theorem keys_eq : G.key b h r d = ((G.keys b h d u ((wayOf u).pos r) : ℝ) : EReal) := by
  obtain ⟨x, e⟩ := H.key b h r d
  rw [keys, (wayOf u).row_pos, e, EReal.toReal_coe]

theorem values_eq : G.value b h r e = ((G.values b h u e ((wayOf u).pos r) : ℝ) : EReal) := by
  obtain ⟨x, e⟩ := H.value b h r e
  rw [values, (wayOf u).row_pos, e, EReal.toReal_coe]

theorem ins_eq : G.inGate b h r u = ((G.ins b h u ((wayOf u).pos r) : ℝ) : EReal) := by
  obtain ⟨x, e⟩ := H.inGate b h r u
  rw [ins, (wayOf u).row_pos, e, EReal.toReal_coe]

theorem fades_eq : G.forget b h r u = ((G.fades b h u ((wayOf u).pos r) : ℝ) : EReal) := by
  obtain ⟨x, e⟩ := H.forget b h r u
  rw [fades, (wayOf u).row_pos, e, EReal.toReal_coe]

end Given

end Cert.Layer

end
-- ==== Proof.MlBody.lean ====
/- One head's memory in the kernel's body: its operands, its levels and what it stores, at any entry. -/
module

public import proofs.«01_k».proof.Proof.Memory
public import proofs.«01_k».proof.Proof.Gen.MlstmIdeal.Skeleton
public import Idealize.ShloMosaic.Lib.WordCmp
public import Idealize.ShloMosaic.Lib.Pointwise
public import Idealize.ShloMosaic.Lib.Pipeline.ValueKit

@[expose] public section

set_option maxRecDepth 16384

noncomputable section

namespace Cert.MlstmIdeal.Layer

open Cert.MlstmIdeal Cert.MlstmIdeal.Gen Idealize.ShloMosaic Idealize.ShloMosaic.WordCmp Idealize.ShloMosaic.TcCoe Idealize.SL.Sem Cert.Layer

/-- A bit as a number. -/
theorem bit (b : Bool) : (FloatOps.sitofp .f32 (BitVec.setWidth 32 (BitVec.ofBool b)) : Ideal .f32) = if b then 1 else 0 := by
  cases b
  · show (((0 : ℤ) : ℝ) : EReal) = 0
    simp
  · show (((1 : ℤ) : ℝ) : EReal) = 1
    simp

theorem bit_one : (FloatOps.sitofp .f32 (BitVec.setWidth 32 1#1) : Ideal .f32) = 1 := bit true

/-! ## The operands -/

theorem query_at (x : FVec Ideal S256x128 .f32) (w0 w1 w2 c : FVec Ideal S1x128 .f32) (r : Fin 256) (d : Fin 128) :
    k0_pay2 (F := Ideal) x w0 w1 w2 c (ix2 r d) = gate (conv (fun s => x (ix2 s d)) ![w0 (ix2 0 d), w1 (ix2 0 d), w2 (ix2 0 d)] (c (ix2 0 d)) r) := by
  pointwise [k0_pay2]
  rw [zero_sub, cmpi_eq_ofNat (by omega) (by omega), cmpi_eq_ofNat (by omega) (by omega)]
  simp only [WordCmp.select_ofBool, decide_eq_true_eq]
  rfl

theorem key_at (x : FVec Ideal S256x128 .f32) (w0 w1 w2 c : FVec Ideal S1x128 .f32) (r : Fin 256) (d : Fin 128) :
    k0_pay3 (F := Ideal) x w0 w1 w2 c (ix2 r d)
      = gate (conv (fun s => x (ix2 s d)) ![w0 (ix2 0 d), w1 (ix2 0 d), w2 (ix2 0 d)] (c (ix2 0 d)) r) * Ideal.ofBits .f32 0x3DB504F3#32 := by
  rw [← query_at]
  pointwise [k0_pay2, k0_pay3]

/-- The lanes' numbers. -/
theorem lanes_at (r : Fin 256) (d : Fin 128) : iota .tc S256x128 32 [1] iota_S256x128_d1_w32 (ix2 r d) = BitVec.ofNat 32 d.val := by
  pointwise

theorem values_at (v : FVec Ideal S256x128 .f32) (r : Fin 256) (e : Fin 128) :
    k0_pay5 (F := Ideal) (iota .tc S256x128 32 [1] iota_S256x128_d1_w32) v (ix2 r ⟨e.val, by omega⟩) = v (ix2 r e) := by
  pointwise [k0_pay5]

/-- The column beside the values is ones. -/
theorem ones_at (v : FVec Ideal S256x128 .f32) (r : Fin 256) :
    k0_pay5 (F := Ideal) (iota .tc S256x128 32 [1] iota_S256x128_d1_w32) v (ix2 r 128) = 1 := by
  pointwise [k0_pay5]
  exact bit_one

theorem logsig_at (v : FVec Ideal S256x128 .f32) (c : FVec Ideal S1x128 .f32) (r : Fin 256) (d : Fin 128) :
    k0_pay7 (F := Ideal) v c (ix2 r d) = logsig (v (ix2 r d) + c (ix2 0 d)) := by
  pointwise [k0_pay7, k0_pay6]
  rw [zero_sub]
  rfl

/-- A sum over the lanes of which one alone is taken. -/
theorem pick (n : Fin 128) (k : BitVec 32) (hk : k = BitVec.ofNat 32 n.val) (x : Fin 128 → EReal) :
    ∑ j : Fin 128, Scalar.select (IntOp.cmpi .eq (BitVec.ofNat 32 j.val) k) (x j) 0 = x n := by
  subst hk
  rw [Finset.sum_eq_single n]
  · rw [cmpi_eq_ofNat (by omega) (by omega), WordCmp.select_ofBool, if_pos (decide_eq_true rfl)]
  · intro j _ hj
    rw [cmpi_eq_ofNat (by omega) (by omega), WordCmp.select_ofBool, if_neg]
    rw [decide_eq_true_eq]; exact fun h => hj (Fin.ext h)
  · exact fun h => absurd (Finset.mem_univ n) h

/-- The four gates of a head, of the block of all heads' gates. -/
def four (h : Fin 4) (v : FVec Ideal S256x128 .f32) (c : FVec Ideal S1x128 .f32) : FVec Ideal S256x128 .f32 :=
  let n : BitVec 32 := BitVec.ofNat 32 h.val
  let l := iota .tc S256x128 32 [1] iota_S256x128_d1_w32
  k0_pay14 (F := Ideal) n l (k0_pay6 v c) (k0_pay7 v c) (k0_pay8 l) (k0_pay9 n l v c) (k0_pay10 l) (k0_pay11 n l v c) (k0_pay12 l) (k0_pay13 n l)
    (Scalar.ofBits .f32 0x00000000#32)

theorem four_at (h : Fin 4) (v : FVec Ideal S256x128 .f32) (c : FVec Ideal S1x128 .f32) (r : Fin 256) (d : Fin 128) :
    four h v c (ix2 r d)
      = if d.val = 0 then v (ix2 r ⟨h.val, by omega⟩) + c (ix2 0 ⟨h.val, by omega⟩)
        else if d.val = 1 then logsig (v (ix2 r ⟨4 + h.val, by omega⟩) + c (ix2 0 ⟨4 + h.val, by omega⟩))
        else if d.val = 2 then v (ix2 r ⟨8 + h.val, by omega⟩) + c (ix2 0 ⟨8 + h.val, by omega⟩)
        else if d.val = 3 then logsig (v (ix2 r ⟨12 + h.val, by omega⟩) + c (ix2 0 ⟨12 + h.val, by omega⟩))
        else 0 := by
  unfold four
  pointwise [k0_pay6, k0_pay8, k0_pay9, k0_pay10, k0_pay11, k0_pay12, k0_pay13, k0_pay14, logsig_at]
  rw [pick ⟨h.val, by omega⟩ _ rfl, pick ⟨4 + h.val, by omega⟩ (Scalar.addi 4#32 (BitVec.ofNat 32 h.val)) (addi_ofNat 4 h.val), pick ⟨8 + h.val, by omega⟩ (Scalar.addi 8#32 (BitVec.ofNat 32 h.val)) (addi_ofNat 8 h.val),
    pick ⟨12 + h.val, by omega⟩ (Scalar.addi 12#32 (BitVec.ofNat 32 h.val)) (addi_ofNat 12 h.val), cmpi_eq_ofNat (by omega) (by omega), cmpi_eq_ofNat (by omega) (by omega),
    cmpi_eq_ofNat (by omega) (by omega), cmpi_eq_ofNat (by omega) (by omega)]
  simp only [WordCmp.select_ofBool, decide_eq_true_eq]

theorem four0 (h : Fin 4) (v : FVec Ideal S256x128 .f32) (c : FVec Ideal S1x128 .f32) (r : Fin 256) :
    four h v c (ix2 r 0) = v (ix2 r ⟨h.val, by omega⟩) + c (ix2 0 ⟨h.val, by omega⟩) := (four_at h v c r 0).trans (if_pos rfl)

theorem four1 (h : Fin 4) (v : FVec Ideal S256x128 .f32) (c : FVec Ideal S1x128 .f32) (r : Fin 256) :
    four h v c (ix2 r 1) = logsig (v (ix2 r ⟨4 + h.val, by omega⟩) + c (ix2 0 ⟨4 + h.val, by omega⟩)) :=
  (four_at h v c r 1).trans ((if_neg (by decide)).trans (if_pos rfl))

theorem four2 (h : Fin 4) (v : FVec Ideal S256x128 .f32) (c : FVec Ideal S1x128 .f32) (r : Fin 256) :
    four h v c (ix2 r 2) = v (ix2 r ⟨8 + h.val, by omega⟩) + c (ix2 0 ⟨8 + h.val, by omega⟩) :=
  (four_at h v c r 2).trans ((if_neg (by decide)).trans ((if_neg (by decide)).trans (if_pos rfl)))

theorem four3 (h : Fin 4) (v : FVec Ideal S256x128 .f32) (c : FVec Ideal S1x128 .f32) (r : Fin 256) :
    four h v c (ix2 r 3) = logsig (v (ix2 r ⟨12 + h.val, by omega⟩) + c (ix2 0 ⟨12 + h.val, by omega⟩)) :=
  (four_at h v c r 3).trans ((if_neg (by decide)).trans ((if_neg (by decide)).trans ((if_neg (by decide)).trans (if_pos rfl))))

/-! ## The masks -/

theorem below_at (r s : Fin 256) : k0_pay15 (ix2 r s) = BitVec.ofBool (decide (onward.pos s ≤ onward.pos r)) := by
  pointwise [k0_pay15]
  exact cmpi_sge_ofNat (by omega) (by omega)

theorem above_at (r s : Fin 256) : k0_pay16 (ix2 r s) = BitVec.ofBool (decide (backward.pos s ≤ backward.pos r)) := by
  pointwise [k0_pay16]
  rw [cmpi_sle_ofNat (by omega) (by omega)]
  refine congrArg BitVec.ofBool (decide_eq_decide.mpr ?_)
  show r.val ≤ s.val ↔ s.rev.val ≤ r.rev.val
  simp only [Fin.val_rev]
  omega

theorem lower_at (r s : Fin 256) : k0_pay17 (F := Ideal) (ix2 r s) = if onward.pos s ≤ onward.pos r then 1 else 0 := by
  pointwise [k0_pay17, below_at]
  rw [bit]
  simp only [decide_eq_true_eq]

theorem upper_at (r s : Fin 256) : k0_pay18 (F := Ideal) (ix2 r s) = if backward.pos s ≤ backward.pos r then 1 else 0 := by
  pointwise [k0_pay18, above_at]
  rw [bit]
  simp only [decide_eq_true_eq]

/-! ## The cumulative decay -/

/-- What rounding leaves out of the four gates is nothing, so the product with the mask is the masked sum. -/
theorem masked_sum (o : Order) (f : ℕ → ℝ) (t : FVec Ideal S256x256 .bf16) (g : FVec Ideal S256x128 .f32) (d : Fin 128)
    (ht : ∀ r s, t (ix2 r s) = if o.pos s ≤ o.pos r then 1 else 0) (hg : ∀ s, g (ix2 s d) = ((f (o.pos s) : ℝ) : EReal)) (r : Fin 256) :
    k0_pay39 (F := Ideal) g t (ix2 r d) = ((decayed f (o.pos r + 1) : ℝ) : EReal) := by
  pointwise [k0_pay39]
  have z : ∀ x : ℝ, (x : EReal) - x = 0 := fun x => by rw [← EReal.coe_sub, sub_self, EReal.coe_zero]
  simp only [hg, z, sub_zero, mul_zero, Finset.sum_const_zero, add_zero, ht]
  exact o.cumulative f r

/-- The forward direction's cumulative decay is printed in two parts. -/
theorem forward_sum (n : BitVec 32) (l : IVec S256x128 32) (a b : FVec Ideal S256x128 .f32) (c : IVec S256x128 1) (d : FVec Ideal S256x1 .f32)
    (e : IVec S256x128 1) (f : FVec Ideal S256x1 .f32) (g h : IVec S256x128 1) (z : Ideal .f32) :
    k0_pay26 (k0_pay24 n l a b c d e f g h z) (k0_pay25 n l a b c d e f g h z) = k0_pay39 (k0_pay14 n l a b c d e f g h z) (k0_pay17 (F := Ideal)) := rfl

/-! ## The rows' levels and what they recall -/

/-- The log weights of the tokens in each row, of those the row sees. -/
def logits (mask : IVec S256x256 1) (B : FVec Ideal S256x1 .f32) (C I : FVec Ideal S1x256 .f32) : FVec Ideal S256x256 .f32 :=
  select mask
    (addf (subf (broadcastTo S256x256 B broadcasts_S256x1_S256x256) (broadcastTo S256x256 C broadcasts_S1x256_S256x256))
      (broadcastTo S256x256 I broadcasts_S1x256_S256x256))
    (broadcast S256x256 (Scalar.ofBits .f32 0xFF800000#32))

theorem logits_at (mask : IVec S256x256 1) (B : FVec Ideal S256x1 .f32) (C I : FVec Ideal S1x256 .f32) (r s : Fin 256) :
    logits mask B C I (ix2 r s) = Scalar.select (mask (ix2 r s)) (B (ix2 r 0) - C (ix2 0 s) + I (ix2 0 s)) ⊥ := by
  pointwise [logits]
  rw [← bits_bot]

/-- The largest of each row. -/
def rowTop (D : FVec Ideal S256x256 .f32) : FVec Ideal S256 .f32 :=
  multiReduction .maximumf [1] S256 D 0xFF800000#32 reduces_S256x256_S256 (.inl rfl) rfl

theorem rowTop_at (D : FVec Ideal S256x256 .f32) (r : Fin 256) : rowTop D (ix1 r) = Finset.univ.fold max ⊥ fun s => D (ix2 r s) := by
  rw [← bits_bot]
  exact (multiReduction_maximumf_eq_fold _ _ _ _ _ _).trans (Shape.Reduces.fold_fiber_r2_a1 _ _ _ _ _)

/-- The largest of a column. -/
def colTop (g : FVec Ideal S256x1 .f32) : FVec Ideal S1 .f32 :=
  multiReduction .maximumf [0] S1 g 0xFF800000#32 reduces_S256x1_S1 (.inl rfl) rfl

theorem colTop_at (g : FVec Ideal S256x1 .f32) : colTop g (ix1 0) = Finset.univ.fold max ⊥ fun s => g (ix2 s 0) := by
  rw [← bits_bot]
  exact (multiReduction_maximumf_eq_fold _ _ _ _ _ _).trans (Shape.Reduces.fold_fiber_r2_a0 _ _ _ _ _)

/-- What the rows' queries recall: of the carried memory and of the tokens seen, over the larger of the recalled ones and the level's floor. -/
def recall (q k : FVec Ideal S256x128 .bf16) (v : FVec Ideal S256x256 .bf16) (c : FVec Ideal S128x256 .f32) (D : FVec Ideal S256x256 .f32)
    (T : FVec Ideal S256 .f32) (B : FVec Ideal S256x1 .f32) : FVec Ideal S256x128 .f32 :=
  let M := maximumf B (shapeCast S256x1 T shapeCasts_S256_S256x1)
  let z : FVec Ideal S256x256 .f32 := constant S256x256 .f32 0x00000000#32
  let p : FVec Ideal S256x256 .bf16 := truncf .bf16
    (mulf (matmul dot_S256x128_S256x128_S256x256_1_1_0_0_n_n none q k z) (exp (subf D (broadcastTo S256x256 M broadcasts_S256x1_S256x256)))) bitsLt_bf16_f32
  let y := addf
    (mulf (broadcastTo S256x256 (exp (subf B M)) broadcasts_S256x1_S256x256)
      (matmul dot_S256x128_S128x256_S256x256_1_0_0_1_n_n none q (truncf .bf16 c bitsLt_bf16_f32) z))
    (matmul dot_S256x256_S256x256_S256x256_1_0_0_1_n_n none p v z)
  divf (extractStridedSlice S256x128 ![0, 0] y slices_S256x256_o0_0_S256x128)
    (broadcastTo S256x128
      (maximumf (absf (extractStridedSlice S256x1 ![0, 128] y slices_S256x256_o0_128_S256x1))
        (exp (subf (broadcast S256x1 (Scalar.ofBits .f32 0x00000000#32)) M))) broadcasts_S256x1_S256x128)

/-- One column of what a row recalls, before the division. -/
def drawn (q k : FVec Ideal S256x128 .bf16) (v : FVec Ideal S256x256 .bf16) (D : FVec Ideal S256x256 .f32) (m : EReal) (r e : Fin 256) : EReal :=
  ∑ s : Fin 256, ((∑ d : Fin 128, q (ix2 r d) * k (ix2 s d)) * Ideal.exp (D (ix2 r s) - m)) * v (ix2 s e)

theorem recall_at (q k : FVec Ideal S256x128 .bf16) (v : FVec Ideal S256x256 .bf16) (c : FVec Ideal S128x256 .f32) (D : FVec Ideal S256x256 .f32)
    (T : FVec Ideal S256 .f32) (B : FVec Ideal S256x1 .f32) (hc : ∀ d e, c (ix2 d e) = 0) (r : Fin 256) (e : Fin 128) :
    recall q k v c D T B (ix2 r e)
      = (let m := max (B (ix2 r 0)) (T (ix1 r))
         Ideal.div (drawn q k v D m r ⟨e.val, by omega⟩)
           (max (max (drawn q k v D m r 128) (-drawn q k v D m r 128)) (Ideal.exp (-m)))) := by
  unfold recall
  pointwise [drawn, hc]
  simp only [hc, mul_zero, Finset.sum_const_zero, zero_add, zero_sub]
  rfl

theorem forward_recall (q k : FVec Ideal S256x128 .bf16) (v : FVec Ideal S256x256 .bf16) (g : FVec Ideal S256x128 .f32) (mask : IVec S256x256 1)
    (c : FVec Ideal S128x256 .f32) (m : FVec Ideal S1x1 .f32) (a b : FVec Ideal S256x128 .f32) :
    k0_pay29 q k v g mask c m a b
      = (let C := transpose S128x256 [1, 0] (k0_pay26 a b) transposes_S256x128_p1_0_S128x256
         let I := transpose S128x256 [1, 0] g transposes_S256x128_p1_0_S128x256
         let D := logits mask (k0_pay27 a b) (extractStridedSlice S1x256 ![1, 0] C slices_S128x256_o1_0_S1x256)
           (extractStridedSlice S1x256 ![0, 0] I slices_S128x256_o0_0_S1x256)
         recall q k v c D (rowTop D) (addf (k0_pay27 a b) (broadcastTo S256x1 m broadcasts_S1x1_S256x1))) := rfl

theorem backward_recall (q k : FVec Ideal S256x128 .bf16) (v : FVec Ideal S256x256 .bf16) (g : FVec Ideal S256x128 .f32) (mask : IVec S256x256 1)
    (c : FVec Ideal S128x256 .f32) (m : FVec Ideal S1x1 .f32) (a : FVec Ideal S256x128 .f32) :
    k0_pay42 q k v g mask c m a
      = (let C := transpose S128x256 [1, 0] a transposes_S256x128_p1_0_S128x256
         let I := transpose S128x256 [1, 0] g transposes_S256x128_p1_0_S128x256
         let D := logits mask (k0_pay40 a) (extractStridedSlice S1x256 ![3, 0] C slices_S128x256_o3_0_S1x256)
           (extractStridedSlice S1x256 ![2, 0] I slices_S128x256_o2_0_S1x256)
         recall q k v c D (rowTop D) (addf (k0_pay40 a) (broadcastTo S256x1 m broadcasts_S1x1_S256x1))) := rfl

/-- A direction's rows: the decays, the tokens' gates, and the mask of the tokens a row has seen. -/
structure Rows (o : Order) (i f : ℕ → ℝ) (mask : IVec S256x256 1) (B : FVec Ideal S256x1 .f32) (C I : FVec Ideal S1x256 .f32) : Prop where
  mask : ∀ r s, mask (ix2 r s) = BitVec.ofBool (decide (o.pos s ≤ o.pos r))
  col : ∀ r, B (ix2 r 0) = ((decayed f (o.pos r + 1) : ℝ) : EReal)
  row : ∀ s, C (ix2 0 s) = ((decayed f (o.pos s + 1) : ℝ) : EReal)
  gate : ∀ s, I (ix2 0 s) = ((i (o.pos s) : ℝ) : EReal)

section Rows

variable {o : Order} {i f : ℕ → ℝ} {mask : IVec S256x256 1} {B : FVec Ideal S256x1 .f32} {C I : FVec Ideal S1x256 .f32}

theorem Rows.logits (H : Rows o i f mask B C I) (r s : Fin 256) :
    logits mask B C I (ix2 r s) = if o.pos s < o.pos r + 1 then ((pull i f (o.pos r + 1) (o.pos s) : ℝ) : EReal) else ⊥ := by
  rw [logits_at, H.mask, H.col, H.row, H.gate, WordCmp.select_ofBool, ← EReal.coe_sub, ← EReal.coe_add]
  by_cases h : o.pos s ≤ o.pos r
  · rw [if_pos (decide_eq_true h), if_pos (by omega)]; rfl
  · rw [if_neg (by simpa using h), if_neg (by omega)]

theorem Rows.level (H : Rows o i f mask B C I) (r : Fin 256) :
    max (B (ix2 r 0)) (rowTop (Layer.logits mask B C I) (ix1 r)) = ((level i f (o.pos r + 1) : ℝ) : EReal) := by
  rw [rowTop_at, H.col, ← o.level_fold i f _ (o.lt r)]
  simp only [H.logits]

theorem Rows.drawn (H : Rows o i f mask B C I) (q k : FVec Ideal S256x128 .bf16) (v : FVec Ideal S256x256 .bf16) (r e : Fin 256)
    (Q : Fin 128 → ℝ) (K : Fin 128 → ℕ → ℝ) (V : ℕ → ℝ) (hq : ∀ d, q (ix2 r d) = ((Q d : ℝ) : EReal))
    (hk : ∀ s d, k (ix2 s d) = ((K d (o.pos s) : ℝ) : EReal)) (hv : ∀ s, v (ix2 s e) = ((V (o.pos s) : ℝ) : EReal)) :
    drawn q k v (Layer.logits mask B C I) ((Cert.Layer.level i f (o.pos r + 1) : ℝ) : EReal) r e
      = ((∑ d, Q d * store i f (fun m => K d m * V m) (o.pos r + 1) : ℝ) : EReal) := by
  unfold Layer.drawn
  simp only [H.logits, hq, hk, hv]
  exact o.recalled i f Q K V _ (o.lt r)

/-- What a row recalls is its query against what is stored at the row. -/
theorem Rows.recall (H : Rows o i f mask B C I) (q k : FVec Ideal S256x128 .bf16) (v : FVec Ideal S256x256 .bf16) (c : FVec Ideal S128x256 .f32)
    (m : FVec Ideal S1x1 .f32) (hc : ∀ d e, c (ix2 d e) = 0) (hm : m (ix2 0 0) = 0) (r : Fin 256) (e : Fin 128)
    (Q : Fin 128 → ℝ) (K : Fin 128 → ℕ → ℝ) (V : ℕ → ℝ) (hq : ∀ d, q (ix2 r d) = ((Q d : ℝ) : EReal))
    (hk : ∀ s d, k (ix2 s d) = ((K d (o.pos s) : ℝ) : EReal)) (hv : ∀ s, v (ix2 s ⟨e.val, by omega⟩) = ((V (o.pos s) : ℝ) : EReal))
    (h1 : ∀ s, v (ix2 s 128) = 1) :
    recall q k v c (Layer.logits mask B C I) (rowTop (Layer.logits mask B C I)) (addf B (broadcastTo S256x1 m broadcasts_S1x1_S256x1)) (ix2 r e)
      = recollect i f Q K V (o.pos r + 1) := by
  have hB : addf B (broadcastTo S256x1 m broadcasts_S1x1_S256x1) (ix2 r 0) = B (ix2 r 0) := by
    pointwise [hm]
  rw [recall_at _ _ _ _ _ _ _ hc, hB, H.level]
  show Ideal.div (Layer.drawn _ _ _ _ _ _ _) (max (max (Layer.drawn _ _ _ _ _ _ _) (-Layer.drawn _ _ _ _ _ _ _)) _) = _
  rw [H.drawn q k v r ⟨e.val, by omega⟩ Q K V hq hk hv, H.drawn q k v r 128 Q K (fun _ => 1) hq hk fun s => by rw [h1, EReal.coe_one]]
  rfl

end Rows

/-! ## What is stored after the last token -/

/-- The tokens' log weights after the last token. -/
def last (E : FVec Ideal S1x1 .f32) (B I : FVec Ideal S256x1 .f32) : FVec Ideal S256x1 .f32 :=
  addf (subf (broadcastTo S256x1 E broadcasts_S1x1_S256x1) B) I

theorem last_at (E : FVec Ideal S1x1 .f32) (B I : FVec Ideal S256x1 .f32) (s : Fin 256) :
    last E B I (ix2 s 0) = E (ix2 0 0) - B (ix2 s 0) + I (ix2 s 0) := by
  pointwise [last]

/-- The level after the last token. -/
def lastLevel (E m : FVec Ideal S1x1 .f32) (T : FVec Ideal S1 .f32) : FVec Ideal S1x1 .f32 :=
  maximumf (addf E m) (shapeCast S1x1 T shapeCasts_S1_S1x1)

theorem lastLevel_at (E m : FVec Ideal S1x1 .f32) (T : FVec Ideal S1 .f32) :
    lastLevel E m T (ix2 0 0) = max (E (ix2 0 0) + m (ix2 0 0)) (T (ix1 0)) := by
  pointwise [lastLevel]

/-- The tokens' weights after the last token. -/
def lastWeights (G : FVec Ideal S256x1 .f32) (M : FVec Ideal S1x1 .f32) : FVec Ideal S256x1 .f32 :=
  exp (subf G (broadcastTo S256x1 M broadcasts_S1x1_S256x1))

theorem lastWeights_at (G : FVec Ideal S256x1 .f32) (M : FVec Ideal S1x1 .f32) (s : Fin 256) :
    lastWeights G M (ix2 s 0) = Ideal.exp (G (ix2 s 0) - M (ix2 0 0)) := by
  pointwise [lastWeights]

/-- The memory after the last token. -/
theorem stored_at (k : FVec Ideal S256x128 .f32) (v : FVec Ideal S256x256 .bf16) (c : FVec Ideal S128x256 .f32) (m E M : FVec Ideal S1x1 .f32)
    (w : FVec Ideal S256x1 .f32) (hc : ∀ d e, c (ix2 d e) = 0) (d : Fin 128) (e : Fin 256) :
    k0_pay33 (F := Ideal) k v c m E M w (ix2 d e) = ∑ s : Fin 256, (k (ix2 s d) * w (ix2 s 0)) * v (ix2 s e) := by
  pointwise [k0_pay33, hc]
  rw [mul_zero, zero_add]

/-- A direction after its last token: the whole decay, the decays and the gates. -/
structure Ends (o : Order) (i f : ℕ → ℝ) (E m : FVec Ideal S1x1 .f32) (B I : FVec Ideal S256x1 .f32) : Prop where
  all : E (ix2 0 0) = ((decayed f 256 : ℝ) : EReal)
  zero : m (ix2 0 0) = 0
  col : ∀ r, B (ix2 r 0) = ((decayed f (o.pos r + 1) : ℝ) : EReal)
  gate : ∀ s, I (ix2 s 0) = ((i (o.pos s) : ℝ) : EReal)

section Ends

variable {o : Order} {i f : ℕ → ℝ} {E m : FVec Ideal S1x1 .f32} {B I : FVec Ideal S256x1 .f32}

theorem Ends.last (H : Ends o i f E m B I) (s : Fin 256) : last E B I (ix2 s 0) = ((pull i f 256 (o.pos s) : ℝ) : EReal) := by
  rw [last_at, H.all, H.col, H.gate, ← EReal.coe_sub, ← EReal.coe_add]
  rfl

theorem Ends.level (H : Ends o i f E m B I) :
    lastLevel E m (colTop (Layer.last E B I)) (ix2 0 0) = ((level i f 256 : ℝ) : EReal) := by
  rw [lastLevel_at, colTop_at, H.zero, add_zero, H.all, ← o.level_last i f]
  simp only [H.last]

theorem Ends.stored (H : Ends o i f E m B I) (k : FVec Ideal S256x128 .f32) (v : FVec Ideal S256x256 .bf16) (c : FVec Ideal S128x256 .f32)
    (hc : ∀ d e, c (ix2 d e) = 0) (d : Fin 128) (e : Fin 256) (K V : ℕ → ℝ) (hk : ∀ s, k (ix2 s d) = ((K (o.pos s) : ℝ) : EReal))
    (hv : ∀ s, v (ix2 s e) = ((V (o.pos s) : ℝ) : EReal)) :
    k0_pay33 (F := Ideal) k v c m E (lastLevel E m (colTop (Layer.last E B I)))
        (lastWeights (Layer.last E B I) (lastLevel E m (colTop (Layer.last E B I)))) (ix2 d e)
      = ((store i f (fun n => K n * V n) 256 : ℝ) : EReal) := by
  rw [stored_at _ _ _ _ _ _ _ hc]
  simp only [lastWeights_at, H.last, H.level, hk, hv]
  exact o.kept i f K V

end Ends

theorem store_matrix_at (k : FVec Ideal S256x128 .f32) (v : FVec Ideal S256x256 .bf16) (c : FVec Ideal S128x256 .f32) (m E M : FVec Ideal S1x1 .f32)
    (w : FVec Ideal S256x1 .f32) (d e : Fin 128) :
    k0_pay34 (F := Ideal) k v c m E M w (ix5 0 0 0 d e) = k0_pay33 (F := Ideal) k v c m E M w (ix2 d ⟨e.val, by omega⟩) := by
  pointwise [k0_pay34]

theorem store_vector_at (k : FVec Ideal S256x128 .f32) (v : FVec Ideal S256x256 .bf16) (c : FVec Ideal S128x256 .f32) (m E M : FVec Ideal S1x1 .f32)
    (w : FVec Ideal S256x1 .f32) (d : Fin 128) :
    k0_pay35 (F := Ideal) k v c m E M w (ix4 0 0 0 d) = k0_pay33 (F := Ideal) k v c m E M w (ix2 d 128) := by
  pointwise [k0_pay35]

theorem store_level_at (M : FVec Ideal S1x1 .f32) : k0_pay36 (F := Ideal) M (ix4 0 0 0 0) = M (ix2 0 0) := by
  pointwise [k0_pay36]

/-- The backward direction's stores are the forward direction's text. -/
theorem backward_store (k : FVec Ideal S256x128 .f32) (v : FVec Ideal S256x256 .bf16) (c : FVec Ideal S128x256 .f32) (m E M : FVec Ideal S1x1 .f32)
    (w : FVec Ideal S256x1 .f32) :
    k0_pay46 (F := Ideal) k v c m E M (broadcastTo S256x128 w broadcasts_S256x1_S256x128) = k0_pay33 (F := Ideal) k v c m E M w := rfl

/-! ## The head's output -/

theorem normed_at (a b : FVec Ideal S256x128 .f32) (w : FVec Ideal S1x128 .f32) (r : Fin 256) (d : Fin 128) :
    k0_pay50 (F := Ideal) a b w (ix2 r d) = normed (fun e => a (ix2 r e) + b (ix2 r e)) (fun e => w (ix2 0 e)) d := by
  pointwise [k0_pay50, normed]

theorem output_at (y o g : FVec Ideal S256x128 .f32) (r : Fin 256) (d : Fin 128) :
    k0_pay1 (F := Ideal) y o g (ix2 r d) = y (ix2 r d) * Ideal.div 1 (1 + Ideal.exp (-(o (ix2 r d)))) * gate (g (ix2 r d)) := by
  pointwise [k0_pay1, gate]
  rw [zero_sub, zero_sub]

end Cert.MlstmIdeal.Layer

end
-- ==== Proof.MlHead.lean ====
/- What one head of the kernel computes from blocks that hold what they should of the tokens. -/
module

public import proofs.«01_k».proof.Proof.MlBody
public import proofs.«01_k».proof.Proof.Gen.MlstmIdeal.Value
public import Idealize.ShloMosaic.Lib.Pointwise
public import Idealize.ShloMosaic.Lib.Pipeline.ValueKit

@[expose] public section

set_option maxRecDepth 16384

noncomputable section

namespace Cert.MlstmIdeal.Layer

open Cert.MlstmIdeal Cert.MlstmIdeal.Gen Idealize.ShloMosaic Idealize.ShloMosaic.WordCmp Idealize.ShloMosaic.TcCoe Idealize.SL.Sem Cert.Layer

/-! ## The two directions, from the four gates -/

theorem forwardRows (g a b : FVec Ideal S256x128 .f32) (hs : k0_pay26 (F := Ideal) a b = k0_pay39 g k0_pay17) (i f : ℕ → ℝ)
    (hi : ∀ s, g (ix2 s 0) = ((i (onward.pos s) : ℝ) : EReal)) (hf : ∀ s, g (ix2 s 1) = ((f (onward.pos s) : ℝ) : EReal)) :
    Rows onward i f k0_pay15 (k0_pay27 a b)
      (extractStridedSlice S1x256 ![1, 0] (transpose S128x256 [1, 0] (k0_pay26 a b) transposes_S256x128_p1_0_S128x256) slices_S128x256_o1_0_S1x256)
      (extractStridedSlice S1x256 ![0, 0] (transpose S128x256 [1, 0] g transposes_S256x128_p1_0_S128x256) slices_S128x256_o0_0_S1x256) where
  mask := below_at
  col r := by
    unfold k0_pay27
    rw [hs, ← masked_sum onward f k0_pay17 g 1 lower_at hf r]
    generalize k0_pay39 (F := Ideal) g k0_pay17 = S
    pointwise
  row s := by
    rw [hs, ← masked_sum onward f k0_pay17 g 1 lower_at hf s]
    generalize k0_pay39 (F := Ideal) g k0_pay17 = S
    pointwise
  gate s := by
    rw [← hi]
    pointwise

theorem backwardRows (g : FVec Ideal S256x128 .f32) (i f : ℕ → ℝ)
    (hi : ∀ s, g (ix2 s 2) = ((i (backward.pos s) : ℝ) : EReal)) (hf : ∀ s, g (ix2 s 3) = ((f (backward.pos s) : ℝ) : EReal)) :
    Rows backward i f k0_pay16 (k0_pay40 (k0_pay39 g k0_pay18))
      (extractStridedSlice S1x256 ![3, 0] (transpose S128x256 [1, 0] (k0_pay39 g k0_pay18) transposes_S256x128_p1_0_S128x256) slices_S128x256_o3_0_S1x256)
      (extractStridedSlice S1x256 ![2, 0] (transpose S128x256 [1, 0] g transposes_S256x128_p1_0_S128x256) slices_S128x256_o2_0_S1x256) where
  mask := above_at
  col r := by
    unfold k0_pay40
    rw [← masked_sum backward f k0_pay18 g 3 upper_at hf r]
    generalize k0_pay39 (F := Ideal) g k0_pay18 = S
    pointwise
  row s := by
    rw [← masked_sum backward f k0_pay18 g 3 upper_at hf s]
    generalize k0_pay39 (F := Ideal) g k0_pay18 = S
    pointwise
  gate s := by
    rw [← hi]
    pointwise

theorem forwardEnds (g a b : FVec Ideal S256x128 .f32) (hs : k0_pay26 (F := Ideal) a b = k0_pay39 g k0_pay17) (i f : ℕ → ℝ)
    (hi : ∀ s, g (ix2 s 0) = ((i (onward.pos s) : ℝ) : EReal)) (hf : ∀ s, g (ix2 s 1) = ((f (onward.pos s) : ℝ) : EReal)) :
    Ends onward i f (k0_pay28 a b) (k0_pay20 (F := Ideal)) (k0_pay27 a b)
      (extractStridedSlice S256x1 ![0, 0] g slices_S256x128_o0_0_S256x1) where
  all := by
    refine Eq.trans ?_ ((forwardRows g a b hs i f hi hf).col 255)
    unfold k0_pay28
    generalize k0_pay27 (F := Ideal) a b = S
    pointwise
  zero := by pointwise [k0_pay20]
  col := (forwardRows g a b hs i f hi hf).col
  gate s := by
    rw [← hi]
    pointwise

theorem backwardEnds (g : FVec Ideal S256x128 .f32) (i f : ℕ → ℝ)
    (hi : ∀ s, g (ix2 s 2) = ((i (backward.pos s) : ℝ) : EReal)) (hf : ∀ s, g (ix2 s 3) = ((f (backward.pos s) : ℝ) : EReal)) :
    Ends backward i f (k0_pay41 (k0_pay39 g k0_pay18)) (k0_pay38 (F := Ideal)) (k0_pay40 (k0_pay39 g k0_pay18))
      (extractStridedSlice S256x1 ![0, 2] g slices_S256x128_o0_2_S256x1) where
  all := by
    refine Eq.trans ?_ ((backwardRows g i f hi hf).col 0)
    unfold k0_pay41
    generalize k0_pay40 (F := Ideal) (k0_pay39 g k0_pay18) = S
    pointwise
  zero := by pointwise [k0_pay38]
  col := (backwardRows g i f hi hf).col
  gate s := by
    rw [← hi]
    pointwise

theorem zero_at (d : Fin 128) (e : Fin 256) : k0_pay19 (F := Ideal) (ix2 d e) = 0 := by
  pointwise [k0_pay19]

theorem zero_at' (d : Fin 128) (e : Fin 256) : k0_pay37 (F := Ideal) (ix2 d e) = 0 := by
  pointwise [k0_pay37]

/-! ## A head, from what its blocks hold -/

/-- What one head's operands hold of the tokens. -/
structure Operands (G : Given) (b : Fin 16) (h : Fin 4) (q k : FVec Ideal S256x128 .f32) (v : FVec Ideal S256x256 .bf16)
    (g : FVec Ideal S256x128 .f32) : Prop where
  query : ∀ r d, q (ix2 r d) = G.query b h r d
  key : ∀ r d, k (ix2 r d) = G.key b h r d
  value : ∀ (r : Fin 256) (e : Fin 128), v (ix2 r ⟨e.val, by omega⟩) = G.value b h r e
  ones : ∀ r, v (ix2 r 128) = 1
  in0 : ∀ r, g (ix2 r 0) = G.inGate b h r 0
  forget0 : ∀ r, g (ix2 r 1) = G.forget b h r 0
  in1 : ∀ r, g (ix2 r 2) = G.inGate b h r 1
  forget1 : ∀ r, g (ix2 r 3) = G.forget b h r 1

section Operands

variable {G : Given} {b : Fin 16} {h : Fin 4} {q k : FVec Ideal S256x128 .f32} {v : FVec Ideal S256x256 .bf16} {g : FVec Ideal S256x128 .f32}
  (O : Operands G b h q k v g) (H : G.Finite) {x y : FVec Ideal S256x128 .f32}

include O H

theorem forward_ends (hs : k0_pay26 (F := Ideal) x y = k0_pay39 g k0_pay17) :
    Ends onward (G.ins b h 0) (G.fades b h 0) (k0_pay28 x y) (k0_pay20 (F := Ideal)) (k0_pay27 x y)
      (extractStridedSlice S256x1 ![0, 0] g slices_S256x128_o0_0_S256x1) :=
  forwardEnds g x y hs _ _ (fun s => (O.in0 s).trans (Given.ins_eq b h s 0 H)) (fun s => (O.forget0 s).trans (Given.fades_eq b h s 0 H))

theorem backward_ends :
    Ends backward (G.ins b h 1) (G.fades b h 1) (k0_pay41 (k0_pay39 g k0_pay18)) (k0_pay38 (F := Ideal)) (k0_pay40 (k0_pay39 g k0_pay18))
      (extractStridedSlice S256x1 ![0, 2] g slices_S256x128_o0_2_S256x1) :=
  backwardEnds g _ _ (fun s => (O.in1 s).trans (Given.ins_eq b h s 1 H)) (fun s => (O.forget1 s).trans (Given.fades_eq b h s 1 H))

theorem forward_at (hs : k0_pay26 (F := Ideal) x y = k0_pay39 g k0_pay17) (r : Fin 256) (e : Fin 128) :
    k0_pay29 (F := Ideal) q k v g k0_pay15 k0_pay19 k0_pay20 x y (ix2 r e) = G.recalled b h r 0 e := by
  rw [forward_recall]
  exact (forwardRows g x y hs _ _ (fun s => (O.in0 s).trans (Given.ins_eq b h s 0 H))
    (fun s => (O.forget0 s).trans (Given.fades_eq b h s 0 H))).recall q k v _ _ zero_at (forward_ends O H hs).zero r e _ _ _
    (fun d => (O.query r d).trans (Given.queries_eq b h r d H)) (fun s d => (O.key s d).trans (Given.keys_eq b h s d 0 H))
    (fun s => (O.value s e).trans (Given.values_eq b h s 0 e H)) O.ones

theorem backward_at (r : Fin 256) (e : Fin 128) :
    k0_pay42 (F := Ideal) q k v g k0_pay16 k0_pay37 k0_pay38 (k0_pay39 g k0_pay18) (ix2 r e) = G.recalled b h r 1 e := by
  rw [backward_recall]
  exact (backwardRows g _ _ (fun s => (O.in1 s).trans (Given.ins_eq b h s 1 H))
    (fun s => (O.forget1 s).trans (Given.fades_eq b h s 1 H))).recall q k v _ _ zero_at' (backward_ends O H).zero r e _ _ _
    (fun d => (O.query r d).trans (Given.queries_eq b h r d H)) (fun s d => (O.key s d).trans (Given.keys_eq b h s d 1 H))
    (fun s => (O.value s e).trans (Given.values_eq b h s 1 e H)) O.ones

theorem forward_level (hs : k0_pay26 (F := Ideal) x y = k0_pay39 g k0_pay17) :
    k0_pay31 (F := Ideal) g k0_pay20 x y (ix2 0 0) = G.lastLevel b h 0 := (forward_ends O H hs).level

theorem backward_level : k0_pay44 (F := Ideal) g k0_pay38 (k0_pay39 g k0_pay18) (ix2 0 0) = G.lastLevel b h 1 := (backward_ends O H).level

theorem forward_matrix (hs : k0_pay26 (F := Ideal) x y = k0_pay39 g k0_pay17) (d e : Fin 128) :
    k0_pay34 (F := Ideal) k v k0_pay19 k0_pay20 (k0_pay28 x y) (k0_pay31 g k0_pay20 x y) (k0_pay32 g k0_pay20 x y) (ix5 0 0 0 d e)
      = G.matrix b h d 0 e :=
  (store_matrix_at _ _ _ _ _ _ _ d e).trans ((forward_ends O H hs).stored k v _ zero_at d _ _ _
    (fun s => (O.key s d).trans (Given.keys_eq b h s d 0 H)) (fun s => (O.value s e).trans (Given.values_eq b h s 0 e H)))

theorem forward_vector (hs : k0_pay26 (F := Ideal) x y = k0_pay39 g k0_pay17) (d : Fin 128) :
    k0_pay35 (F := Ideal) k v k0_pay19 k0_pay20 (k0_pay28 x y) (k0_pay31 g k0_pay20 x y) (k0_pay32 g k0_pay20 x y) (ix4 0 0 0 d)
      = G.vector b h d 0 :=
  (store_vector_at _ _ _ _ _ _ _ d).trans ((forward_ends O H hs).stored k v _ zero_at d _ _ (fun _ => 1)
    (fun s => (O.key s d).trans (Given.keys_eq b h s d 0 H)) (fun s => (O.ones s).trans EReal.coe_one.symm))

theorem backward_matrix (d e : Fin 128) :
    k0_pay47 (F := Ideal) k v k0_pay37 k0_pay38 (k0_pay41 (k0_pay39 g k0_pay18)) (k0_pay44 g k0_pay38 (k0_pay39 g k0_pay18))
      (k0_pay45 g k0_pay38 (k0_pay39 g k0_pay18)) (ix5 0 0 0 d e) = G.matrix b h d 1 e :=
  (store_matrix_at k v k0_pay37 _ _ _ _ d e).trans ((backward_ends O H).stored k v _ zero_at' d _ _ _
    (fun s => (O.key s d).trans (Given.keys_eq b h s d 1 H)) (fun s => (O.value s e).trans (Given.values_eq b h s 1 e H)))

theorem backward_vector (d : Fin 128) :
    k0_pay48 (F := Ideal) k v k0_pay37 k0_pay38 (k0_pay41 (k0_pay39 g k0_pay18)) (k0_pay44 g k0_pay38 (k0_pay39 g k0_pay18))
      (k0_pay45 g k0_pay38 (k0_pay39 g k0_pay18)) (ix4 0 0 0 d) = G.vector b h d 1 :=
  (store_vector_at k v k0_pay37 _ _ _ _ d).trans ((backward_ends O H).stored k v _ zero_at' d _ _ (fun _ => 1)
    (fun s => (O.key s d).trans (Given.keys_eq b h s d 1 H)) (fun s => (O.ones s).trans EReal.coe_one.symm))

end Operands

end Cert.MlstmIdeal.Layer

end
-- ==== Proof.MlValue.lean ====
/- The kernel's four result arrays for the gated memories, entry by entry. -/
module

public import proofs.«01_k».proof.Proof.MlHead
public import Idealize.ShloMosaic.Lib.Pointwise
public import Idealize.ShloMosaic.Lib.Pipeline.ValueKit

@[expose] public section

set_option maxRecDepth 16384

noncomputable section

namespace Cert.MlstmIdeal.Layer

open Cert.MlstmIdeal Cert.MlstmIdeal.Gen Idealize.ShloMosaic Idealize.ShloMosaic.TcCoe Idealize.SL.Sem Cert.Layer

variable (m : (ℓ : Loc nD τ sig) → Buf (Elt Ideal) ℓ)

/-- Where each window stands at point `t`: `t / 4` counts the sequences, `t % 4` the heads. -/
theorem place : ∀ t : Fin cfg0.N, win0_0.index t = ![t.val / 4, 20 + t.val % 4] ∧ win0_1.index t = ![t.val / 4, 24 + t.val % 4]
    ∧ win0_2.index t = ![t.val / 4, 28 + t.val % 4] ∧ win0_3.index t = ![t.val / 4, 32 + t.val % 4] ∧ win0_4.index t = ![t.val / 4, 36 + t.val % 4]
    ∧ win0_5.index t = ![t.val / 4, 40] ∧ win0_6.index t = ![0, 0] ∧ win0_7.index t = ![0, t.val % 4] ∧ win0_8.index t = ![0, 4 + t.val % 4]
    ∧ win0_9.index t = ![0, t.val % 4] ∧ win0_10.index t = ![0, 4 + t.val % 4] ∧ win0_11.index t = ![0, t.val % 4]
    ∧ win0_12.index t = ![t.val / 4, t.val % 4] ∧ win0_13.index t = ![t.val / 4, 0, t.val % 4, 0, 0]
    ∧ win0_14.index t = ![t.val / 4, t.val % 4, 0, 0] ∧ win0_15.index t = ![t.val / 4, t.val % 4, 0, 0] :=
  (by decide +kernel : ∀ t : Fin grid0.N, _)

/-- What the run is given. -/
abbrev given (c : Dev nD) : Given where
  z r l := m ((c : Thread nD τ).loc main_arg0) (ix2 r l)
  bias j := m ((c : Thread nD τ).loc main_arg1) (ix1 j)
  w a j := m ((c : Thread nD τ).loc main_arg2) (ix2 a j)
  c j := m ((c : Thread nD τ).loc main_arg3) (ix1 j)
  norm j := m ((c : Thread nD τ).loc main_arg4) (ix1 j)

/-- A point's sequence and head. -/
abbrev seqOf (t : Fin cfg0.N) : Fin 16 := ⟨t.val / 4, by have := t.isLt; have : cfg0.N = 64 := N_0; omega⟩
abbrev headOf (t : Fin cfg0.N) : Fin 4 := ⟨t.val % 4, by omega⟩

theorem head_word : ∀ t : Fin cfg0.N, (grid0.coords t 1).val = t.val % 4 := (by decide +kernel : ∀ t : Fin grid0.N, _)

section Blocks

variable (c : Dev nD) (t : Fin cfg0.N) (r : Fin 256) (d : Fin 128)

theorem queryBlock : iblk m c 0 t (ix2 r d) = (given m c).z ⟨seqOf t * 256 + r, by omega⟩ ⟨2560 + (headOf t * 128 + d), by omega⟩ := by
  blk_point [iblk, V, place t]

theorem keyBlock : iblk m c 1 t (ix2 r d) = (given m c).z ⟨seqOf t * 256 + r, by omega⟩ ⟨2560 + (512 + (headOf t * 128 + d)), by omega⟩ := by
  blk_point [iblk, V, place t]

theorem valueBlock : iblk m c 2 t (ix2 r d) = (given m c).z ⟨seqOf t * 256 + r, by omega⟩ ⟨3584 + (headOf t * 128 + d), by omega⟩ := by
  blk_point [iblk, V, place t]

theorem outGateBlock : iblk m c 3 t (ix2 r d) = (given m c).z ⟨seqOf t * 256 + r, by omega⟩ ⟨4096 + (headOf t * 128 + d), by omega⟩ := by
  blk_point [iblk, V, place t]

theorem gateBlock : iblk m c 4 t (ix2 r d) = (given m c).z ⟨seqOf t * 256 + r, by omega⟩ ⟨4608 + (headOf t * 128 + d), by omega⟩ := by
  blk_point [iblk, V, place t]

theorem gatesBlock (j : Fin 16) : iblk m c 5 t (ix2 r ⟨j.val, by omega⟩) = (given m c).z ⟨seqOf t * 256 + r, by omega⟩ ⟨5120 + j, by omega⟩ := by
  blk_point [iblk, V, place t]

theorem biasBlock (j : Fin 16) : iblk m c 6 t (ix2 0 ⟨j.val, by omega⟩) = (given m c).bias j := by
  have e : V m c main_v1 = shapeCast S1x128 (pad S128 ![0] ![112] ![0] (m ((c : Thread nD τ).loc main_arg1))
      (sitofp .f32 (fun _ => 0#32) : FVec Ideal S_ .f32) pads_S16_S128_01120 h_S_) shapeCasts_S128_S1x128 := by
    unfold V hostOps0 hostOps0_1 hostOps0_2
    simp only [List.flatten_cons, List.flatten_nil, List.cons_append, List.nil_append, List.append_nil]
    after_results; try rfl
  have e' : iblk m c 6 t (ix2 0 ⟨j.val, by omega⟩) = V m c main_v1 (ix2 0 ⟨j.val, by omega⟩) := by blk_ext [iblk, place t]
  rw [e', e]
  pointwise
  refine dif_pos fun a => ?_
  match a with
  | 0 => exact j.isLt

theorem queryWeights (a : Fin 3) : iblk m c 7 t (ix2 a d) = (given m c).w a ⟨headOf t * 128 + d, by omega⟩ := by
  blk_point [iblk, V, place t]

theorem keyWeights (a : Fin 3) : iblk m c 8 t (ix2 a d) = (given m c).w a ⟨512 + (headOf t * 128 + d), by omega⟩ := by
  blk_point [iblk, V, place t]

theorem queryBias : iblk m c 9 t (ix2 0 d) = (given m c).c ⟨headOf t * 128 + d, by omega⟩ := by
  have e : V m c main_v2 = shapeCast S1x1024 (m ((c : Thread nD τ).loc main_arg3)) shapeCasts_S1024_S1x1024 := by
    unfold V hostOps0 hostOps0_1 hostOps0_2
    simp only [List.flatten_cons, List.flatten_nil, List.cons_append, List.nil_append, List.append_nil]
    after_results; try rfl
  have e' : iblk m c 9 t (ix2 0 d) = V m c main_v2 (ix2 0 ⟨headOf t * 128 + d, by omega⟩) := by blk_ext [iblk, place t]
  rw [e', e]
  pointwise

theorem keyBias : iblk m c 10 t (ix2 0 d) = (given m c).c ⟨512 + (headOf t * 128 + d), by omega⟩ := by
  have e : V m c main_v2 = shapeCast S1x1024 (m ((c : Thread nD τ).loc main_arg3)) shapeCasts_S1024_S1x1024 := by
    unfold V hostOps0 hostOps0_1 hostOps0_2
    simp only [List.flatten_cons, List.flatten_nil, List.cons_append, List.nil_append, List.append_nil]
    after_results; try rfl
  have e' : iblk m c 10 t (ix2 0 d) = V m c main_v2 (ix2 0 ⟨512 + (headOf t * 128 + d), by omega⟩) := by blk_ext [iblk, place t]
  rw [e', e]
  pointwise

theorem normWeights : iblk m c 11 t (ix2 0 d) = (given m c).norm ⟨headOf t * 128 + d, by omega⟩ := by
  have e : V m c main_v3 = shapeCast S1x512 (m ((c : Thread nD τ).loc main_arg4)) shapeCasts_S512_S1x512 := by
    unfold V hostOps0 hostOps0_1 hostOps0_2
    simp only [List.flatten_cons, List.flatten_nil, List.cons_append, List.nil_append, List.append_nil]
    after_results; try rfl
  have e' : iblk m c 11 t (ix2 0 d) = V m c main_v3 (ix2 0 ⟨headOf t * 128 + d, by omega⟩) := by blk_ext [iblk, place t]
  rw [e', e]
  pointwise

end Blocks

/-! ## A point's operands -/

section Loads

variable (x : Vec Ideal S256x128 .f32) (w : Vec Ideal S3x128 .f32) (b : Vec Ideal S1x128 .f32) (r : Fin 256) (d : Fin 128)

theorem ld_block : View.ld x r0_0 (ix2 r d) = x (ix2 r d) := by pointwise
theorem ld_row : View.ld b r0_4 (ix2 0 d) = b (ix2 0 d) := by pointwise
theorem ld_row0 : View.ld w r0_1 (ix2 0 d) = w (ix2 0 d) := by pointwise
theorem ld_row1 : View.ld w r0_2 (ix2 0 d) = w (ix2 1 d) := by pointwise
theorem ld_row2 : View.ld w r0_3 (ix2 0 d) = w (ix2 2 d) := by pointwise

theorem rows_eq : ![w (ix2 0 d), w (ix2 1 d), w (ix2 2 d)] = fun a => w (ix2 a d) := by
  funext a
  match a with
  | 0 => rfl
  | 1 => rfl
  | 2 => rfl

theorem conv_ld : gate (conv (fun s => View.ld x r0_0 (ix2 s d)) ![View.ld w r0_1 (ix2 0 d), View.ld w r0_2 (ix2 0 d), View.ld w r0_3 (ix2 0 d)]
      (View.ld b r0_4 (ix2 0 d)) r)
    = gate (conv (fun s => x (ix2 s d)) (fun a => w (ix2 a d)) (b (ix2 0 d)) r) := by
  rw [← rows_eq, ld_row, ld_row0, ld_row1, ld_row2]
  exact congrArg gate (conv_congr (fun s => ld_block x s d) (fun _ => rfl) rfl r)

end Loads

variable (c : Dev nD) (t : Fin cfg0.N)

/-- A value of the body at a point, of the blocks there. -/
abbrev atPoint {α : Type} (f : grid0.Coords → Vec Ideal S256x128 .f32 → Vec Ideal S256x128 .f32 → Vec Ideal S256x128 .f32 → Vec Ideal S256x128 .f32 →
    Vec Ideal S256x128 .f32 → Vec Ideal S256x128 .f32 → Vec Ideal S1x128 .f32 → Vec Ideal S3x128 .f32 → Vec Ideal S3x128 .f32 → Vec Ideal S1x128 .f32 →
    Vec Ideal S1x128 .f32 → Vec Ideal S1x128 .f32 → α) : α :=
  f (grid0.coords t) (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t)

theorem gates_four : atPoint m c t (k0_pay64 (F := Ideal)) = four (headOf t) (View.ld (iblk m c 5 t) r0_0) (View.ld (iblk m c 6 t) r0_4) := by
  have e : BitVec.ofNat 32 (grid0.coords t 1).val = BitVec.ofNat 32 (headOf t).val := congrArg _ (head_word t)
  unfold four
  rw [← e]
  rfl

theorem gate_at (r : Fin 256) (j : Fin 16) (k : Fin 128) (hk : k.val = j.val) (x : FVec Ideal S256x128 .f32) (b : FVec Ideal S1x128 .f32)
    (hx : x = View.ld (iblk m c 5 t) r0_0) (hb : b = View.ld (iblk m c 6 t) r0_4) :
    x (ix2 r k) + b (ix2 0 k) = (given m c).gates (seqOf t) r j := by
  have e : k = ⟨j.val, by omega⟩ := Fin.ext hk
  rw [e, hx, hb]
  exact congrArg₂ (fun x y : EReal => x + y) ((ld_block _ _ _).trans (gatesBlock m c t r j)) ((ld_row _ _).trans (biasBlock m c t j))

theorem operands : Operands (given m c) (seqOf t) (headOf t) (atPoint m c t (k0_pay51 (F := Ideal))) (atPoint m c t (k0_pay53 (F := Ideal)))
    (atPoint m c t (k0_pay55 (F := Ideal))) (atPoint m c t (k0_pay64 (F := Ideal))) where
  query r d := (query_at _ _ _ _ _ r d).trans ((conv_ld _ _ _ r d).trans (congrArg gate
    (conv_congr (fun s => queryBlock m c t s d) (fun a => queryWeights m c t d a) (queryBias m c t d) r)))
  key r d := (key_at _ _ _ _ _ r d).trans (congrArg (fun g => g * Ideal.ofBits .f32 0x3DB504F3#32) ((conv_ld _ _ _ r d).trans (congrArg gate
    (conv_congr (fun s => keyBlock m c t s d) (fun a => keyWeights m c t d a) (keyBias m c t d) r))))
  value r e := (values_at _ r e).trans ((ld_block _ _ _).trans (valueBlock m c t r e))
  ones r := ones_at _ r
  in0 r := (congrFun (gates_four m c t) _).trans ((four0 _ _ _ r).trans (gate_at m c t r ⟨0 * 8 + (headOf t).val, by omega⟩ _ (by simp) _ _ rfl rfl))
  forget0 r := (congrFun (gates_four m c t) _).trans ((four1 _ _ _ r).trans
    (congrArg logsig (gate_at m c t r ⟨0 * 8 + 4 + (headOf t).val, by omega⟩ _ (by simp) _ _ rfl rfl)))
  in1 r := (congrFun (gates_four m c t) _).trans ((four2 _ _ _ r).trans (gate_at m c t r ⟨1 * 8 + (headOf t).val, by omega⟩ _ (by simp) _ _ rfl rfl))
  forget1 r := (congrFun (gates_four m c t) _).trans ((four3 _ _ _ r).trans
    (congrArg logsig (gate_at m c t r ⟨1 * 8 + 4 + (headOf t).val, by omega⟩ _ (by simp) _ _ rfl rfl)))

theorem sums_eq : k0_pay26 (F := Ideal) (atPoint m c t (k0_pay67 (F := Ideal))) (atPoint m c t (k0_pay68 (F := Ideal)))
    = k0_pay39 (atPoint m c t (k0_pay64 (F := Ideal))) k0_pay17 := forward_sum _ _ _ _ _ _ _ _ _ _ _

/-! ## The four arrays -/

/-- The results, at any entry. -/
def outputs (G : Given) : S4096x512.Idx → EReal := fun x =>
  G.output ⟨x 0 / 256, by have : (x 0).val < 4096 := (x 0).isLt; omega⟩ ⟨x 1 / 128, by have : (x 1).val < 512 := (x 1).isLt; omega⟩
    ⟨x 0 % 256, by omega⟩ ⟨x 1 % 128, by omega⟩
def matrices (G : Given) : S16x2x4x128x128.Idx → EReal := fun x => G.matrix (x 0) (x 2) (x 3) (x 1) (x 4)
def vectors (G : Given) : S16x4x2x128.Idx → EReal := fun x => G.vector (x 0) (x 1) (x 3) (x 2)
def levels (G : Given) : S16x4x2x1.Idx → EReal := fun x => G.lastLevel (x 0) (x 1) (x 2)

theorem outputs_eq (G : Given) (b : Fin 16) (h : Fin 4) (r : Fin 256) (e : Fin 128) (x : S4096x512.Idx) (h0 : (x 0).val = b * 256 + r)
    (h1 : (x 1).val = h * 128 + e) : G.output b h r e = outputs G x := by
  unfold outputs
  congr 1 <;> refine Fin.ext ?_ <;> simp only [h0, h1] <;> omega

theorem matrices_eq (G : Given) (b : Fin 16) (h : Fin 4) (d : Fin 128) (u : Fin 2) (e : Fin 128) (x : S16x2x4x128x128.Idx)
    (h0 : (x 0).val = b) (h1 : (x 1).val = u) (h2 : (x 2).val = h) (h3 : (x 3).val = d) (h4 : (x 4).val = e) :
    G.matrix b h d u e = matrices G x := by
  unfold matrices
  congr 1 <;> refine Fin.ext ?_ <;> simp only [h0, h1, h2, h3, h4]

theorem vectors_eq (G : Given) (b : Fin 16) (h : Fin 4) (d : Fin 128) (u : Fin 2) (x : S16x4x2x128.Idx)
    (h0 : (x 0).val = b) (h1 : (x 1).val = h) (h2 : (x 2).val = u) (h3 : (x 3).val = d) : G.vector b h d u = vectors G x := by
  unfold vectors
  congr 1 <;> refine Fin.ext ?_ <;> simp only [h0, h1, h2, h3]

theorem levels_eq (G : Given) (b : Fin 16) (h : Fin 4) (u : Fin 2) (x : S16x4x2x1.Idx)
    (h0 : (x 0).val = b) (h1 : (x 1).val = h) (h2 : (x 2).val = u) : G.lastLevel b h u = levels G x := by
  unfold levels
  congr 1 <;> refine Fin.ext ?_ <;> simp only [h0, h1, h2]

theorem one_matrix (x : S1x1x1x128x128.Idx) : x = ix5 0 0 0 (x 3) (x 4) := by
  funext a
  match a with
  | 0 => exact Subsingleton.elim (α := Fin 1) _ _
  | 1 => exact Subsingleton.elim (α := Fin 1) _ _
  | 2 => exact Subsingleton.elim (α := Fin 1) _ _
  | 3 => rfl
  | 4 => rfl

theorem one_vector (x : S1x1x1x128.Idx) : x = ix4 0 0 0 (x 3) := by
  funext a
  match a with
  | 0 => exact Subsingleton.elim (α := Fin 1) _ _
  | 1 => exact Subsingleton.elim (α := Fin 1) _ _
  | 2 => exact Subsingleton.elim (α := Fin 1) _ _
  | 3 => rfl

theorem one_level (x : S1x1x1x1.Idx) : x = ix4 0 0 0 0 := by
  funext a
  match a with
  | 0 => exact Subsingleton.elim (α := Fin 1) _ _
  | 1 => exact Subsingleton.elim (α := Fin 1) _ _
  | 2 => exact Subsingleton.elim (α := Fin 1) _ _
  | 3 => exact Subsingleton.elim (α := Fin 1) _ _

variable (H : (given m c).Finite)
include H

theorem storedOutput (y : S256x128.Idx) :
    atPoint m c t (out0_12 (F := Ideal)) y = outputs (given m c) (((cfg0.win 12).blk t).view.emb y) := by
  unfold atPoint out0_12
  frame_out
  rw [eq_ix2 y]
  refine (output_at _ _ _ (y 0) (y 1)).trans (Eq.trans ?_ (outputs_eq _ (seqOf t) (headOf t) (y 0) (y 1) _ ?_ ?_))
  · refine congrArg₂ (fun a b : EReal => a * b) (congrArg₂ (fun a b : EReal => a * b) ((normed_at _ _ _ (y 0) (y 1)).trans
        (congrFun (congrArg₂ normed (funext fun a => ?_) (funext fun a => normWeights m c t a)) _))
      (congrArg (fun x : EReal => Ideal.div 1 (1 + Ideal.exp (-x))) (outGateBlock m c t (y 0) (y 1)))) (congrArg gate (gateBlock m c t (y 0) (y 1)))
    exact congrArg₂ (fun a b : EReal => a + b) (forward_at (operands m c t) H (sums_eq m c t) (y 0) a) (backward_at (operands m c t) H (y 0) a)
  · blk_simp [place t]
  · blk_simp [place t]

theorem storedMatrix (y : S1x2x1x128x128.Idx) :
    atPoint m c t (out0_13 (F := Ideal)) y = matrices (given m c) (((cfg0.win 13).blk t).view.emb y) := by
  unfold atPoint out0_13
  frame_out
  canon_tiles x h
  · rw [one_matrix x]
    refine (backward_matrix (operands m c t) H (x 3) (x 4)).trans (matrices_eq _ (seqOf t) (headOf t) (x 3) 1 (x 4) _ ?_ ?_ ?_ ?_ ?_) <;>
      blk_simp [place t] <;> first | omega | (simp only [seqOf, headOf, Fin.val_one]; omega)
  · rw [one_matrix x]
    refine (forward_matrix (operands m c t) H (sums_eq m c t) (x 3) (x 4)).trans
      (matrices_eq _ (seqOf t) (headOf t) (x 3) 0 (x 4) _ ?_ ?_ ?_ ?_ ?_) <;>
      blk_simp [place t] <;> first | omega | (simp only [seqOf, headOf, Fin.val_zero]; omega)

theorem storedVector (y : S1x1x2x128.Idx) :
    atPoint m c t (out0_14 (F := Ideal)) y = vectors (given m c) (((cfg0.win 14).blk t).view.emb y) := by
  unfold atPoint out0_14
  frame_out
  canon_tiles x h
  · rw [one_vector x]
    refine (backward_vector (operands m c t) H (x 3)).trans (vectors_eq _ (seqOf t) (headOf t) (x 3) 1 _ ?_ ?_ ?_ ?_) <;>
      blk_simp [place t] <;> first | omega | (simp only [seqOf, headOf, Fin.val_one]; omega)
  · rw [one_vector x]
    refine (forward_vector (operands m c t) H (sums_eq m c t) (x 3)).trans (vectors_eq _ (seqOf t) (headOf t) (x 3) 0 _ ?_ ?_ ?_ ?_) <;>
      blk_simp [place t] <;> first | omega | (simp only [seqOf, headOf, Fin.val_zero]; omega)

theorem storedLevel (y : S1x1x2x1.Idx) :
    atPoint m c t (out0_15 (F := Ideal)) y = levels (given m c) (((cfg0.win 15).blk t).view.emb y) := by
  unfold atPoint out0_15
  frame_out
  canon_tiles x h
  · rw [one_level x]
    refine (store_level_at _).trans ((backward_level (operands m c t) H).trans (levels_eq _ (seqOf t) (headOf t) 1 _ ?_ ?_ ?_)) <;>
      blk_simp [place t] <;> first | omega | (simp only [seqOf, headOf, Fin.val_one]; omega)
  · rw [one_level x]
    refine (store_level_at _).trans ((forward_level (operands m c t) H (sums_eq m c t)).trans (levels_eq _ (seqOf t) (headOf t) 0 _ ?_ ?_ ?_)) <;>
      blk_simp [place t] <;> first | omega | (simp only [seqOf, headOf, Fin.val_zero]; omega)

/-- The four result arrays after the run. -/
theorem resultOutput : (dats m 0 c).arrAt 12 cfg0.N = outputs (given m c) := by
  refine (dats m 0 c).arrAt_eq_of_covers 12 _ (by decide +kernel) fun t _ y => ?_
  blk_simp
  rw [after0_12]
  exact storedOutput m c t H y

theorem resultMatrix : (dats m 0 c).arrAt 13 cfg0.N = matrices (given m c) := by
  refine (dats m 0 c).arrAt_eq_of_covers 13 _ (by decide +kernel) fun t _ y => ?_
  blk_simp
  rw [after0_13]
  exact storedMatrix m c t H _

theorem resultVector : (dats m 0 c).arrAt 14 cfg0.N = vectors (given m c) := by
  refine (dats m 0 c).arrAt_eq_of_covers 14 _ (by decide +kernel) fun t _ y => ?_
  blk_simp
  rw [after0_14]
  exact storedVector m c t H _

theorem resultLevel : (dats m 0 c).arrAt 15 cfg0.N = levels (given m c) := by
  refine (dats m 0 c).arrAt_eq_of_covers 15 _ (by decide +kernel) fun t _ y => ?_
  blk_simp
  rw [after0_15]
  exact storedLevel m c t H _

end Cert.MlstmIdeal.Layer

end
-- ==== Proof.MlTrip.lean ====
/- One token of the gated memories' recurrence, as the reference writes it, entry by entry. -/
module

public import proofs.«01_k».proof.Proof.Memory
public import proofs.«01_k».proof.Proof.Gen.MlstmRefIdeal.Run
public import Idealize.ShloMosaic.Lib.Pointwise
public import Idealize.ShloMosaic.Lib.DynamicIndex

@[expose] public section

set_option maxRecDepth 16384

noncomputable section

namespace Cert.MlstmRefIdeal.Layer

open Cert.MlstmRefIdeal Cert.MlstmRefIdeal.Gen Cert.MlstmRefIdeal.Value Idealize.ShloMosaic Idealize.ShloMosaic.TcCoe Idealize.ShloMosaic.StableHlo
  Idealize.SL.Sem Cert.Layer

/-! ## A token's rows -/

variable {α : Type}

/-- A loop's index as the start of a block of one token, of the arrays with and without lanes. -/
abbrev start5 (w : IVec S_ 32) : Fin 5 → Int := fun k =>
  (((![w, constantI S_ 32 0#32, constantI S_ 32 0#32, constantI S_ 32 0#32, constantI S_ 32 0#32] : Fin 5 → IVec S_ 32)) k (Shape.Idx.first h_S_)).toInt
abbrev start4 (w : IVec S_ 32) : Fin 4 → Int := fun k =>
  (((![w, constantI S_ 32 0#32, constantI S_ 32 0#32, constantI S_ 32 0#32] : Fin 4 → IVec S_ 32)) k (Shape.Idx.first h_S_)).toInt

section Rows

variable (k : Fin 256) (w : IVec S_ 32) (hw : w = fun _ => BitVec.ofNat 32 k.val)
include hw

theorem start5_eq (a : Fin 5) : start5 w a = ((![k.val, 0, 0, 0, 0] : Fin 5 → ℕ) a : Int) := by
  subst hw
  match a with
  | 0 => exact toInt_ofNat_of_lt (by omega)
  | 1 => rfl
  | 2 => rfl
  | 3 => rfl
  | 4 => rfl

theorem start4_eq (a : Fin 4) : start4 w a = ((![k.val, 0, 0, 0] : Fin 4 → ℕ) a : Int) := by
  subst hw
  match a with
  | 0 => exact toInt_ofNat_of_lt (by omega)
  | 1 => rfl
  | 2 => rfl
  | 3 => rfl

theorem fits5 : S256x16x2x4x128.Slices ![k.val, 0, 0, 0, 0] S1x16x2x4x128 := by
  refine ⟨rfl, fun a => ?_⟩
  match a with
  | 0 => exact (by omega : k.val + 1 ≤ 256)
  | 1 => exact (le_refl 16)
  | 2 => exact (le_refl 2)
  | 3 => exact (le_refl 4)
  | 4 => exact (le_refl 128)

theorem fits4 : S256x16x2x4.Slices ![k.val, 0, 0, 0] S1x16x2x4 := by
  refine ⟨rfl, fun a => ?_⟩
  match a with
  | 0 => exact (by omega : k.val + 1 ≤ 256)
  | 1 => exact (le_refl 16)
  | 2 => exact (le_refl 2)
  | 3 => exact (le_refl 4)

variable (b : Fin 16) (u : Fin 2) (h : Fin 4) (d : Fin 128)

theorem row5 (x : S256x16x2x4x128.Idx → α) :
    shapeCast S16x2x4x128 (Host.dynamicSlice S1x16x2x4x128 x (start5 w) sliceFits_S256x16x2x4x128_S1x16x2x4x128)
      shapeCasts_S1x16x2x4x128_S16x2x4x128 (ix4 b u h d) = x (ix5 k b u h d) := by
  rw [Host.dynamicSlice_eq_extractStridedSlice _ x _ ![k.val, 0, 0, 0, 0] _ (fits5 k w hw) (start5_eq k w hw)]
  pointwise

theorem row4 (x : S256x16x2x4.Idx → α) :
    shapeCast S16x2x4 (Host.dynamicSlice S1x16x2x4 x (start4 w) sliceFits_S256x16x2x4_S1x16x2x4) shapeCasts_S1x16x2x4_S16x2x4 (ix3 b u h)
      = x (ix4 k b u h) := by
  rw [Host.dynamicSlice_eq_extractStridedSlice _ x _ ![k.val, 0, 0, 0] _ (fits4 k w hw) (start4_eq k w hw)]
  pointwise

/-- Writing a token's row leaves the others. -/
theorem write_row (x : S256x16x2x4x128.Idx → α) (y : S16x2x4x128.Idx → α) (t : Fin 256) :
    Host.dynamicUpdateSlice x (broadcastInDim S1x16x2x4x128 ![1, 2, 3, 4] bcast_S16x2x4x128_S1x16x2x4x128_1_2_3_4 y) (start5 w)
      updateFits_S256x16x2x4x128_S1x16x2x4x128 (ix5 t b u h d) = if t = k then y (ix4 b u h d) else x (ix5 t b u h d) := by
  rw [Host.dynamicUpdateSlice_eq_updateSlice x _ _ _ ![k.val, 0, 0, 0, 0] (fun a => ?_) (fits5 k w hw)]
  · by_cases e : t = k
    · subst e
      rw [if_pos rfl]
      pointwise
      exact dif_pos ⟨le_rfl, Nat.lt_succ_self _⟩
    · rw [if_neg e]
      pointwise
      exact dif_neg fun hx => e (Fin.ext (by omega))
  · rw [start5_eq k w hw a]
    match a with
    | 0 => exact (by omega : (min (max (k.val : Int) 0) ((256 - 1 : ℕ) : Int)).toNat = k.val)
    | 1 => rfl
    | 2 => rfl
    | 3 => rfl
    | 4 => rfl

end Rows

/-! ## One trip -/

section Trip

variable (V : Valuation τ sig (Elt Ideal)) (k : Fin 256)

/-- The carried arrays. -/
abbrev qs : FVec Ideal S256x16x2x4x128 .f32 := V (Proc.devRef .tc main_v81_0)
abbrev ks : FVec Ideal S256x16x2x4x128 .f32 := V (Proc.devRef .tc main_v81_1)
abbrev vs : FVec Ideal S256x16x2x4x128 .f32 := V (Proc.devRef .tc main_v81_2)
abbrev ins : FVec Ideal S256x16x2x4 .f32 := V (Proc.devRef .tc main_v81_3)
abbrev fades : FVec Ideal S256x16x2x4 .f32 := V (Proc.devRef .tc main_v81_4)
abbrev counter : IVec S_ 32 := V (Proc.devRef .tc main_v81_5)
abbrev mats : FVec Ideal S16x2x4x128x128 .f32 := V (Proc.devRef .tc main_v81_6)
abbrev vecs : FVec Ideal S16x2x4x128 .f32 := V (Proc.devRef .tc main_v81_7)
abbrev levs : FVec Ideal S16x2x4 .f32 := V (Proc.devRef .tc main_v81_8)
abbrev outs : FVec Ideal S256x16x2x4x128 .f32 := V (Proc.devRef .tc main_v81_9)

/-- What a trip computes of them. -/
abbrev query : FVec Ideal S16x2x4x128 .f32 := res_main_while0b_v119 V
abbrev inNow : FVec Ideal S16x2x4 .f32 := res_main_while0b_v122 V
abbrev fadeNow : FVec Ideal S16x2x4 .f32 := res_main_while0b_v123 V
abbrev newLev : FVec Ideal S16x2x4 .f32 := res_main_while0b_v125 V
abbrev decay : FVec Ideal S16x2x4 .f32 := res_main_while0b_v128 V
abbrev weight : FVec Ideal S16x2x4x128 .f32 := res_main_while0b_v133 V
abbrev newMat : FVec Ideal S16x2x4x128x128 .f32 := res_main_while0b_v142 V
abbrev newVec : FVec Ideal S16x2x4x128 .f32 := res_main_while0b_v146 V
abbrev newOut : FVec Ideal S256x16x2x4x128 .f32 := step_main_v81_9 V

variable (hc : counter V = fun _ => BitVec.ofNat 32 k.val) (b : Fin 16) (u : Fin 2) (h : Fin 4) (d e : Fin 128)
include hc

theorem query_at : query V (ix4 b u h d) = qs V (ix5 k b u h d) := row5 k _ hc b u h d _
theorem in_at : inNow V (ix3 b u h) = ins V (ix4 k b u h) := row4 k _ hc b u h _
theorem fade_at : fadeNow V (ix3 b u h) = fades V (ix4 k b u h) := row4 k _ hc b u h _

theorem level_at : newLev V (ix3 b u h) = max (fades V (ix4 k b u h) + levs V (ix3 b u h)) (ins V (ix4 k b u h)) :=
  congrArg₂ (fun x y : EReal => max (x + levs V (ix3 b u h)) y) (fade_at V k hc b u h) (in_at V k hc b u h)

theorem decay_at : decay V (ix3 b u h)
    = Ideal.exp (fades V (ix4 k b u h) + levs V (ix3 b u h) - newLev V (ix3 b u h)) :=
  congrArg (fun x : EReal => Ideal.exp (x + levs V (ix3 b u h) - newLev V (ix3 b u h))) (fade_at V k hc b u h)

theorem weight_at : weight V (ix4 b u h d)
    = Ideal.exp (ins V (ix4 k b u h) - newLev V (ix3 b u h)) * ks V (ix5 k b u h d) := by
  refine Eq.trans ?_ (congrArg₂ (fun x y : EReal => Ideal.exp (x - newLev V (ix3 b u h)) * y) (in_at V k hc b u h)
    (row5 k _ hc b u h d (ks V)))
  unfold weight res_main_while0b_v133
  pointwise
  rfl

theorem matrix_at : newMat V (ix5 b u h d e)
    = decay V (ix3 b u h) * mats V (ix5 b u h d e) + weight V (ix4 b u h d) * vs V (ix5 k b u h e) := by
  refine Eq.trans ?_ (congrArg (fun y : EReal => decay V (ix3 b u h) * mats V (ix5 b u h d e) + weight V (ix4 b u h d) * y)
    (row5 k _ hc b u h e (vs V)))
  unfold newMat res_main_while0b_v142
  pointwise
  rfl

omit hc in
theorem vector_at : newVec V (ix4 b u h d)
    = decay V (ix3 b u h) * vecs V (ix4 b u h d) + weight V (ix4 b u h d) := by
  unfold newVec res_main_while0b_v146
  pointwise

theorem out_at (t : Fin 256) : newOut V (ix5 t b u h e)
    = if t = k then
        Ideal.div (∑ d, qs V (ix5 k b u h d) * newMat V (ix5 b u h d e))
          (max (max (∑ d, qs V (ix5 k b u h d) * newVec V (ix4 b u h d)) (-(∑ d, qs V (ix5 k b u h d) * newVec V (ix4 b u h d))))
            (Ideal.exp (-newLev V (ix3 b u h))))
      else outs V (ix5 t b u h e) := by
  unfold newOut step_main_v81_9
  refine (write_row k _ hc b u h e _ _ t).trans ?_
  refine if_congr Iff.rfl ?_ rfl
  simp only [← query_at V k hc b u h]
  pointwise
  rfl

end Trip

end Cert.MlstmRefIdeal.Layer

end
-- ==== Proof.MlEntry.lean ====
/- What the reference's recurrence is given: queries, keys, values and gates of both directions, entry by entry. -/
module

public import proofs.«01_k».proof.Proof.MlTrip

@[expose] public section

set_option maxRecDepth 16384

noncomputable section

namespace Cert.MlstmRefIdeal.Layer

open Cert.MlstmRefIdeal Cert.MlstmRefIdeal.Gen Cert.MlstmRefIdeal.Value Idealize.ShloMosaic Idealize.ShloMosaic.TcCoe Idealize.ShloMosaic.StableHlo
  Idealize.SL.Sem Cert.Layer

variable (m : (ℓ : Loc nD τ sig) → Buf (Elt Ideal) ℓ) (c : Dev nD)

/-- What the run is given. -/
abbrev given : Given where
  z r l := m ((c : Thread nD τ).loc main_arg0) (ix2 r l)
  bias j := m ((c : Thread nD τ).loc main_arg1) (ix1 j)
  w a j := m ((c : Thread nD τ).loc main_arg2) (ix2 a j)
  c j := m ((c : Thread nD τ).loc main_arg3) (ix1 j)
  norm j := m ((c : Thread nD τ).loc main_arg4) (ix1 j)

/-- The contents the recurrence starts from. -/
abbrev entry : Valuation τ sig (Elt Ideal) := entryContents preI m c

section Stack

variable {α : Type} (t : Fin 256) (b : Fin 16) (u : Fin 2) (h : Fin 4) (d : Fin 128)

theorem stack5_0 (x y : S256x16x1x4x128.Idx → α) :
    concatenate S256x16x2x4x128 2 [⟨S256x16x1x4x128, x⟩, ⟨S256x16x1x4x128, y⟩] concatenates_S256x16x1x4x128_S256x16x1x4x128_S256x16x2x4x128_d2 (ix5 t b 0 h d)
      = x (ix5 t b 0 h d) := by pointwise

theorem stack5_1 (x y : S256x16x1x4x128.Idx → α) :
    concatenate S256x16x2x4x128 2 [⟨S256x16x1x4x128, x⟩, ⟨S256x16x1x4x128, y⟩] concatenates_S256x16x1x4x128_S256x16x1x4x128_S256x16x2x4x128_d2 (ix5 t b 1 h d)
      = y (ix5 t b 0 h d) := by pointwise

theorem stack4_0 (x y : S256x16x1x4.Idx → α) :
    concatenate S256x16x2x4 2 [⟨S256x16x1x4, x⟩, ⟨S256x16x1x4, y⟩] concatenates_S256x16x1x4_S256x16x1x4_S256x16x2x4_d2 (ix4 t b 0 h)
      = x (ix4 t b 0 h) := by pointwise

theorem stack4_1 (x y : S256x16x1x4.Idx → α) :
    concatenate S256x16x2x4 2 [⟨S256x16x1x4, x⟩, ⟨S256x16x1x4, y⟩] concatenates_S256x16x1x4_S256x16x1x4_S256x16x2x4_d2 (ix4 t b 1 h)
      = y (ix4 t b 0 h) := by pointwise

theorem flipped4 (x : S256x16x4x128.Idx → α) : Host.reverse [0] x (ix4 t b h d) = x (ix4 t.rev b h d) := by pointwise; rfl
theorem flipped3 (x : S256x16x4.Idx → α) : Host.reverse [0] x (ix3 t b h) = x (ix3 t.rev b h) := by pointwise; rfl

theorem row_onward : (wayOf 0).row t.val = t := Fin.ext (Nat.mod_eq_of_lt t.isLt)
theorem row_backward : (wayOf 1).row t.val = t.rev := congrArg Fin.rev (Fin.ext (Nat.mod_eq_of_lt t.isLt))

end Stack

variable (t : Fin 256) (b : Fin 16) (u : Fin 2) (h : Fin 4) (d : Fin 128)

theorem value_eq (G : Given) (x : Fin 4096) (y : Fin 6272) (hx : x.val = b * 256 + t) (hy : y.val = 3584 + (h * 128 + d)) :
    G.z x y = G.value b h t d := congrArg₂ G.z (Fin.ext hx) (Fin.ext hy)

theorem gates_eq (G : Given) (j : Fin 16) (x : Fin 4096) (y : Fin 6272) (k : Fin 16) (hx : x.val = b * 256 + t) (hy : y.val = 5120 + j)
    (hk : k.val = j) : G.z x y + G.bias k = G.gates b t j :=
  congrArg₂ (fun p q : EReal => p + q) (congrArg₂ G.z (Fin.ext hx) (Fin.ext hy)) (congrArg G.bias (Fin.ext hk))

theorem entry_values : vs (entry m c) (ix5 t b u h d) = (given m c).value b h ((wayOf u).row t) d := by
  unfold entry vs
  simp only [entryContents, afterL_cons, afterL_nil]
  after_reads_simp
  match u with
  | 0 =>
    refine (stack5_0 t b h d _ _).trans ?_
    rw [row_onward]
    after_reads_simp
    pointwise
    exact value_eq t b h d (given m c) _ _ rfl rfl
  | 1 =>
    refine (stack5_1 t b h d _ _).trans ?_
    rw [row_backward]
    after_reads_simp
    pointwise
    simp only [TRef.toBuf, TRef.ofBuf, cast_eq]
    rw [flipped4]
    pointwise
    exact value_eq t.rev b h d (given m c) _ _ rfl rfl

theorem entry_mats (e : Fin 128) : mats (entry m c) (ix5 b u h d e) = 0 := by
  unfold entry mats
  simp only [entryContents, afterL_cons, afterL_nil]
  after_reads_simp
  exact Ideal.ofBits_zero_f32

theorem entry_vecs : vecs (entry m c) (ix4 b u h d) = 0 := by
  unfold entry vecs
  simp only [entryContents, afterL_cons, afterL_nil]
  after_reads_simp
  exact Ideal.ofBits_zero_f32

theorem entry_levs : levs (entry m c) (ix3 b u h) = 0 := by
  unfold entry levs
  simp only [entryContents, afterL_cons, afterL_nil]
  after_reads_simp
  exact Ideal.ofBits_zero_f32

theorem entry_ins : ins (entry m c) (ix4 t b u h) = (given m c).inGate b h ((wayOf u).row t) u := by
  unfold entry ins
  simp only [entryContents, afterL_cons, afterL_nil]
  after_reads_simp
  match u with
  | 0 =>
    refine (stack4_0 t b h _ _).trans ?_
    rw [row_onward]
    after_reads_simp
    pointwise
    exact gates_eq t b (given m c) _ _ _ _ rfl (by simp) (by simp)
  | 1 =>
    refine (stack4_1 t b h _ _).trans ?_
    rw [row_backward]
    after_reads_simp
    pointwise
    simp only [TRef.toBuf, TRef.ofBuf, cast_eq]
    rw [flipped3]
    pointwise
    exact gates_eq t.rev b (given m c) ⟨1 * 8 + h, by omega⟩ _ _ _ rfl rfl rfl

theorem entry_fades : fades (entry m c) (ix4 t b u h) = (given m c).forget b h ((wayOf u).row t) u := by
  unfold entry fades
  simp only [entryContents, afterL_cons, afterL_nil]
  after_reads_simp
  simp only [TRef.toBuf, TRef.ofBuf, cast_eq]
  generalize hX : concatenate S256x16x2x4 2 _ _ = X
  have e : X (ix4 t b u h) = (given m c).gates b ((wayOf u).row t) ⟨u * 8 + 4 + h, by omega⟩ := by
    rw [← hX]
    match u with
    | 0 =>
      refine (stack4_0 t b h _ _).trans ?_
      rw [row_onward]
      after_reads_simp
      pointwise
      exact gates_eq t b (given m c) ⟨0 * 8 + 4 + h, by omega⟩ _ _ _ rfl (by simp) (by simp)
    | 1 =>
      refine (stack4_1 t b h _ _).trans ?_
      rw [row_backward]
      after_reads_simp
      pointwise
      simp only [TRef.toBuf, TRef.ofBuf, cast_eq]
      rw [flipped3]
      pointwise
      exact gates_eq t.rev b (given m c) ⟨1 * 8 + 4 + h, by omega⟩ _ _ _ rfl rfl rfl
  rw [id_eq]
  pointwise
  rw [if_neg fun n => n rfl, e]
  exact logsig_eq _

theorem conv_eq (G : Given) (j : Fin 1024) (z : EReal) (hz : z = 0) (k k' : Prop) [Decidable k] [Decidable k'] (k'' : Prop) [Decidable k'']
    (x : k → EReal) (y : k' → EReal) (w : k'' → EReal)
    (hk : k ↔ t.val ≠ 0) (hk' : k') (hk'' : k'' ↔ t.val ≠ 255)
    (hx : ∀ p (e : b.val * 256 + (t.val - 1) < 4096), x p = G.z ⟨b * 256 + (t - 1), e⟩ ⟨2560 + j, by omega⟩)
    (hy : ∀ p, y p = G.z ⟨b * 256 + t, by omega⟩ ⟨2560 + j, by omega⟩)
    (hw : ∀ p (e : b.val * 256 + (2 + t.val - 1) < 4096), w p = G.z ⟨b * 256 + (2 + t - 1), e⟩ ⟨2560 + j, by omega⟩) :
    (if p : k then x p else z) * G.w 0 j + (if p : k' then y p else z) * G.w 1 j + (if p : k'' then w p else z) * G.w 2 j + G.c j
      = conv (fun s => G.z ⟨b * 256 + s, by omega⟩ ⟨2560 + j, by omega⟩) (fun a => G.w a j) (G.c j) t := by
  subst hz
  unfold conv
  refine congrArg₂ (fun p q : EReal => p + q) (congrArg₂ (fun p q : EReal => p + q) (congrArg₂ (fun p q : EReal => p + q) ?_ ?_) ?_) rfl
  · by_cases e : t.val = 0
    · rw [dif_neg fun p => hk.mp p e, if_pos e, zero_mul]
    · rw [dif_pos (hk.mpr e), if_neg e, hx _ (by omega)]
      refine congrArg (fun p : EReal => p * G.w 0 j) (congrArg₂ G.z (Fin.ext ?_) rfl)
      show b.val * 256 + (t.val - 1) = b.val * 256 + (t.val + 256 - 1) % 256
      omega
  · rw [dif_pos hk', hy]
  · by_cases e : t.val = 255
    · rw [dif_neg fun p => hk''.mp p e, if_pos e, zero_mul]
    · rw [dif_pos (hk''.mpr e), if_neg e, hw _ (by omega)]
      refine congrArg (fun p : EReal => p * G.w 2 j) (congrArg₂ G.z (Fin.ext ?_) rfl)
      show b.val * 256 + (2 + t.val - 1) = b.val * 256 + (t.val + 256 - 255) % 256
      omega

theorem sitofp_zero : (FloatOps.sitofp FTy.f32 0#32 : Ideal .f32) = (0 : EReal) := by
  show ((((0#32 : BitVec 32).toInt : ℤ) : ℝ) : EReal) = 0
  simp

theorem entry_queries : qs (entry m c) (ix5 t b u h d) = (given m c).query b h ((wayOf u).row t) d := by
  unfold entry qs
  simp only [entryContents, afterL_cons, afterL_nil]
  after_reads_simp
  match u with
  | 0 =>
    refine (stack5_0 t b h d _ _).trans ?_
    rw [row_onward]
    after_reads_simp
    simp only [TRef.toBuf, TRef.ofBuf, cast_eq]
    pointwise
    exact congrArg gate (conv_eq t b (given m c) ⟨h * 128 + d, by omega⟩ _ sitofp_zero _ _ _ _ _ _ (by omega) (by omega) (by omega)
      (fun _ _ => rfl) (fun _ => rfl) (fun _ _ => rfl))
  | 1 =>
    refine (stack5_1 t b h d _ _).trans ?_
    rw [row_backward]
    after_reads_simp
    pointwise
    simp only [TRef.toBuf, TRef.ofBuf, cast_eq]
    rw [flipped4]
    pointwise
    exact congrArg gate (conv_eq t.rev b (given m c) ⟨h * 128 + d, by omega⟩ _ sitofp_zero _ _ _ _ _ _ (by omega) (by omega) (by omega)
      (fun _ _ => rfl) (fun _ => rfl) (fun _ _ => rfl))

theorem entry_keys : ks (entry m c) (ix5 t b u h d) = (given m c).key b h ((wayOf u).row t) d := by
  unfold entry ks
  simp only [entryContents, afterL_cons, afterL_nil]
  after_reads_simp
  match u with
  | 0 =>
    refine (stack5_0 t b h d _ _).trans ?_
    rw [row_onward]
    after_reads_simp
    simp only [TRef.toBuf, TRef.ofBuf, cast_eq]
    pointwise
    exact congrArg (fun g => gate g * Ideal.ofBits .f32 0x3DB504F3#32) (conv_eq t b (given m c) ⟨512 + (h * 128 + d), by omega⟩ _ sitofp_zero _ _ _ _ _ _ (by omega) (by omega) (by omega)
      (fun _ _ => rfl) (fun _ => rfl) (fun _ _ => rfl))
  | 1 =>
    refine (stack5_1 t b h d _ _).trans ?_
    rw [row_backward]
    after_reads_simp
    pointwise
    simp only [TRef.toBuf, TRef.ofBuf, cast_eq]
    rw [flipped4]
    pointwise
    exact congrArg (fun g => gate g * Ideal.ofBits .f32 0x3DB504F3#32) (conv_eq t.rev b (given m c) ⟨512 + (h * 128 + d), by omega⟩ _ sitofp_zero _ _ _ _ _ _ (by omega) (by omega) (by omega)
      (fun _ _ => rfl) (fun _ => rfl) (fun _ _ => rfl))

end Cert.MlstmRefIdeal.Layer

end
-- ==== Proof.MlRef.lean ====
/- The reference's recurrence after any number of tokens, and its four results, entry by entry. -/
module

public import proofs.«01_k».proof.Proof.MlEntry

@[expose] public section

set_option maxRecDepth 16384

noncomputable section

namespace Cert.MlstmRefIdeal.Layer

open Cert.MlstmRefIdeal Cert.MlstmRefIdeal.Gen Cert.MlstmRefIdeal.Value Idealize.ShloMosaic Idealize.ShloMosaic.TcCoe Idealize.ShloMosaic.StableHlo
  Idealize.SL.Sem Cert.Layer

theorem of_real {y : EReal} (h : ∃ x : ℝ, y = x) : y = ((y.toReal : ℝ) : EReal) := by
  obtain ⟨x, rfl⟩ := h
  rw [EReal.toReal_coe]

theorem coe_max (x y : ℝ) : max (x : EReal) (y : EReal) = ((max x y : ℝ) : EReal) := (EReal.coe_strictMono.monotone.map_max).symm

variable (m : (ℓ : Loc nD τ sig) → Buf (Elt Ideal) ℓ) (c : Dev nD)

/-- The contents after `k` tokens. -/
def upTo (k : ℕ) : Valuation τ sig (Elt Ideal) := STEP^[k] (entry m c)

theorem upTo_eq (k : ℕ) : upTo m c k = STEP^[k] (entry m c) := rfl

theorem upTo_zero : upTo m c 0 = entry m c := rfl

theorem upTo_succ (k : ℕ) : upTo m c (k + 1) = STEP (upTo m c k) := Function.iterate_succ_apply' _ _ _

theorem upTo_arg0 (k : ℕ) : upTo m c k (Proc.devRef .tc main_arg0) = m ((c.tc : Thread nD τ).loc main_arg0) := iter_main_arg0 m c k

theorem upTo_arg4 (k : ℕ) : upTo m c k (Proc.devRef .tc main_arg4) = m ((c.tc : Thread nD τ).loc main_arg4) := iter_main_arg4 m c k

attribute [irreducible] upTo

theorem kept_qs : ∀ k, qs (upTo m c k) = qs (entry m c)
  | 0 => by rw [upTo_zero]
  | k + 1 => by unfold qs; rw [upTo_succ]; exact (STEP_main_v81_0 _).trans (kept_qs k)
theorem kept_ks : ∀ k, ks (upTo m c k) = ks (entry m c)
  | 0 => by rw [upTo_zero]
  | k + 1 => by unfold ks; rw [upTo_succ]; exact (STEP_main_v81_1 _).trans (kept_ks k)
theorem kept_vs : ∀ k, vs (upTo m c k) = vs (entry m c)
  | 0 => by rw [upTo_zero]
  | k + 1 => by unfold vs; rw [upTo_succ]; exact (STEP_main_v81_2 _).trans (kept_vs k)
theorem kept_ins : ∀ k, ins (upTo m c k) = ins (entry m c)
  | 0 => by rw [upTo_zero]
  | k + 1 => by unfold ins; rw [upTo_succ]; exact (STEP_main_v81_3 _).trans (kept_ins k)
theorem kept_fades : ∀ k, fades (upTo m c k) = fades (entry m c)
  | 0 => by rw [upTo_zero]
  | k + 1 => by unfold fades; rw [upTo_succ]; exact (STEP_main_v81_4 _).trans (kept_fades k)

theorem counter_at : ∀ k, counter (upTo m c k) = fun _ => BitVec.ofNat 32 k
  | 0 => by rw [upTo_zero]; exact ctr_entry m c
  | k + 1 => by
    have ih := counter_at k
    unfold counter at ih ⊢
    rw [upTo_succ, STEP_main_v81_5]
    unfold step_main_v81_5
    rw [ih]
    funext _
    exact (BitVec.ofNat_add (n := 32) k 1).symm

variable (H : (given m c).Finite) (b : Fin 16) (u : Fin 2) (h : Fin 4) (d e : Fin 128)

section Real

include H
variable (k : ℕ) (hk : k < 256)

theorem in_real : ins (upTo m c k) (ix4 ⟨k, hk⟩ b u h) = (((given m c).ins b h u k : ℝ) : EReal) := by
  rw [kept_ins]; exact (entry_ins m c ⟨k, hk⟩ b u h).trans (of_real (H.inGate _ _ _ _))
theorem fade_real : fades (upTo m c k) (ix4 ⟨k, hk⟩ b u h) = (((given m c).fades b h u k : ℝ) : EReal) := by
  rw [kept_fades]; exact (entry_fades m c ⟨k, hk⟩ b u h).trans (of_real (H.forget _ _ _ _))
theorem key_real : ks (upTo m c k) (ix5 ⟨k, hk⟩ b u h d) = (((given m c).keys b h d u k : ℝ) : EReal) := by
  rw [kept_ks]; exact (entry_keys m c ⟨k, hk⟩ b u h d).trans (of_real (H.key _ _ _ _))
theorem value_real : vs (upTo m c k) (ix5 ⟨k, hk⟩ b u h e) = (((given m c).values b h u e k : ℝ) : EReal) := by
  rw [kept_vs]; exact (entry_values m c ⟨k, hk⟩ b u h e).trans (of_real (H.value _ _ _ _))
theorem query_real : qs (upTo m c k) (ix5 ⟨k, hk⟩ b u h d) = (((given m c).queries b h ((wayOf u).row k) d : ℝ) : EReal) := by
  rw [kept_qs]; exact (entry_queries m c ⟨k, hk⟩ b u h d).trans (of_real (H.query _ _ _ _))

end Real

/-- What the carried arrays hold after `k` tokens. -/
structure Holds (k : ℕ) : Prop where
  level : ∀ b u h, levs (upTo m c k) (ix3 b u h) = ((level ((given m c).ins b h u) ((given m c).fades b h u) k : ℝ) : EReal)
  matrix : ∀ b u h d e, mats (upTo m c k) (ix5 b u h d e)
    = ((store ((given m c).ins b h u) ((given m c).fades b h u) (fun n => (given m c).keys b h d u n * (given m c).values b h u e n) k : ℝ) : EReal)
  vector : ∀ b u h d, vecs (upTo m c k) (ix4 b u h d)
    = ((store ((given m c).ins b h u) ((given m c).fades b h u) (fun n => (given m c).keys b h d u n * 1) k : ℝ) : EReal)
  out : ∀ (t : Fin 256), t.val < k → ∀ b u h e, outs (upTo m c k) (ix5 t b u h e)
    = recollect ((given m c).ins b h u) ((given m c).fades b h u) ((given m c).queries b h ((wayOf u).row t)) (fun d => (given m c).keys b h d u)
      ((given m c).values b h u e) (t + 1)

include H

section Step

variable (k : ℕ) (hk : k < 256) (S : Holds m c k)
include hk S

theorem level_step : newLev (upTo m c k) (ix3 b u h) = ((level ((given m c).ins b h u) ((given m c).fades b h u) (k + 1) : ℝ) : EReal) := by
  rw [level_at _ ⟨k, hk⟩ (counter_at m c k), fade_real m c H b u h k hk, in_real m c H b u h k hk, S.level, ← EReal.coe_add, coe_max]
  rfl

theorem decay_step : decay (upTo m c k) (ix3 b u h)
    = ((Real.exp ((given m c).fades b h u k + level ((given m c).ins b h u) ((given m c).fades b h u) k
        - level ((given m c).ins b h u) ((given m c).fades b h u) (k + 1)) : ℝ) : EReal) := by
  rw [decay_at _ ⟨k, hk⟩ (counter_at m c k), fade_real m c H b u h k hk, S.level, level_step m c H b u h k hk S, ← EReal.coe_add, ← EReal.coe_sub,
    Ideal.exp_coe]

theorem weight_step : weight (upTo m c k) (ix4 b u h d)
    = ((Real.exp ((given m c).ins b h u k - level ((given m c).ins b h u) ((given m c).fades b h u) (k + 1)) * (given m c).keys b h d u k : ℝ) : EReal) := by
  rw [weight_at _ ⟨k, hk⟩ (counter_at m c k), in_real m c H b u h k hk, level_step m c H b u h k hk S, key_real m c H b u h d k hk, ← EReal.coe_sub,
    Ideal.exp_coe, ← EReal.coe_mul]

theorem matrix_step : newMat (upTo m c k) (ix5 b u h d e)
    = ((store ((given m c).ins b h u) ((given m c).fades b h u) (fun n => (given m c).keys b h d u n * (given m c).values b h u e n) (k + 1) : ℝ) : EReal) := by
  rw [matrix_at _ ⟨k, hk⟩ (counter_at m c k), decay_step m c H b u h k hk S, S.matrix, weight_step m c H b u h d k hk S, value_real m c H b u h e k hk,
    ← EReal.coe_mul, ← EReal.coe_mul, ← EReal.coe_add, mul_assoc (Real.exp _) (Given.keys _ _ _ _ _ _)]
  rfl

theorem vector_step : newVec (upTo m c k) (ix4 b u h d)
    = ((store ((given m c).ins b h u) ((given m c).fades b h u) (fun n => (given m c).keys b h d u n * 1) (k + 1) : ℝ) : EReal) := by
  rw [vector_at, decay_step m c H b u h k hk S, S.vector, weight_step m c H b u h d k hk S, ← EReal.coe_mul, ← EReal.coe_add,
    ← mul_one (Given.keys _ _ _ _ _ _)]
  rfl

theorem out_step (t : Fin 256) (ht : t.val < k + 1) : newOut (upTo m c k) (ix5 t b u h e)
    = recollect ((given m c).ins b h u) ((given m c).fades b h u) ((given m c).queries b h ((wayOf u).row t)) (fun d => (given m c).keys b h d u)
      ((given m c).values b h u e) (t + 1) := by
  rw [out_at _ ⟨k, hk⟩ (counter_at m c k)]
  by_cases ek : t = ⟨k, hk⟩
  · subst ek
    rw [if_pos rfl, level_step m c H b u h k hk S,
      sum_real (fun d => (given m c).queries b h ((wayOf u).row k) d
        * store ((given m c).ins b h u) ((given m c).fades b h u) (fun n => (given m c).keys b h d u n * (given m c).values b h u e n) (k + 1))
        fun d => by rw [query_real m c H b u h d k hk, matrix_step m c H b u h d e k hk S, ← EReal.coe_mul],
      sum_real (fun d => (given m c).queries b h ((wayOf u).row k) d
        * store ((given m c).ins b h u) ((given m c).fades b h u) (fun n => (given m c).keys b h d u n * 1) (k + 1))
        fun d => by rw [query_real m c H b u h d k hk, vector_step m c H b u h d k hk S, ← EReal.coe_mul]]
    rfl
  · rw [if_neg ek]
    exact S.out t (lt_of_le_of_ne (by omega) fun n => ek (Fin.ext n)) b u h e

theorem next : Holds m c (k + 1) where
  level b u h := by unfold levs; rw [upTo_succ, STEP_main_v81_8]; exact level_step m c H b u h k hk S
  matrix b u h d e := by unfold mats; rw [upTo_succ, STEP_main_v81_6]; exact matrix_step m c H b u h d e k hk S
  vector b u h d := by unfold vecs; rw [upTo_succ, STEP_main_v81_7]; exact vector_step m c H b u h d k hk S
  out t ht b u h e := by unfold outs; rw [upTo_succ, STEP_main_v81_9]; exact out_step m c H b u h e k hk S t ht

end Step

theorem holds : ∀ k ≤ 256, Holds m c k
  | 0, _ => {
      level := fun b u h => by rw [upTo_zero]; exact entry_levs m c b u h
      matrix := fun b u h d e => by rw [upTo_zero]; exact entry_mats m c b u h d e
      vector := fun b u h d => by rw [upTo_zero]; exact entry_vecs m c b u h d
      out := fun _ ht => absurd ht (Nat.not_lt_zero _) }
  | k + 1, hk => next m c H k hk (holds k (by omega))

/-! ## The results -/

/-- What a token recalls in a direction, at the place it was written. -/
theorem out_onward (r : Fin 256) : outs (upTo m c 256) (ix5 r b 0 h e) = (given m c).recalled b h r 0 e := by
  rw [(holds m c H 256 le_rfl).out r r.isLt, row_onward]
  rfl

theorem out_backward (r : Fin 256) : outs (upTo m c 256) (ix5 r.rev b 1 h e) = (given m c).recalled b h r 1 e := by
  rw [(holds m c H 256 le_rfl).out r.rev r.rev.isLt, row_backward, Fin.rev_rev]
  rfl

theorem resultMatrix : (upTo m c 256) (Proc.devRef .tc main_v81_6) = fun x : S16x2x4x128x128.Idx => (given m c).matrix (x 0) (x 2) (x 3) (x 1) (x 4) := by
  funext x
  rw [eq_ix5 x]
  exact (holds m c H 256 le_rfl).matrix _ _ _ _ _

theorem resultVector : out_main_v116 (upTo m c 256) = fun x : S16x4x2x128.Idx => (given m c).vector (x 0) (x 1) (x 3) (x 2) := by
  funext x
  rw [eq_ix4 x]
  refine Eq.trans ?_ ((holds m c H 256 le_rfl).vector (x 0) (x 2) (x 1) (x 3))
  unfold out_main_v116
  pointwise

theorem resultLevel : out_main_v118 (upTo m c 256) = fun x : S16x4x2x1.Idx => (given m c).lastLevel (x 0) (x 1) (x 2) := by
  funext x
  rw [eq_ix4 x]
  refine Eq.trans ?_ ((holds m c H 256 le_rfl).level (x 0) (x 2) (x 1))
  unfold out_main_v118
  pointwise

omit H in
theorem shape_output : (Proc.devRef .tc main_v115 : DevRef τ sig).ty.shape = S4096x512 := rfl

omit H in
theorem output_of (V : Valuation τ sig (Elt Ideal)) (z : FVec Ideal S4096x6272 .f32) (w : FVec Ideal S512 .f32)
    (hz : V (Proc.devRef .tc main_arg0) = z) (hw : V (Proc.devRef .tc main_arg4) = w) (p : Fin 4096) (l : Fin 512) : out_main_v115 V (ix2 p l)
    = normed (fun x => outs V (ix5 ⟨p % 256, by omega⟩ ⟨p / 256, by omega⟩ 0 ⟨l / 128, by omega⟩ x)
          + outs V (ix5 (Fin.rev ⟨p % 256, by omega⟩) ⟨p / 256, by omega⟩ 1 ⟨l / 128, by omega⟩ x))
        (fun _ => w (ix1 l)) ⟨l % 128, by omega⟩
      * Ideal.div 1 (1 + Ideal.exp (-z (ix2 p ⟨4096 + l, by omega⟩))) * gate (z (ix2 p ⟨4608 + l, by omega⟩)) := by
  unfold out_main_v115
  rw [hz, hw]
  dsimp only [shape_output]
  pointwise
  rfl

theorem output_at (p : Fin 4096) (l : Fin 512) : out_main_v115 (upTo m c 256) (ix2 p l)
    = (given m c).output ⟨p / 256, by omega⟩ ⟨l / 128, by omega⟩ ⟨p % 256, by omega⟩ ⟨l % 128, by omega⟩ := by
  rw [output_of _ _ _ (upTo_arg0 m c 256) (upTo_arg4 m c 256)]
  have row : (⟨p.val / 256 * 256 + p.val % 256, by omega⟩ : Fin 4096) = p := Fin.ext (by show p.val / 256 * 256 + p.val % 256 = p.val; omega)
  have lane : l.val / 128 * 128 + l.val % 128 = l.val := by omega
  unfold Given.output normed
  simp only [out_onward m c H, out_backward m c H, row, lane]

end Cert.MlstmRefIdeal.Layer

end
-- ==== Proof.MlFinite.lean ====
/- What the mLSTM's precondition says: its queries, keys, values and gates are real numbers. -/
module

public import proofs.«01_k».proof.Pre_finite_ml
public import proofs.«01_k».proof.Proof.Memory
public import proofs.«01_k».proof.Proof.AttnFinite

@[expose] public section

set_option maxRecDepth 16384

noncomputable section

namespace Cert.Pre_finite_ml.Layer

open Cert.Pre_finite_ml Idealize.ShloMosaic Cert.Layer Cert.Pre_finite.Layer

/-- The predicate's shapes fit. -/
theorem fits : Cert.Pre_finite_ml.Facts where
  slices_S4096x6272_S4096x1536_0_2560 := by decide
  shapeCasts_S4096x1536_S4096x96x16 := by decide
  bcast_S_S4096x96x16 := by decide
  slices_S4096x6272_S4096x16_0_5120 := by decide
  bcast_S4096x16_S4096x1x16_0_2 := by decide
  bcast_S_S4096x1x16 := by decide
  bcast_S4096x1x16_S4096x96x16_0_1_2 := by decide
  bcast_S_S16 := by decide
  bcast_S16_S1x1x16_2 := by decide
  bcast_S1x1x16_S4096x96x16_0_1_2 := by decide
  reducesTo_S3x1024_S_d0_1 := by decide
  h_S_ := by decide
  reducesTo_S1024_S_d0 := by decide

/-- Whether a number's absolute value is less than infinity. -/
def small (a : EReal) : BitVec 1 := BitVec.ofBool (decide (max a (-a) < Ideal.ofBits .f32 0x7F800000#32))

/-- The largest absolute value. -/
def largest {ι : Type} [Fintype ι] (f : ι → EReal) : EReal :=
  Finset.univ.fold max (Ideal.ofBits .f32 0xFF800000#32) fun i => max (f i) (-f i)

theorem fn_at [Facts] (z : FVec Ideal S4096x6272 .f32) (bias : FVec Ideal S16 .f32) (w : FVec Ideal S3x1024 .f32) (k : FVec Ideal S1024 .f32)
    (n : FVec Ideal S512 .f32) (r : Fin 4096) (h : Fin 96) (e : Fin 16) : Cert.Pre_finite_ml.fn z bias w k n (ix3 r h e)
      = IntOp.andi (IntOp.andi (IntOp.andi (IntOp.andi (small (z (ix2 r ⟨2560 + (h * 16 + e), by omega⟩))) (small (z (ix2 r ⟨5120 + e, by omega⟩))))
          (small (bias (ix1 e)))) (small (largest fun i : Fin 3 × Fin 1024 => w (ix2 i.1 i.2)))) (small (largest fun i : Fin 1024 => k (ix1 i))) := by
  pointwise [Cert.Pre_finite_ml.fn, Cert.Pre_finite_ml.fn_part1]
  rfl

theorem real_of_small {a : EReal} (h : small a = 1#1) : ∃ x : ℝ, a = x := real_of_abs (less h)

theorem real_of_largest {ι : Type} [Fintype ι] {f : ι → EReal} (h : small (largest f) = 1#1) (i : ι) : ∃ x : ℝ, f i = x := by
  obtain ⟨y, hy⟩ := real_of_small h
  refine real_of_abs (lt_of_le_of_lt ((Finset.le_fold_max _).mpr (Or.inr ⟨i, Finset.mem_univ i, le_rfl⟩) : _ ≤ largest f) ?_)
  show largest f < _
  rw [hy, bits_top]
  exact EReal.coe_lt_top y

theorem real_of_fn [Facts] {z : FVec Ideal S4096x6272 .f32} {bias : FVec Ideal S16 .f32} {w : FVec Ideal S3x1024 .f32} {k : FVec Ideal S1024 .f32}
    {n : FVec Ideal S512 .f32} (hf : Cert.Pre_finite_ml.fn z bias w k n = fun _ => 1#1) :
    (∀ (r : Fin 4096) (l : Fin 6272), 2560 ≤ l.val → l.val < 4096 → ∃ x : ℝ, z (ix2 r l) = x)
      ∧ (∀ (r : Fin 4096) (j : Fin 16), ∃ x : ℝ, z (ix2 r ⟨5120 + j, by omega⟩) = x) ∧ (∀ j : Fin 16, ∃ x : ℝ, bias (ix1 j) = x)
      ∧ (∀ (a : Fin 3) (j : Fin 1024), ∃ x : ℝ, w (ix2 a j) = x) ∧ ∀ j : Fin 1024, ∃ x : ℝ, k (ix1 j) = x := by
  have hb := fun r h e => both ((fn_at z bias w k n r h e).symm.trans (congrFun hf _))
  refine ⟨fun r l hl hl' => ?_, fun r j => real_of_small (both (both (both (hb r 0 j).1).1).1).2, fun j => real_of_small (both (both (hb 0 0 j).1).1).2,
    fun a j => real_of_largest (both (hb 0 0 0).1).2 (a, j), fun j => real_of_largest (hb 0 0 0).2 j⟩
  obtain ⟨x, hx⟩ := real_of_small (both (both (both (hb r ⟨(l.val - 2560) / 16, by omega⟩ ⟨(l.val - 2560) % 16, by omega⟩).1).1).1).1
  refine ⟨x, Eq.trans (congrArg (fun q => z (ix2 r q)) (Fin.ext ?_)) hx⟩
  show l.val = 2560 + ((l.val - 2560) / 16 * 16 + (l.val - 2560) % 16)
  omega

/-- The gate of a real is a real. -/
theorem gate_real (x : ℝ) : ∃ y : ℝ, gate (x : EReal) = (y : EReal) := by
  refine ⟨x * (1 / (1 + Real.exp (-x))), ?_⟩
  rw [gate, ← EReal.coe_neg, Ideal.exp_coe, ← EReal.coe_one, ← EReal.coe_add, Ideal.div_coe (by positivity), ← EReal.coe_mul, ← EReal.coe_mul, one_mul]

theorem add_real {a b : EReal} (ha : ∃ x : ℝ, a = x) (hb : ∃ x : ℝ, b = x) : ∃ x : ℝ, a + b = x := by
  obtain ⟨x, rfl⟩ := ha
  obtain ⟨y, rfl⟩ := hb
  exact ⟨x + y, (EReal.coe_add x y).symm⟩

theorem mul_real {a b : EReal} (ha : ∃ x : ℝ, a = x) (hb : ∃ x : ℝ, b = x) : ∃ x : ℝ, a * b = x := by
  obtain ⟨x, rfl⟩ := ha
  obtain ⟨y, rfl⟩ := hb
  exact ⟨x * y, (EReal.coe_mul x y).symm⟩

theorem zero_or_real {p : Prop} [Decidable p] {a : EReal} (h : ∃ x : ℝ, a = x) : ∃ x : ℝ, (if p then 0 else a) = x := by
  split
  · exact ⟨0, rfl⟩
  · exact h

theorem conv_real {x : Fin 256 → EReal} {w : Fin 3 → EReal} {c : EReal} (hx : ∀ s, ∃ y : ℝ, x s = y) (hw : ∀ a, ∃ y : ℝ, w a = y)
    (hc : ∃ y : ℝ, c = y) (r : Fin 256) : ∃ y : ℝ, conv x w c r = y :=
  add_real (add_real (add_real (zero_or_real (mul_real (hx _) (hw 0))) (mul_real (hx r) (hw 1))) (zero_or_real (mul_real (hx _) (hw 2)))) hc

theorem logsig_real {a : EReal} (ha : ∃ x : ℝ, a = x) : ∃ x : ℝ, logsig a = x := by
  obtain ⟨x, rfl⟩ := ha
  obtain ⟨y, hy⟩ := soft_real (x : EReal)
  refine ⟨min x 0 - y, ?_⟩
  rw [logsig, hy, EReal.coe_sub, EReal.coe_strictMono.monotone.map_min]
  rfl

/-- Where the columns the memory reads, the gates' bias and the convolution are real, so are the queries, keys, values and gates. -/
theorem given_finite (G : Given) (hz : ∀ (r : Fin 4096) (l : Fin 6272), 2560 ≤ l.val → l.val < 4096 → ∃ x : ℝ, G.z r l = x)
    (hg : ∀ (r : Fin 4096) (j : Fin 16), ∃ x : ℝ, G.z r ⟨5120 + j, by omega⟩ = x) (hb : ∀ j, ∃ x : ℝ, G.bias j = x)
    (hw : ∀ a j, ∃ x : ℝ, G.w a j = x) (hc : ∀ j, ∃ x : ℝ, G.c j = x) : G.Finite := by
  have mixed : ∀ b r j, ∃ x : ℝ, G.mixed b r j = x := fun b r j => by
    obtain ⟨y, hy⟩ := conv_real (x := fun s => G.z ⟨b * 256 + s, by omega⟩ ⟨2560 + j, by omega⟩) (w := fun a => G.w a j) (c := G.c j)
      (fun s => hz _ _ (by show 2560 ≤ 2560 + j.val; omega) (by show 2560 + j.val < 4096; omega)) (fun a => hw a j) (hc j) r
    unfold Given.mixed
    rw [hy]
    exact gate_real y
  have gates : ∀ b r j, ∃ x : ℝ, G.gates b r j = x := fun b r j => add_real (hg _ j) (hb j)
  exact {
    query := fun b h r d => mixed b r _
    key := fun b h r d => mul_real (mixed b r _) bits_scale
    value := fun b h r d => hz _ _ (by show 2560 ≤ 3584 + (h.val * 128 + d.val); omega) (by show 3584 + (h.val * 128 + d.val) < 4096; omega)
    inGate := fun b h r u => gates b r _
    forget := fun b h r u => logsig_real (gates b r _) }

end Cert.Pre_finite_ml.Layer

end
-- ==== Proof.MlClaim.lean ====
/- The mLSTM: where its queries, keys, values and gates are real, the kernel, a sequence at once, and the reference, token by token, end
   with the same four results. -/
module

public import proofs.«01_k».proof.Defs
public import proofs.«01_k».proof.Proof.MlValue
public import proofs.«01_k».proof.Proof.MlRef
public import proofs.«01_k».proof.Proof.MlFinite

@[expose] public section

set_option maxRecDepth 16384

noncomputable section

namespace Cert.MlstmIdeal.Layer

open Idealize.ShloMosaic Idealize.SL.Sem Cert.Layer

/-- What five arrays give the memory. -/
abbrev givenOf (z : FVec Ideal S4096x6272 .f32) (bias : FVec Ideal S16 .f32) (w : FVec Ideal S3x1024 .f32) (k : FVec Ideal S1024 .f32)
    (n : FVec Ideal S512 .f32) : Given where
  z r l := z (ix2 r l)
  bias j := bias (ix1 j)
  w a j := w (ix2 a j)
  c j := k (ix1 j)
  norm j := n (ix1 j)

/-- Under the precondition they give it reals. -/
theorem finite (z : FVec Ideal S4096x6272 .f32) (bias : FVec Ideal S16 .f32) (w : FVec Ideal S3x1024 .f32) (k : FVec Ideal S1024 .f32)
    (n : FVec Ideal S512 .f32) (hf : haveI := Cert.Pre_finite_ml.Layer.fits; Cert.Pre_finite_ml.fn (F := Ideal) z bias w k n = fun _ => 1#1) :
    (givenOf z bias w k n).Finite := by
  haveI := Cert.Pre_finite_ml.Layer.fits
  obtain ⟨hz, hg, hb, hw, hk⟩ := Cert.Pre_finite_ml.Layer.real_of_fn hf
  exact Cert.Pre_finite_ml.Layer.given_finite _ hz hg hb hw hk

/-- Arguments that agree give both programs' memories the same. -/
theorem same_given {m' : (ℓ : Loc Cert.MlstmRefIdeal.nD Cert.MlstmRefIdeal.τ Cert.MlstmRefIdeal.sig) → Buf (Elt Ideal) ℓ} {c : Dev Cert.MlstmIdeal.nD}
    {z : FVec Ideal S4096x6272 .f32} {bias : FVec Ideal S16 .f32} {w : FVec Ideal S3x1024 .f32} {k : FVec Ideal S1024 .f32} {n : FVec Ideal S512 .f32}
    (h0 : m' (c.tc.loc Cert.MlstmRefIdeal.main_arg0) = z) (h1 : m' (c.tc.loc Cert.MlstmRefIdeal.main_arg1) = bias)
    (h2 : m' (c.tc.loc Cert.MlstmRefIdeal.main_arg2) = w) (h3 : m' (c.tc.loc Cert.MlstmRefIdeal.main_arg3) = k)
    (h4 : m' (c.tc.loc Cert.MlstmRefIdeal.main_arg4) = n) : Cert.MlstmRefIdeal.Layer.given m' c = givenOf z bias w k n := by
  subst h0 h1 h2 h3 h4
  rfl

/-- The reference's output, as an array. -/
theorem ref_output (m' : (ℓ : Loc Cert.MlstmRefIdeal.nD Cert.MlstmRefIdeal.τ Cert.MlstmRefIdeal.sig) → Buf (Elt Ideal) ℓ) (c : Dev Cert.MlstmRefIdeal.nD)
    (H : (Cert.MlstmRefIdeal.Layer.given m' c).Finite) :
    Cert.MlstmRefIdeal.Value.out_main_v115 (Cert.MlstmRefIdeal.Layer.upTo m' c 256) = outputs (Cert.MlstmRefIdeal.Layer.given m' c) := by
  funext x
  rw [eq_ix2 x]
  exact Cert.MlstmRefIdeal.Layer.output_at m' c H (x 0) (x 1)

/-- Both programs end with the gated output, the memory's matrix, vector and level, and neither changes an argument. -/
theorem algebraic : Cert.algebraic_MlstmIdeal_MlstmRefIdeal_pre_finite_ml (hMlstmIdeal := Cert.MlstmIdeal.Gen.facts)
    (hMlstmRefIdeal := Cert.MlstmRefIdeal.Gen.facts) (hPre_finite_ml := Cert.Pre_finite_ml.Layer.fits) := by
  intro m g m' g' hpre hagree
  have H : ∀ c, (given m c).Finite := fun c => finite _ _ _ _ _ (hpre c)
  have same : ∀ c, Cert.MlstmRefIdeal.Layer.given m' c = given m c := fun c =>
    have ⟨h0, h1, h2, h3, h4⟩ := hagree c
    same_given h0 h1 h2 h3 h4
  have H' : ∀ c, (Cert.MlstmRefIdeal.Layer.given m' c).Finite := fun c => (same c).symm ▸ H c
  refine ⟨fun c => outputs (given m c), fun c => matrices (given m c), fun c => vectors (given m c), fun c => levels (given m c), ?_, ?_⟩
  · exact (θ_run _ _ _).mono (fun r h c => ⟨(h c).1.trans (resultOutput m c (H c)), (h c).2.1.trans (resultMatrix m c (H c)),
      (h c).2.2.1.trans (resultVector m c (H c)), (h c).2.2.2.1.trans (resultLevel m c (H c)), (h c).2.2.2.2⟩) (Cert.MlstmIdeal.Value.run_blocks m g)
  · refine (θ_run _ _ _).mono (fun r h c => ?_) (Cert.MlstmRefIdeal.Value.run m' g')
    have hc := h c
    rw [← Cert.MlstmRefIdeal.Layer.upTo_eq m' c 256] at hc
    exact ⟨hc.1.trans ((ref_output m' c (H' c)).trans (congrArg outputs (same c))),
      hc.2.1.trans ((Cert.MlstmRefIdeal.Layer.resultMatrix m' c (H' c)).trans (congrArg matrices (same c))),
      hc.2.2.1.trans ((Cert.MlstmRefIdeal.Layer.resultVector m' c (H' c)).trans (congrArg vectors (same c))),
      hc.2.2.2.1.trans ((Cert.MlstmRefIdeal.Layer.resultLevel m' c (H' c)).trans (congrArg levels (same c))), hc.2.2.2.2⟩

end Cert.MlstmIdeal.Layer

end
-- ==== Proof.SampleValue.lean ====
/- The output projection of the sample batch: the same three products, with the gate of each sequence. -/
module

public import proofs.«01_k».proof.Proof.Gen.OutProjSampleIdeal.Value
public import proofs.«01_k».proof.Proof.Gen.OutProjSampleRefIdeal.Run
public import proofs.«01_k».proof.Proof.OutProjValue
public import Idealize.ShloMosaic.Lib.Pointwise
public import Idealize.ShloMosaic.Lib.Pipeline.ValueKit

@[expose] public section

set_option maxRecDepth 16384

noncomputable section

namespace Cert.OutProjSampleIdeal.Layer

open Cert.OutProjSampleIdeal Cert.OutProjSampleIdeal.Gen Idealize.ShloMosaic Idealize.ShloMosaic.TcCoe Idealize.SL.Sem
open Idealize.ShloMosaic.Pipeline (Dat)

/-- The residual stream after the projection, as the reference states it: a sequence is 1024 rows, and its gate is a row of
    the modulation. -/
def merged (oa : FVec Ideal S4096x1024 .bf16) (om ofo : FVec Ideal S4096x512 .bf16) (w : FVec Ideal S2x2048x2048 .f32)
    (x : FVec Ideal S4096x2048 .f32) (md : FVec Ideal S8x6144 .f32) : FVec Ideal S4096x2048 .f32 :=
  shapeCast _ (addf (shapeCast _ x Cert.OutProjSampleRefIdeal.Gen.shapeCasts_S4096x2048_S4x1024x2048)
    (mulf (broadcastInDim Cert.OutProjSampleRefIdeal.S4x1024x2048 ![0, 1, 2] Cert.OutProjSampleRefIdeal.Gen.bcast_S4x1x2048_S4x1024x2048_0_1_2
        (broadcastInDim Cert.OutProjSampleRefIdeal.S4x1x2048 ![0, 2] Cert.OutProjSampleRefIdeal.Gen.bcast_S4x2048_S4x1x2048_0_2
          (extractStridedSlice Cert.OutProjSampleRefIdeal.S4x2048 ![0, 4096] (extractStridedSlice Cert.OutProjSampleRefIdeal.S4x6144 ![1, 0] md
            Cert.OutProjSampleRefIdeal.Gen.slices_S8x6144_S4x6144_1_0) Cert.OutProjSampleRefIdeal.Gen.slices_S4x6144_S4x2048_0_4096)))
      (shapeCast _ (Host.dotGeneral Cert.OutProjSampleRefIdeal.dot_S4096x2048_S2048x2048_S4096x2048_1_0_0_1_n_n none
        (extf .f32 (concatenate S4096x2048 1 [⟨S4096x1024, oa⟩, ⟨S4096x512, om⟩, ⟨S4096x512, ofo⟩]
          Cert.OutProjSampleRefIdeal.Gen.concatenates_S4096x1024_S4096x512_S4096x512_S4096x2048_d1) Cert.OutProjSampleRefIdeal.Gen.bitsLt_bf16_f32)
        (shapeCast _ (extractStridedSlice Cert.OutProjSampleRefIdeal.S1x2048x2048 ![1, 0, 0] w
          Cert.OutProjSampleRefIdeal.Gen.slices_S2x2048x2048_S1x2048x2048_1_0_0) Cert.OutProjSampleRefIdeal.Gen.shapeCasts_S1x2048x2048_S2048x2048))
        Cert.OutProjSampleRefIdeal.Gen.shapeCasts_S4096x2048_S4x1024x2048)))
    Cert.OutProjSampleRefIdeal.Gen.shapeCasts_S4x1024x2048_S4096x2048

/-- The reference at one entry, its sum over the 2048 merged columns cut at the three heads' boundaries. -/
theorem merged_at (oa : FVec Ideal S4096x1024 .bf16) (om ofo : FVec Ideal S4096x512 .bf16) (w : FVec Ideal S2x2048x2048 .f32)
    (x : FVec Ideal S4096x2048 .f32) (md : FVec Ideal S8x6144 .f32) (r : Fin 4096) (l : Fin 2048) :
    merged oa om ofo w x md (ix2 r l) = x (ix2 r l) + md (ix2 ⟨1 + r / 1024, by omega⟩ ⟨4096 + l, by omega⟩) *
      (∑ k : Fin 1024, oa (ix2 r k) * w (ix3 1 ⟨k, by omega⟩ l) + ∑ k : Fin 512, om (ix2 r k) * w (ix3 1 ⟨1024 + k, by omega⟩ l)
        + ∑ k : Fin 512, ofo (ix2 r k) * w (ix3 1 ⟨1536 + k, by omega⟩ l)) := by
  pointwise [merged]
  refine congrArg (fun s : EReal => x (ix2 r l) + md (ix2 ⟨1 + r / 1024, by omega⟩ ⟨4096 + l, by omega⟩) * s) ?_
  exact Cert.OutProjIdeal.Layer.three_heads (fun k => oa (ix2 r k)) (fun k => om (ix2 r k)) (fun k => ofo (ix2 r k)) fun k => w (ix3 1 k l)

variable (m : (ℓ : Loc nD τ sig) → Buf (Elt Ideal) ℓ)

/-- Where each window stands at point `t`: `t / 4` counts the token blocks, `t % 4` the column blocks. -/
theorem place : ∀ t : Fin cfg0.N, win0_0.index t = ![t.val / 4, 0] ∧ win0_1.index t = ![t.val / 4, 0] ∧ win0_2.index t = ![t.val / 4, 0]
    ∧ win0_3.index t = ![1, 0, t.val % 4] ∧ win0_4.index t = ![1, 2, t.val % 4] ∧ win0_5.index t = ![1, 3, t.val % 4]
    ∧ win0_6.index t = ![t.val / 4, t.val % 4] ∧ win0_7.index t = ![0, 8 + t.val % 4] ∧ win0_8.index t = ![t.val / 4, t.val % 4] :=
  (by decide +kernel : ∀ t : Fin grid0.N, _)

/-- The row of the modulation a point reads: its token block's, after the context's. -/
theorem gate_row : ∀ t : Fin cfg0.N, k0_off1 (grid0.coords t) = ![1 + t.val / 4, 0] := (by decide +kernel : ∀ t : Fin grid0.N, _)

theorem read_row (v : Vec Ideal S8x512 .f32) (n : ℕ) (hn : n < 8) (f : Fin 2 → ℕ) (hf : f = ![n, 0]) (inb) (l : Fin 512) :
    View.ld v (Rect.unit (s := S8x512) f S1x512.size inb) (ix2 0 l) = v (ix2 ⟨n, hn⟩ l) := by
  subst hf
  pointwise

set_option maxHeartbeats 1600000 in
/-- What a point stores at an index of its block is the reference's value at the array index the block puts it at. -/
theorem stored (c : Dev nD) (t : Fin cfg0.N) (y : S1024x512.Idx) : outsAt0 m c t y
      = merged (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 8).blk t).view.emb y) := by
  rw [eq_ix2 (((cfg0.win 8).blk t).view.emb y)]
  refine Eq.trans ?_ (merged_at _ _ _ _ _ _ _ _).symm
  have ht : t.val < 16 := lt_of_lt_of_eq t.isLt N_0
  unfold outsAt0 out0_A_8 kernelRun0_A
  dsimp only
  frame_out
  generalize hv : View.ld (iblk m c 7 t) _ = v
  have gate : ∀ l : Fin 512, v (ix2 0 l) = iblk m c 7 t (ix2 ⟨1 + t.val / 4, by omega⟩ l) := fun l => by
    subst hv
    exact read_row _ _ _ _ (gate_row t) _ l
  pointwise [k0_pay1]
  refine (congrArg (fun z : EReal => _ + z * _) (gate (y 1))).trans ?_
  blk_point [iblk, V, place t]

/-- The result array after the run is the reference's value at the arguments. -/
theorem result (c : Dev nD) : (dats m 0 c).arrAt 8 cfg0.N
    = merged (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  exact stored m c t y

end Cert.OutProjSampleIdeal.Layer

end
-- ==== Proof.SampleClaim.lean ====
/- The output projection of the sample batch: the kernel and the reference end with the same result, at any arguments. -/
module

public import proofs.«01_k».proof.Defs
public import proofs.«01_k».proof.Proof.SampleValue

@[expose] public section

noncomputable section

namespace Cert.OutProjSampleIdeal.Layer

open Idealize.ShloMosaic Idealize.SL.Sem

/-- Both programs end with the merged stream, and neither changes an argument. -/
theorem algebraic : Cert.algebraic_OutProjSampleIdeal_OutProjSampleRefIdeal (hOutProjSampleIdeal := Cert.OutProjSampleIdeal.Gen.facts)
    (hOutProjSampleRefIdeal := Cert.OutProjSampleRefIdeal.Gen.facts) := by
  intro m g m' g' _ hagree
  refine ⟨_, Cert.OutProjSampleIdeal.Value.run_blocks m g, ?_⟩
  refine (θ_run _ _ _).mono (fun r h c => ⟨(h c).1.trans ?_, (h c).2⟩) (Cert.OutProjSampleRefIdeal.Value.run m' g')
  obtain ⟨h0, h1, h2, h3, h4, h5⟩ := hagree c
  rw [result m c, h0, h1, h2, h3, h4, h5]
  rfl

end Cert.OutProjSampleIdeal.Layer

end
-- ==== Proof.lean ====
/- The claim, put together: each program's frame, each idealization's (empty) list of rewrites, and each kernel's value
   against its reference. -/
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.InProj
public import proofs.«01_k».proof.Proof.Gen.InProj.Skeleton
public import proofs.«01_k».proof.Proof.Gen.InProj.Loops
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Loops
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.Mlstm
public import proofs.«01_k».proof.Proof.Gen.Mlstm.Skeleton
public import proofs.«01_k».proof.Proof.Gen.Mlstm.Launch
public import proofs.«01_k».proof.Proof.Gen.Mlstm.Points
public import proofs.«01_k».proof.Proof.Gen.Mlstm.Frame
public import proofs.«01_k».proof.Proof.Gen.MlstmIdeal
public import proofs.«01_k».proof.Proof.Gen.MlstmIdeal.Skeleton
public import proofs.«01_k».proof.Proof.Gen.MlstmIdeal.Launch
public import proofs.«01_k».proof.Proof.Gen.MlstmIdeal.Points
public import proofs.«01_k».proof.Proof.Gen.MlstmIdeal.Frame
public import proofs.«01_k».proof.Proof.Gen.MlstmRefIdeal
public import proofs.«01_k».proof.Proof.Gen.OutProjSample
public import proofs.«01_k».proof.Proof.Gen.OutProjSample.Skeleton
public import proofs.«01_k».proof.Proof.Gen.OutProjSample.Launch
public import proofs.«01_k».proof.Proof.Gen.OutProjSample.Points
public import proofs.«01_k».proof.Proof.Gen.OutProjSample.Frame
public import proofs.«01_k».proof.Proof.Gen.OutProjSampleIdeal
public import proofs.«01_k».proof.Proof.Gen.OutProjSampleIdeal.Skeleton
public import proofs.«01_k».proof.Proof.Gen.OutProjSampleIdeal.Launch
public import proofs.«01_k».proof.Proof.Gen.OutProjSampleIdeal.Points
public import proofs.«01_k».proof.Proof.Gen.OutProjSampleIdeal.Frame
public import proofs.«01_k».proof.Proof.Gen.OutProjSampleRefIdeal
public import proofs.«01_k».proof.Proof.Gen.Pre_finite
public import proofs.«01_k».proof.Proof.Gen.On_valid_columns
public import proofs.«01_k».proof.Proof.Gen.AttnIdeal.Value
public import proofs.«01_k».proof.Proof.Gen.AttnRefIdeal.Run
public import proofs.«01_k».proof.Proof.Gen.OutProjIdeal.Value
public import proofs.«01_k».proof.Proof.Gen.OutProjRefIdeal.Run
public import proofs.«01_k».proof.Proof.Gen.InProjRefIdeal.Run
public import proofs.«01_k».proof.Proof.Gen.MlstmIdeal.Value
public import proofs.«01_k».proof.Proof.Gen.MlstmRefIdeal.Run
public import proofs.«01_k».proof.Proof.Gen.OutProjSampleIdeal.Value
public import proofs.«01_k».proof.Proof.Gen.OutProjSampleRefIdeal.Run
public import proofs.«01_k».proof.Proof.AttnClaim
public import proofs.«01_k».proof.Proof.InProjClaim
public import proofs.«01_k».proof.Proof.OutProjClaim
public import proofs.«01_k».proof.Proof.MlClaim
public import proofs.«01_k».proof.Proof.SampleClaim
public import Idealize.ShloMosaic.Adequacy
public import Idealize.ShloMosaic.Init

@[expose] public section

noncomputable section

namespace Cert.Proof

open Idealize.ShloMosaic Idealize.SL.Sem

/-- The attention's reference runs, keeps its arguments, and has no semaphore. -/
theorem frame_attnRef : Cert.quiescent_AttnRefIdeal (hAttnRefIdeal := Cert.AttnRefIdeal.Gen.facts) := fun m ρ _ =>
  (θ_run Cert.AttnRefIdeal.defs _ _).mono (fun r h => ⟨fun c => (h c).2.2, sem_eq_zero_of_no_sems (by decide) r.2⟩)
    (Cert.AttnRefIdeal.Value.run m ρ)

/-- The output projection's reference runs, keeps its arguments, and has no semaphore. -/
theorem frame_outProjRef : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run m ρ)

/-- The input projection's reference runs, keeps its arguments, and has no semaphore. -/
theorem frame_inProjRef : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run m ρ)

/-- The mLSTM's reference runs, keeps its arguments, and has no semaphore. -/
theorem frame_mlstmRef : Cert.quiescent_MlstmRefIdeal (hMlstmRefIdeal := Cert.MlstmRefIdeal.Gen.facts) := fun m ρ _ =>
  (θ_run Cert.MlstmRefIdeal.defs _ _).mono (fun r h => ⟨fun c => (h c).2.2.2.2, sem_eq_zero_of_no_sems (by decide) r.2⟩)
    (Cert.MlstmRefIdeal.Value.run m ρ)

/-- The reference of the sample batch's output projection runs, keeps its arguments, and has no semaphore. -/
theorem frame_outProjSampleRef : Cert.quiescent_OutProjSampleRefIdeal (hOutProjSampleRefIdeal := Cert.OutProjSampleRefIdeal.Gen.facts) := fun m ρ _ =>
  (θ_run Cert.OutProjSampleRefIdeal.defs _ _).mono (fun r h => ⟨fun c => (h c).2, sem_eq_zero_of_no_sems (by decide) r.2⟩)
    (Cert.OutProjSampleRefIdeal.Value.run m ρ)

theorem claim : Cert.Claim :=
  ⟨Cert.Attn.Gen.facts, Cert.AttnIdeal.Gen.facts, Cert.AttnRefIdeal.Gen.facts, Cert.InProj.Gen.facts, Cert.InProjIdeal.Gen.facts,
    Cert.InProjRefIdeal.Gen.facts, Cert.OutProj.Gen.facts, Cert.OutProjIdeal.Gen.facts, Cert.OutProjRefIdeal.Gen.facts,
    Cert.Mlstm.Gen.facts, Cert.MlstmIdeal.Gen.facts, Cert.MlstmRefIdeal.Gen.facts,
    Cert.OutProjSample.Gen.facts, Cert.OutProjSampleIdeal.Gen.facts, Cert.OutProjSampleRefIdeal.Gen.facts,
    Cert.Pre_finite.Layer.fits, Cert.Pre_finite_ml.Layer.fits, Cert.On_valid_columns.Gen.facts,
    fun m ρ _ => Cert.Attn.Gen.frame m ρ, fun m ρ _ => Cert.AttnIdeal.Gen.frame m ρ, fun m ρ _ => Cert.AttnIdeal.Gen.frame m ρ,
    frame_attnRef, fun m ρ _ => frame_attnRef m ρ trivial,
    Cert.InProjIdeal.Layer.frame_printed, fun m ρ _ => Cert.InProjIdeal.Layer.frame_run m ρ, frame_inProjRef,
    fun m ρ _ => Cert.OutProj.Gen.frame m ρ, fun m ρ _ => Cert.OutProjIdeal.Gen.frame m ρ, frame_outProjRef,
    fun m ρ _ => Cert.Mlstm.Gen.frame m ρ, fun m ρ _ => Cert.MlstmIdeal.Gen.frame m ρ, fun m ρ _ => Cert.MlstmIdeal.Gen.frame m ρ,
    frame_mlstmRef, fun m ρ _ => frame_mlstmRef m ρ trivial,
    fun m ρ _ => Cert.OutProjSample.Gen.frame m ρ, fun m ρ _ => Cert.OutProjSampleIdeal.Gen.frame m ρ, frame_outProjSampleRef,
    trivial, Cert.AttnIdeal.Layer.algebraic, trivial, Cert.InProjIdeal.Layer.algebraic, trivial, Cert.OutProjIdeal.Layer.algebraic,
    trivial, Cert.MlstmIdeal.Layer.algebraic, trivial, Cert.OutProjSampleIdeal.Layer.algebraic⟩

end Cert.Proof

end
